-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000 : Shape := ⟨1, ![1000000]⟩
abbrev S_ : Shape := ⟨0, ![]⟩
abbrev S16 : Shape := ⟨1, ![16]⟩
abbrev S774144 : Shape := ⟨1, ![774144]⟩
abbrev S756x8x128 : Shape := ⟨3, ![756, 8, 128]⟩
abbrev S8x128 : Shape := ⟨2, ![8, 128]⟩
abbrev S108x8x128 : Shape := ⟨3, ![108, 8, 128]⟩
abbrev S1 : Shape := ⟨1, ![1]⟩
abbrev S1x8x128 : Shape := ⟨3, ![1, 8, 128]⟩
abbrev S233472 : Shape := ⟨1, ![233472]⟩
abbrev S512 : Shape := ⟨1, ![512]⟩
abbrev S7296 : Shape := ⟨1, ![7296]⟩
abbrev S4x128 : Shape := ⟨2, ![4, 128]⟩
abbrev S1x1 : Shape := ⟨2, ![1, 1]⟩
abbrev S12x128 : Shape := ⟨2, ![12, 128]⟩
abbrev S1x12x128 : Shape := ⟨3, ![1, 12, 128]⟩
abbrev S1x1x1 : Shape := ⟨3, ![1, 1, 1]⟩

abbrev nBuf : Table → Nat
  | .hbm => 14
  | .local .tc .vmem => 10
  | .local .tc .smem => 2
  | .local .scVector .vmem => 4
  | _ => 0

abbrev bufTy : (tb : Table) → Fin (nBuf tb) → BufTy
  | .hbm, ⟨0, _⟩ => ⟨S1000000, .f32⟩
  | .hbm, ⟨1, _⟩ => ⟨S_, .i32⟩
  | .hbm, ⟨2, _⟩ => ⟨S16, .i32⟩
  | .hbm, ⟨3, _⟩ => ⟨S774144, .f32⟩
  | .hbm, ⟨4, _⟩ => ⟨S756x8x128, .f32⟩
  | .hbm, ⟨5, _⟩ => ⟨S8x128, .f32⟩
  | .hbm, ⟨6, _⟩ => ⟨S8x128, .i32⟩
  | .hbm, ⟨7, _⟩ => ⟨S233472, .f32⟩
  | .hbm, ⟨8, _⟩ => ⟨S512, .f32⟩
  | .hbm, ⟨9, _⟩ => ⟨S512, .i32⟩
  | .hbm, ⟨10, _⟩ => ⟨S4x128, .f32⟩
  | .hbm, ⟨11, _⟩ => ⟨S4x128, .i32⟩
  | .hbm, ⟨12, _⟩ => ⟨S1x1, .i32⟩
  | .hbm, ⟨13, _⟩ => ⟨S_, .i32⟩
  | .local .tc .vmem, ⟨0, _⟩ => ⟨S108x8x128, .f32⟩
  | .local .tc .vmem, ⟨1, _⟩ => ⟨S108x8x128, .f32⟩
  | .local .tc .vmem, ⟨2, _⟩ => ⟨S8x128, .f32⟩
  | .local .tc .vmem, ⟨3, _⟩ => ⟨S8x128, .i32⟩
  | .local .tc .vmem, ⟨4, _⟩ => ⟨S8x128, .f32⟩
  | .local .tc .vmem, ⟨5, _⟩ => ⟨S8x128, .i32⟩
  | .local .tc .vmem, ⟨6, _⟩ => ⟨S4x128, .f32⟩
  | .local .tc .vmem, ⟨7, _⟩ => ⟨S4x128, .i32⟩
  | .local .tc .vmem, ⟨8, _⟩ => ⟨S8x128, .f32⟩
  | .local .tc .vmem, ⟨9, _⟩ => ⟨S8x128, .i32⟩
  | .local .tc .smem, ⟨0, _⟩ => ⟨S16, .i32⟩
  | .local .tc .smem, ⟨1, _⟩ => ⟨S1x1, .i32⟩
  | .local .scVector .vmem, ⟨0, _⟩ => ⟨S7296, .f32⟩
  | .local .scVector .vmem, ⟨1, _⟩ => ⟨S16, .i32⟩
  | .local .scVector .vmem, ⟨2, _⟩ => ⟨S16, .f32⟩
  | .local .scVector .vmem, ⟨3, _⟩ => ⟨S16, .i32⟩
  | _, _ => ⟨S1000000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v4_scv : Ref sig .scVector := ⟨.hbm, 7, rfl⟩
abbrev main_v0_scv : Ref sig .scVector := ⟨.hbm, 2, rfl⟩
abbrev main_v5_0_scv : Ref sig .scVector := ⟨.hbm, 8, rfl⟩
abbrev main_v5_1_scv : Ref sig .scVector := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc0_stg0_0 : Ref sig .tc := ⟨.smem, 0, rfl⟩
abbrev cc2_stg4_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32_5413 : BitVec 32 := 6#32
  let v19256 : BitVec 1 := Scalar.cmpi .eq arg0 c6_i32_5413
  let v19257 : BitVec 32 := Scalar.extui v19256
  let c0_i32_5414 : BitVec 32 := 0#32
  let v19258 : BitVec 1 := Scalar.cmpi .ne v19257 c0_i32_5414
  v19258

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S108x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7296_i32 : BitVec 32 := 7296#32
  let v2 : BitVec 32 := Scalar.muli v1 c7296_i32
  ![v2.toNat]
@[reducible] def k1_t1_loop : Scf.Loop 32 :=
  let c0_i32_8 : BitVec 32 := 0#32
  let c114_i32 : BitVec 32 := 114#32
  let v29 : BitVec 32 := Scalar.addi c0_i32_8 c114_i32
  let c1_i32_9 : BitVec 32 := 1#32
  ⟨c0_i32_8, v29, c1_i32_9⟩
def k1_off2 (k1_t1 : Fin k1_t1_loop.trips) (c0_i32_14 : BitVec 32) : Fin 1 → Nat :=
  let c0_i32_8 : BitVec 32 := 0#32
  let c1_i32_9 : BitVec 32 := 1#32
  let arg10 : BitVec 32 := Scf.iv c0_i32_8 c1_i32_9 k1_t1
  let c64_i32 : BitVec 32 := 64#32
  let v60 : BitVec 32 := Scalar.muli arg10 c64_i32
  let v61 : BitVec 32 := Scalar.addi v60 c0_i32_14
  let v323 : Index := Scalar.indexCast v61
  ![v323.toNat]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v58 : BitVec 32 := Scalar.muli v1 c16_i32
  ![v58.toNat]
abbrev grid2 : Pipeline.Grid := .none

abbrev stage2_0 : Fin 1 → Memref sig .tc .vmem S4x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x128 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .smem S1x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000 : Shape := ⟨1, ![1000000]⟩
abbrev S_ : Shape := ⟨0, ![]⟩
abbrev S1 : Shape := ⟨1, ![1]⟩
abbrev S2 : Shape := ⟨1, ![2]⟩

abbrev nBuf : Space → Nat
  | .hbm => 479
  | .vmem => 0
  | .smem => 0
  | _ => 0

abbrev hbmTy0_0 (i : Nat) : BufTy := match i % 128 with
  | 0 => ⟨S1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1, .f32⟩
  | 16 => ⟨S1, .f32⟩
  | 17 => ⟨S1, .i32⟩
  | 18 => ⟨S_, .i32⟩
  | 19 => ⟨S1, .i32⟩
  | 20 => ⟨S_, .i32⟩
  | 21 => ⟨S1000000, .i64⟩
  | 22 => ⟨S_, .i64⟩
  | 23 => ⟨S1000000, .i64⟩
  | 24 => ⟨S1000000, .i64⟩
  | 25 => ⟨S_, .i64⟩
  | 26 => ⟨S1000000, .i64⟩
  | 27 => ⟨S1000000, .i64⟩
  | 28 => ⟨S1000000, .i32⟩
  | 29 => ⟨S1000000, .i32⟩
  | 30 => ⟨S_, .i32⟩
  | 31 => ⟨S_, .i32⟩
  | 32 => ⟨S_, .i32⟩
  | 33 => ⟨S1000000, .i32⟩
  | 34 => ⟨S1000000, .i32⟩
  | 35 => ⟨S1000000, .i32⟩
  | 36 => ⟨S1000000, .i32⟩
  | 37 => ⟨S1000000, .i32⟩
  | 38 => ⟨S_, .i32⟩
  | 39 => ⟨S1000000, .i32⟩
  | 40 => ⟨S1000000, .i32⟩
  | 41 => ⟨S_, .i32⟩
  | 42 => ⟨S1000000, .i32⟩
  | 43 => ⟨S1000000, .i32⟩
  | 44 => ⟨S1000000, .i32⟩
  | 45 => ⟨S1000000, .i32⟩
  | 46 => ⟨S1000000, .i32⟩
  | 47 => ⟨S_, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S1000000, .i32⟩
  | 54 => ⟨S1000000, .i32⟩
  | 55 => ⟨S1000000, .i32⟩
  | 56 => ⟨S_, .i32⟩
  | 57 => ⟨S1000000, .i32⟩
  | 58 => ⟨S1000000, .i32⟩
  | 59 => ⟨S_, .i32⟩
  | 60 => ⟨S1000000, .i32⟩
  | 61 => ⟨S1000000, .i32⟩
  | 62 => ⟨S1000000, .i32⟩
  | 63 => ⟨S1000000, .i32⟩
  | 64 => ⟨S1000000, .i32⟩
  | 65 => ⟨S_, .i32⟩
  | 66 => ⟨S1000000, .i32⟩
  | 67 => ⟨S1000000, .i32⟩
  | 68 => ⟨S_, .i32⟩
  | 69 => ⟨S1000000, .i32⟩
  | 70 => ⟨S1000000, .i32⟩
  | 71 => ⟨S1000000, .i32⟩
  | 72 => ⟨S1000000, .i32⟩
  | 73 => ⟨S1000000, .i32⟩
  | 74 => ⟨S1000000, .i32⟩
  | 75 => ⟨S1000000, .i32⟩
  | 76 => ⟨S1000000, .i32⟩
  | 77 => ⟨S_, .i32⟩
  | 78 => ⟨S1000000, .i32⟩
  | 79 => ⟨S1000000, .i32⟩
  | 80 => ⟨S1000000, .i32⟩
  | 81 => ⟨S_, .i32⟩
  | 82 => ⟨S1000000, .i32⟩
  | 83 => ⟨S1000000, .i32⟩
  | 84 => ⟨S_, .i32⟩
  | 85 => ⟨S1000000, .i32⟩
  | 86 => ⟨S1000000, .i32⟩
  | 87 => ⟨S1000000, .i32⟩
  | 88 => ⟨S1000000, .i32⟩
  | 89 => ⟨S1000000, .i32⟩
  | 90 => ⟨S_, .i32⟩
  | 91 => ⟨S1000000, .i32⟩
  | 92 => ⟨S1000000, .i32⟩
  | 93 => ⟨S_, .i32⟩
  | 94 => ⟨S1000000, .i32⟩
  | 95 => ⟨S1000000, .i32⟩
  | 96 => ⟨S1000000, .i32⟩
  | 97 => ⟨S1000000, .i32⟩
  | 98 => ⟨S1000000, .i32⟩
  | 99 => ⟨S_, .i32⟩
  | 100 => ⟨S1000000, .i32⟩
  | 101 => ⟨S1000000, .i32⟩
  | 102 => ⟨S_, .i32⟩
  | 103 => ⟨S1000000, .i32⟩
  | 104 => ⟨S1000000, .i32⟩
  | 105 => ⟨S1000000, .i32⟩
  | 106 => ⟨S1000000, .i32⟩
  | 107 => ⟨S1000000, .i32⟩
  | 108 => ⟨S_, .i32⟩
  | 109 => ⟨S1000000, .i32⟩
  | 110 => ⟨S1000000, .i32⟩
  | 111 => ⟨S_, .i32⟩
  | 112 => ⟨S1000000, .i32⟩
  | 113 => ⟨S1000000, .i32⟩
  | 114 => ⟨S1000000, .i32⟩
  | 115 => ⟨S1000000, .i32⟩
  | 116 => ⟨S1000000, .i32⟩
  | 117 => ⟨S1000000, .i32⟩
  | 118 => ⟨S1000000, .i32⟩
  | 119 => ⟨S1000000, .i32⟩
  | 120 => ⟨S_, .i32⟩
  | 121 => ⟨S1000000, .i32⟩
  | 122 => ⟨S1000000, .i32⟩
  | 123 => ⟨S1000000, .i32⟩
  | 124 => ⟨S_, .i32⟩
  | 125 => ⟨S1000000, .i32⟩
  | 126 => ⟨S1000000, .i32⟩
  | 127 => ⟨S_, .i32⟩
  | _ => ⟨S1000000, .f32⟩

abbrev hbmTy0_1 (i : Nat) : BufTy := match i % 128 with
  | 0 => ⟨S1000000, .i32⟩
  | 1 => ⟨S1000000, .i32⟩
  | 2 => ⟨S1000000, .i32⟩
  | 3 => ⟨S1000000, .i32⟩
  | 4 => ⟨S1000000, .i32⟩
  | 5 => ⟨S_, .i32⟩
  | 6 => ⟨S1000000, .i32⟩
  | 7 => ⟨S1000000, .i32⟩
  | 8 => ⟨S_, .i32⟩
  | 9 => ⟨S1000000, .i32⟩
  | 10 => ⟨S1000000, .i32⟩
  | 11 => ⟨S1000000, .i32⟩
  | 12 => ⟨S1000000, .i32⟩
  | 13 => ⟨S1000000, .i32⟩
  | 14 => ⟨S_, .i32⟩
  | 15 => ⟨S1000000, .i32⟩
  | 16 => ⟨S1000000, .i32⟩
  | 17 => ⟨S_, .i32⟩
  | 18 => ⟨S1000000, .i32⟩
  | 19 => ⟨S1000000, .i32⟩
  | 20 => ⟨S1000000, .i32⟩
  | 21 => ⟨S1000000, .i32⟩
  | 22 => ⟨S1000000, .i32⟩
  | 23 => ⟨S_, .i32⟩
  | 24 => ⟨S1000000, .i32⟩
  | 25 => ⟨S1000000, .i32⟩
  | 26 => ⟨S_, .i32⟩
  | 27 => ⟨S1000000, .i32⟩
  | 28 => ⟨S1000000, .i32⟩
  | 29 => ⟨S1000000, .i32⟩
  | 30 => ⟨S1000000, .i32⟩
  | 31 => ⟨S1000000, .i32⟩
  | 32 => ⟨S1000000, .i32⟩
  | 33 => ⟨S1000000, .i32⟩
  | 34 => ⟨S1000000, .i32⟩
  | 35 => ⟨S_, .i32⟩
  | 36 => ⟨S1000000, .i32⟩
  | 37 => ⟨S1000000, .i32⟩
  | 38 => ⟨S1000000, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S1000000, .i32⟩
  | 46 => ⟨S1000000, .i32⟩
  | 47 => ⟨S1000000, .i32⟩
  | 48 => ⟨S_, .i32⟩
  | 49 => ⟨S1000000, .i32⟩
  | 50 => ⟨S1000000, .i32⟩
  | 51 => ⟨S_, .i32⟩
  | 52 => ⟨S1000000, .i32⟩
  | 53 => ⟨S1000000, .i32⟩
  | 54 => ⟨S1000000, .i32⟩
  | 55 => ⟨S1000000, .i32⟩
  | 56 => ⟨S1000000, .i32⟩
  | 57 => ⟨S_, .i32⟩
  | 58 => ⟨S1000000, .i32⟩
  | 59 => ⟨S1000000, .i32⟩
  | 60 => ⟨S_, .i32⟩
  | 61 => ⟨S1000000, .i32⟩
  | 62 => ⟨S1000000, .i32⟩
  | 63 => ⟨S1000000, .i32⟩
  | 64 => ⟨S1000000, .i32⟩
  | 65 => ⟨S1000000, .i32⟩
  | 66 => ⟨S_, .i32⟩
  | 67 => ⟨S1000000, .i32⟩
  | 68 => ⟨S1000000, .i32⟩
  | 69 => ⟨S_, .i32⟩
  | 70 => ⟨S1000000, .i32⟩
  | 71 => ⟨S1000000, .i32⟩
  | 72 => ⟨S1000000, .i32⟩
  | 73 => ⟨S1000000, .i32⟩
  | 74 => ⟨S1000000, .i32⟩
  | 75 => ⟨S1000000, .i32⟩
  | 76 => ⟨S1000000, .i32⟩
  | 77 => ⟨S1000000, .i32⟩
  | 78 => ⟨S_, .i32⟩
  | 79 => ⟨S1000000, .i32⟩
  | 80 => ⟨S1000000, .i32⟩
  | 81 => ⟨S1000000, .i32⟩
  | 82 => ⟨S_, .i32⟩
  | 83 => ⟨S1000000, .i32⟩
  | 84 => ⟨S1000000, .i32⟩
  | 85 => ⟨S_, .i32⟩
  | 86 => ⟨S1000000, .i32⟩
  | 87 => ⟨S1000000, .i32⟩
  | 88 => ⟨S1000000, .i32⟩
  | 89 => ⟨S1000000, .i32⟩
  | 90 => ⟨S1000000, .i32⟩
  | 91 => ⟨S_, .i32⟩
  | 92 => ⟨S1000000, .i32⟩
  | 93 => ⟨S1000000, .i32⟩
  | 94 => ⟨S_, .i32⟩
  | 95 => ⟨S1000000, .i32⟩
  | 96 => ⟨S1000000, .i32⟩
  | 97 => ⟨S1000000, .i32⟩
  | 98 => ⟨S1000000, .i32⟩
  | 99 => ⟨S1000000, .i32⟩
  | 100 => ⟨S_, .i32⟩
  | 101 => ⟨S1000000, .i32⟩
  | 102 => ⟨S1000000, .i32⟩
  | 103 => ⟨S_, .i32⟩
  | 104 => ⟨S1000000, .i32⟩
  | 105 => ⟨S1000000, .i32⟩
  | 106 => ⟨S1000000, .i32⟩
  | 107 => ⟨S1000000, .i32⟩
  | 108 => ⟨S1000000, .i32⟩
  | 109 => ⟨S_, .i32⟩
  | 110 => ⟨S1000000, .i32⟩
  | 111 => ⟨S1000000, .i32⟩
  | 112 => ⟨S_, .i32⟩
  | 113 => ⟨S1000000, .i32⟩
  | 114 => ⟨S1000000, .i32⟩
  | 115 => ⟨S1000000, .i32⟩
  | 116 => ⟨S1000000, .i32⟩
  | 117 => ⟨S1000000, .i32⟩
  | 118 => ⟨S1000000, .i32⟩
  | 119 => ⟨S1000000, .i32⟩
  | 120 => ⟨S1000000, .i32⟩
  | 121 => ⟨S_, .i32⟩
  | 122 => ⟨S1000000, .i32⟩
  | 123 => ⟨S1000000, .i32⟩
  | 124 => ⟨S1000000, .i32⟩
  | 125 => ⟨S_, .i32⟩
  | 126 => ⟨S1000000, .i32⟩
  | 127 => ⟨S1000000, .i32⟩
  | _ => ⟨S1000000, .f32⟩

abbrev hbmTy0_2 (i : Nat) : BufTy := match i % 128 with
  | 0 => ⟨S_, .i32⟩
  | 1 => ⟨S1000000, .i32⟩
  | 2 => ⟨S1000000, .i32⟩
  | 3 => ⟨S1000000, .f32⟩
  | 4 => ⟨S_, .f32⟩
  | 5 => ⟨S1000000, .f32⟩
  | 6 => ⟨S1000000, .f32⟩
  | 7 => ⟨S1, .f32⟩
  | 8 => ⟨S1000000, .f32⟩
  | 9 => ⟨S1000000, .f32⟩
  | 10 => ⟨S1000000, .f32⟩
  | 11 => ⟨S1000000, .f32⟩
  | 12 => ⟨S1000000, .f32⟩
  | 13 => ⟨S1000000, .f32⟩
  | 14 => ⟨S_, .f32⟩
  | 15 => ⟨S1000000, .f32⟩
  | 16 => ⟨S1000000, .i1⟩
  | 17 => ⟨S1000000, .i32⟩
  | 18 => ⟨S_, .i32⟩
  | 19 => ⟨S1000000, .i32⟩
  | 20 => ⟨S1000000, .i32⟩
  | 21 => ⟨S_, .f32⟩
  | 22 => ⟨S1000000, .f32⟩
  | 23 => ⟨S1000000, .i1⟩
  | 24 => ⟨S1000000, .i32⟩
  | 25 => ⟨S1000000, .i32⟩
  | 26 => ⟨S_, .f32⟩
  | 27 => ⟨S1000000, .f32⟩
  | 28 => ⟨S1000000, .i1⟩
  | 29 => ⟨S1000000, .i32⟩
  | 30 => ⟨S1000000, .i32⟩
  | 31 => ⟨S_, .f32⟩
  | 32 => ⟨S1000000, .f32⟩
  | 33 => ⟨S1000000, .i1⟩
  | 34 => ⟨S1000000, .i32⟩
  | 35 => ⟨S1000000, .i32⟩
  | 36 => ⟨S_, .f32⟩
  | 37 => ⟨S1000000, .f32⟩
  | 38 => ⟨S1000000, .i1⟩
  | 39 => ⟨S1000000, .i32⟩
  | 40 => ⟨S1000000, .i32⟩
  | 41 => ⟨S_, .f32⟩
  | 42 => ⟨S1000000, .f32⟩
  | 43 => ⟨S1000000, .i1⟩
  | 44 => ⟨S1000000, .i32⟩
  | 45 => ⟨S1000000, .i32⟩
  | 46 => ⟨S_, .f32⟩
  | 47 => ⟨S1000000, .f32⟩
  | 48 => ⟨S1000000, .i1⟩
  | 49 => ⟨S1000000, .i32⟩
  | 50 => ⟨S1000000, .i32⟩
  | 51 => ⟨S_, .f32⟩
  | 52 => ⟨S1000000, .f32⟩
  | 53 => ⟨S1000000, .i1⟩
  | 54 => ⟨S1000000, .i32⟩
  | 55 => ⟨S1000000, .i32⟩
  | 56 => ⟨S_, .f32⟩
  | 57 => ⟨S1000000, .f32⟩
  | 58 => ⟨S1000000, .i1⟩
  | 59 => ⟨S1000000, .i32⟩
  | 60 => ⟨S1000000, .i32⟩
  | 61 => ⟨S_, .f32⟩
  | 62 => ⟨S1000000, .f32⟩
  | 63 => ⟨S1000000, .i1⟩
  | 64 => ⟨S1000000, .i32⟩
  | 65 => ⟨S1000000, .i32⟩
  | 66 => ⟨S_, .f32⟩
  | 67 => ⟨S1000000, .f32⟩
  | 68 => ⟨S1000000, .i1⟩
  | 69 => ⟨S1000000, .i32⟩
  | 70 => ⟨S1000000, .i32⟩
  | 71 => ⟨S_, .f32⟩
  | 72 => ⟨S1000000, .f32⟩
  | 73 => ⟨S1000000, .i1⟩
  | 74 => ⟨S1000000, .i32⟩
  | 75 => ⟨S1000000, .i32⟩
  | 76 => ⟨S_, .f32⟩
  | 77 => ⟨S1000000, .f32⟩
  | 78 => ⟨S1000000, .i1⟩
  | 79 => ⟨S1000000, .i32⟩
  | 80 => ⟨S1000000, .i32⟩
  | 81 => ⟨S_, .f32⟩
  | 82 => ⟨S1000000, .f32⟩
  | 83 => ⟨S1000000, .i1⟩
  | 84 => ⟨S1000000, .i32⟩
  | 85 => ⟨S1000000, .i32⟩
  | 86 => ⟨S_, .f32⟩
  | 87 => ⟨S1000000, .f32⟩
  | 88 => ⟨S1000000, .i1⟩
  | 89 => ⟨S1000000, .i32⟩
  | 90 => ⟨S1000000, .i32⟩
  | 91 => ⟨S_, .f32⟩
  | 92 => ⟨S1000000, .f32⟩
  | 93 => ⟨S1000000, .i1⟩
  | 94 => ⟨S1000000, .i32⟩
  | 95 => ⟨S1000000, .i32⟩
  | 96 => ⟨S_, .f32⟩
  | 97 => ⟨S1000000, .f32⟩
  | 98 => ⟨S1000000, .i1⟩
  | 99 => ⟨S1000000, .i32⟩
  | 100 => ⟨S1000000, .i32⟩
  | 101 => ⟨S_, .f32⟩
  | 102 => ⟨S1000000, .f32⟩
  | 103 => ⟨S1000000, .i1⟩
  | 104 => ⟨S1000000, .i32⟩
  | 105 => ⟨S1000000, .i32⟩
  | 106 => ⟨S_, .f32⟩
  | 107 => ⟨S1000000, .f32⟩
  | 108 => ⟨S1000000, .i1⟩
  | 109 => ⟨S1000000, .i32⟩
  | 110 => ⟨S1000000, .i32⟩
  | 111 => ⟨S_, .f32⟩
  | 112 => ⟨S1000000, .f32⟩
  | 113 => ⟨S1000000, .i1⟩
  | 114 => ⟨S1000000, .i32⟩
  | 115 => ⟨S1000000, .i32⟩
  | 116 => ⟨S_, .f32⟩
  | 117 => ⟨S1000000, .f32⟩
  | 118 => ⟨S1000000, .i1⟩
  | 119 => ⟨S1000000, .i32⟩
  | 120 => ⟨S1000000, .i32⟩
  | 121 => ⟨S_, .f32⟩
  | 122 => ⟨S1000000, .f32⟩
  | 123 => ⟨S1000000, .i1⟩
  | 124 => ⟨S1000000, .i32⟩
  | 125 => ⟨S1000000, .i32⟩
  | 126 => ⟨S_, .i32⟩
  | 127 => ⟨S1000000, .i32⟩
  | _ => ⟨S1000000, .f32⟩

abbrev hbmTy0_3 (i : Nat) : BufTy := match i % 128 with
  | 0 => ⟨S1000000, .i32⟩
  | 1 => ⟨S1000000, .f32⟩
  | 2 => ⟨S1000000, .f32⟩
  | 3 => ⟨S_, .f32⟩
  | 4 => ⟨S1000000, .f32⟩
  | 5 => ⟨S1000000, .i1⟩
  | 6 => ⟨S_, .f32⟩
  | 7 => ⟨S1000000, .f32⟩
  | 8 => ⟨S1000000, .f32⟩
  | 9 => ⟨S1000000, .f32⟩
  | 10 => ⟨S_, .i32⟩
  | 11 => ⟨S1000000, .i32⟩
  | 12 => ⟨S1000000, .i32⟩
  | 13 => ⟨S1000000, .i32⟩
  | 14 => ⟨S_, .f32⟩
  | 15 => ⟨S1000000, .f32⟩
  | 16 => ⟨S1000000, .f32⟩
  | 17 => ⟨S_, .f32⟩
  | 18 => ⟨S1000000, .f32⟩
  | 19 => ⟨S1000000, .f32⟩
  | 20 => ⟨S1000000, .f32⟩
  | 21 => ⟨S1000000, .f32⟩
  | 22 => ⟨S1000000, .f32⟩
  | 23 => ⟨S_, .f32⟩
  | 24 => ⟨S1000000, .f32⟩
  | 25 => ⟨S1000000, .f32⟩
  | 26 => ⟨S1000000, .f32⟩
  | 27 => ⟨S1000000, .f32⟩
  | 28 => ⟨S1000000, .f32⟩
  | 29 => ⟨S1000000, .f32⟩
  | 30 => ⟨S_, .f32⟩
  | 31 => ⟨S1000000, .f32⟩
  | 32 => ⟨S1000000, .f32⟩
  | 33 => ⟨S1000000, .f32⟩
  | 34 => ⟨S1000000, .f32⟩
  | 35 => ⟨S1000000, .f32⟩
  | 36 => ⟨S1000000, .f32⟩
  | 37 => ⟨S1000000, .f32⟩
  | 38 => ⟨S_, .f32⟩
  | 39 => ⟨S1000000, .f32⟩
  | 40 => ⟨S1000000, .f32⟩
  | 41 => ⟨S1000000, .f32⟩
  | 42 => ⟨S1000000, .f32⟩
  | 43 => ⟨S1000000, .f32⟩
  | 44 => ⟨S1000000, .f32⟩
  | 45 => ⟨S1000000, .f32⟩
  | 46 => ⟨S_, .f32⟩
  | 47 => ⟨S1000000, .f32⟩
  | 48 => ⟨S1000000, .f32⟩
  | 49 => ⟨S1000000, .f32⟩
  | 50 => ⟨S_, .f32⟩
  | 51 => ⟨S1000000, .f32⟩
  | 52 => ⟨S1000000, .f32⟩
  | 53 => ⟨S1000000, .f32⟩
  | 54 => ⟨S_, .f32⟩
  | 55 => ⟨S1000000, .f32⟩
  | 56 => ⟨S1000000, .f32⟩
  | 57 => ⟨S1000000, .f32⟩
  | 58 => ⟨S_, .f32⟩
  | 59 => ⟨S1000000, .f32⟩
  | 60 => ⟨S1000000, .i1⟩
  | 61 => ⟨S_, .f32⟩
  | 62 => ⟨S1000000, .f32⟩
  | 63 => ⟨S1000000, .f32⟩
  | 64 => ⟨S1000000, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S1000000, .f32⟩
  | 71 => ⟨S1000000, .f32⟩
  | 72 => ⟨S1000000, .f32⟩
  | 73 => ⟨S1000000, .f32⟩
  | 74 => ⟨S1000000, .f32⟩
  | 75 => ⟨S1000000, .i32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i1⟩
  | 82 => ⟨S1000000, .f32⟩
  | 83 => ⟨S1000000, .f32⟩
  | 84 => ⟨S1000000, .f32⟩
  | 85 => ⟨S_, .f32⟩
  | 86 => ⟨S_, .f32⟩
  | 87 => ⟨S1000000, .f32⟩
  | 88 => ⟨S1000000, .i1⟩
  | 89 => ⟨S_, .i32⟩
  | 90 => ⟨S_, .i32⟩
  | 91 => ⟨S1000000, .i32⟩
  | 92 => ⟨S1000000, .i32⟩
  | 93 => ⟨S_, .i32⟩
  | 94 => ⟨S_, .i32⟩
  | _ => ⟨S1000000, .f32⟩

abbrev hbmTy (i : Nat) : BufTy := match i / 128 with
  | 0 => hbmTy0_0 i
  | 1 => hbmTy0_1 i
  | 2 => hbmTy0_2 i
  | 3 => hbmTy0_3 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_c_0 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_call0_v0 : Ref sig .tc := ⟨.hbm, 30, rfl⟩
abbrev main_call0_call0_c : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_c_0 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_c_1 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_2 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_c_3 : Ref sig .tc := ⟨.hbm, 50, rfl⟩
abbrev main_call0_call0_v16 : Ref sig .tc := ⟨.hbm, 51, rfl⟩
abbrev main_call0_call0_v17 : Ref sig .tc := ⟨.hbm, 52, rfl⟩
abbrev main_call0_call0_v18 : Ref sig .tc := ⟨.hbm, 53, rfl⟩
abbrev main_call0_call0_v19 : Ref sig .tc := ⟨.hbm, 54, rfl⟩
abbrev main_call0_call0_v20 : Ref sig .tc := ⟨.hbm, 55, rfl⟩
abbrev main_call0_call0_c_4 : Ref sig .tc := ⟨.hbm, 56, rfl⟩
abbrev main_call0_call0_v21 : Ref sig .tc := ⟨.hbm, 57, rfl⟩
abbrev main_call0_call0_v22 : Ref sig .tc := ⟨.hbm, 58, rfl⟩
abbrev main_call0_call0_c_5 : Ref sig .tc := ⟨.hbm, 59, rfl⟩
abbrev main_call0_call0_v23 : Ref sig .tc := ⟨.hbm, 60, rfl⟩
abbrev main_call0_call0_v24 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_v27 : Ref sig .tc := ⟨.hbm, 64, rfl⟩
abbrev main_call0_call0_c_6 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_c_7 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_v32 : Ref sig .tc := ⟨.hbm, 71, rfl⟩
abbrev main_call0_call0_v33 : Ref sig .tc := ⟨.hbm, 72, rfl⟩
abbrev main_call0_call0_v34 : Ref sig .tc := ⟨.hbm, 73, rfl⟩
abbrev main_call0_call0_v35 : Ref sig .tc := ⟨.hbm, 74, rfl⟩
abbrev main_call0_call0_v36 : Ref sig .tc := ⟨.hbm, 75, rfl⟩
abbrev main_call0_call0_v37 : Ref sig .tc := ⟨.hbm, 76, rfl⟩
abbrev main_call0_call0_c_8 : Ref sig .tc := ⟨.hbm, 77, rfl⟩
abbrev main_call0_call0_v38 : Ref sig .tc := ⟨.hbm, 78, rfl⟩
abbrev main_call0_call0_v39 : Ref sig .tc := ⟨.hbm, 79, rfl⟩
abbrev main_call0_call0_v40 : Ref sig .tc := ⟨.hbm, 80, rfl⟩
abbrev main_call0_call0_c_9 : Ref sig .tc := ⟨.hbm, 81, rfl⟩
abbrev main_call0_call0_v41 : Ref sig .tc := ⟨.hbm, 82, rfl⟩
abbrev main_call0_call0_v42 : Ref sig .tc := ⟨.hbm, 83, rfl⟩
abbrev main_call0_call0_c_10 : Ref sig .tc := ⟨.hbm, 84, rfl⟩
abbrev main_call0_call0_v43 : Ref sig .tc := ⟨.hbm, 85, rfl⟩
abbrev main_call0_call0_v44 : Ref sig .tc := ⟨.hbm, 86, rfl⟩
abbrev main_call0_call0_v45 : Ref sig .tc := ⟨.hbm, 87, rfl⟩
abbrev main_call0_call0_v46 : Ref sig .tc := ⟨.hbm, 88, rfl⟩
abbrev main_call0_call0_v47 : Ref sig .tc := ⟨.hbm, 89, rfl⟩
abbrev main_call0_call0_c_11 : Ref sig .tc := ⟨.hbm, 90, rfl⟩
abbrev main_call0_call0_v48 : Ref sig .tc := ⟨.hbm, 91, rfl⟩
abbrev main_call0_call0_v49 : Ref sig .tc := ⟨.hbm, 92, rfl⟩
abbrev main_call0_call0_c_12 : Ref sig .tc := ⟨.hbm, 93, rfl⟩
abbrev main_call0_call0_v50 : Ref sig .tc := ⟨.hbm, 94, rfl⟩
abbrev main_call0_call0_v51 : Ref sig .tc := ⟨.hbm, 95, rfl⟩
abbrev main_call0_call0_v52 : Ref sig .tc := ⟨.hbm, 96, rfl⟩
abbrev main_call0_call0_v53 : Ref sig .tc := ⟨.hbm, 97, rfl⟩
abbrev main_call0_call0_v54 : Ref sig .tc := ⟨.hbm, 98, rfl⟩
abbrev main_call0_call0_c_13 : Ref sig .tc := ⟨.hbm, 99, rfl⟩
abbrev main_call0_call0_v55 : Ref sig .tc := ⟨.hbm, 100, rfl⟩
abbrev main_call0_call0_v56 : Ref sig .tc := ⟨.hbm, 101, rfl⟩
abbrev main_call0_call0_c_14 : Ref sig .tc := ⟨.hbm, 102, rfl⟩
abbrev main_call0_call0_v57 : Ref sig .tc := ⟨.hbm, 103, rfl⟩
abbrev main_call0_call0_v58 : Ref sig .tc := ⟨.hbm, 104, rfl⟩
abbrev main_call0_call0_v59 : Ref sig .tc := ⟨.hbm, 105, rfl⟩
abbrev main_call0_call0_v60 : Ref sig .tc := ⟨.hbm, 106, rfl⟩
abbrev main_call0_call0_v61 : Ref sig .tc := ⟨.hbm, 107, rfl⟩
abbrev main_call0_call0_c_15 : Ref sig .tc := ⟨.hbm, 108, rfl⟩
abbrev main_call0_call0_v62 : Ref sig .tc := ⟨.hbm, 109, rfl⟩
abbrev main_call0_call0_v63 : Ref sig .tc := ⟨.hbm, 110, rfl⟩
abbrev main_call0_call0_c_16 : Ref sig .tc := ⟨.hbm, 111, rfl⟩
abbrev main_call0_call0_v64 : Ref sig .tc := ⟨.hbm, 112, rfl⟩
abbrev main_call0_call0_v65 : Ref sig .tc := ⟨.hbm, 113, rfl⟩
abbrev main_call0_call0_v66 : Ref sig .tc := ⟨.hbm, 114, rfl⟩
abbrev main_call0_call0_v67 : Ref sig .tc := ⟨.hbm, 115, rfl⟩
abbrev main_call0_call0_v68 : Ref sig .tc := ⟨.hbm, 116, rfl⟩
abbrev main_call0_call0_v69 : Ref sig .tc := ⟨.hbm, 117, rfl⟩
abbrev main_call0_call0_v70 : Ref sig .tc := ⟨.hbm, 118, rfl⟩
abbrev main_call0_call0_v71 : Ref sig .tc := ⟨.hbm, 119, rfl⟩
abbrev main_call0_call0_c_17 : Ref sig .tc := ⟨.hbm, 120, rfl⟩
abbrev main_call0_call0_v72 : Ref sig .tc := ⟨.hbm, 121, rfl⟩
abbrev main_call0_call0_v73 : Ref sig .tc := ⟨.hbm, 122, rfl⟩
abbrev main_call0_call0_v74 : Ref sig .tc := ⟨.hbm, 123, rfl⟩
abbrev main_call0_call0_c_18 : Ref sig .tc := ⟨.hbm, 124, rfl⟩
abbrev main_call0_call0_v75 : Ref sig .tc := ⟨.hbm, 125, rfl⟩
abbrev main_call0_call0_v76 : Ref sig .tc := ⟨.hbm, 126, rfl⟩
abbrev main_call0_call0_c_19 : Ref sig .tc := ⟨.hbm, 127, rfl⟩
abbrev main_call0_call0_v77 : Ref sig .tc := ⟨.hbm, 128, rfl⟩
abbrev main_call0_call0_v78 : Ref sig .tc := ⟨.hbm, 129, rfl⟩
abbrev main_call0_call0_v79 : Ref sig .tc := ⟨.hbm, 130, rfl⟩
abbrev main_call0_call0_v80 : Ref sig .tc := ⟨.hbm, 131, rfl⟩
abbrev main_call0_call0_v81 : Ref sig .tc := ⟨.hbm, 132, rfl⟩
abbrev main_call0_call0_c_20 : Ref sig .tc := ⟨.hbm, 133, rfl⟩
abbrev main_call0_call0_v82 : Ref sig .tc := ⟨.hbm, 134, rfl⟩
abbrev main_call0_call0_v83 : Ref sig .tc := ⟨.hbm, 135, rfl⟩
abbrev main_call0_call0_c_21 : Ref sig .tc := ⟨.hbm, 136, rfl⟩
abbrev main_call0_call0_v84 : Ref sig .tc := ⟨.hbm, 137, rfl⟩
abbrev main_call0_call0_v85 : Ref sig .tc := ⟨.hbm, 138, rfl⟩
abbrev main_call0_call0_v86 : Ref sig .tc := ⟨.hbm, 139, rfl⟩
abbrev main_call0_call0_v87 : Ref sig .tc := ⟨.hbm, 140, rfl⟩
abbrev main_call0_call0_v88 : Ref sig .tc := ⟨.hbm, 141, rfl⟩
abbrev main_call0_call0_c_22 : Ref sig .tc := ⟨.hbm, 142, rfl⟩
abbrev main_call0_call0_v89 : Ref sig .tc := ⟨.hbm, 143, rfl⟩
abbrev main_call0_call0_v90 : Ref sig .tc := ⟨.hbm, 144, rfl⟩
abbrev main_call0_call0_c_23 : Ref sig .tc := ⟨.hbm, 145, rfl⟩
abbrev main_call0_call0_v91 : Ref sig .tc := ⟨.hbm, 146, rfl⟩
abbrev main_call0_call0_v92 : Ref sig .tc := ⟨.hbm, 147, rfl⟩
abbrev main_call0_call0_v93 : Ref sig .tc := ⟨.hbm, 148, rfl⟩
abbrev main_call0_call0_v94 : Ref sig .tc := ⟨.hbm, 149, rfl⟩
abbrev main_call0_call0_v95 : Ref sig .tc := ⟨.hbm, 150, rfl⟩
abbrev main_call0_call0_c_24 : Ref sig .tc := ⟨.hbm, 151, rfl⟩
abbrev main_call0_call0_v96 : Ref sig .tc := ⟨.hbm, 152, rfl⟩
abbrev main_call0_call0_v97 : Ref sig .tc := ⟨.hbm, 153, rfl⟩
abbrev main_call0_call0_c_25 : Ref sig .tc := ⟨.hbm, 154, rfl⟩
abbrev main_call0_call0_v98 : Ref sig .tc := ⟨.hbm, 155, rfl⟩
abbrev main_call0_call0_v99 : Ref sig .tc := ⟨.hbm, 156, rfl⟩
abbrev main_call0_call0_v100 : Ref sig .tc := ⟨.hbm, 157, rfl⟩
abbrev main_call0_call0_v101 : Ref sig .tc := ⟨.hbm, 158, rfl⟩
abbrev main_call0_call0_v102 : Ref sig .tc := ⟨.hbm, 159, rfl⟩
abbrev main_call0_call0_v103 : Ref sig .tc := ⟨.hbm, 160, rfl⟩
abbrev main_call0_call0_v104 : Ref sig .tc := ⟨.hbm, 161, rfl⟩
abbrev main_call0_call0_v105 : Ref sig .tc := ⟨.hbm, 162, rfl⟩
abbrev main_call0_call0_c_26 : Ref sig .tc := ⟨.hbm, 163, rfl⟩
abbrev main_call0_call0_v106 : Ref sig .tc := ⟨.hbm, 164, rfl⟩
abbrev main_call0_call0_v107 : Ref sig .tc := ⟨.hbm, 165, rfl⟩
abbrev main_call0_call0_v108 : Ref sig .tc := ⟨.hbm, 166, rfl⟩
abbrev main_call0_call0_c_27 : Ref sig .tc := ⟨.hbm, 167, rfl⟩
abbrev main_call0_call0_v109 : Ref sig .tc := ⟨.hbm, 168, rfl⟩
abbrev main_call0_call0_v110 : Ref sig .tc := ⟨.hbm, 169, rfl⟩
abbrev main_call0_call0_c_28 : Ref sig .tc := ⟨.hbm, 170, rfl⟩
abbrev main_call0_call0_v111 : Ref sig .tc := ⟨.hbm, 171, rfl⟩
abbrev main_call0_call0_v112 : Ref sig .tc := ⟨.hbm, 172, rfl⟩
abbrev main_call0_call0_v113 : Ref sig .tc := ⟨.hbm, 173, rfl⟩
abbrev main_call0_call0_v114 : Ref sig .tc := ⟨.hbm, 174, rfl⟩
abbrev main_call0_call0_v115 : Ref sig .tc := ⟨.hbm, 175, rfl⟩
abbrev main_call0_call0_c_29 : Ref sig .tc := ⟨.hbm, 176, rfl⟩
abbrev main_call0_call0_v116 : Ref sig .tc := ⟨.hbm, 177, rfl⟩
abbrev main_call0_call0_v117 : Ref sig .tc := ⟨.hbm, 178, rfl⟩
abbrev main_call0_call0_c_30 : Ref sig .tc := ⟨.hbm, 179, rfl⟩
abbrev main_call0_call0_v118 : Ref sig .tc := ⟨.hbm, 180, rfl⟩
abbrev main_call0_call0_v119 : Ref sig .tc := ⟨.hbm, 181, rfl⟩
abbrev main_call0_call0_v120 : Ref sig .tc := ⟨.hbm, 182, rfl⟩
abbrev main_call0_call0_v121 : Ref sig .tc := ⟨.hbm, 183, rfl⟩
abbrev main_call0_call0_v122 : Ref sig .tc := ⟨.hbm, 184, rfl⟩
abbrev main_call0_call0_c_31 : Ref sig .tc := ⟨.hbm, 185, rfl⟩
abbrev main_call0_call0_v123 : Ref sig .tc := ⟨.hbm, 186, rfl⟩
abbrev main_call0_call0_v124 : Ref sig .tc := ⟨.hbm, 187, rfl⟩
abbrev main_call0_call0_c_32 : Ref sig .tc := ⟨.hbm, 188, rfl⟩
abbrev main_call0_call0_v125 : Ref sig .tc := ⟨.hbm, 189, rfl⟩
abbrev main_call0_call0_v126 : Ref sig .tc := ⟨.hbm, 190, rfl⟩
abbrev main_call0_call0_v127 : Ref sig .tc := ⟨.hbm, 191, rfl⟩
abbrev main_call0_call0_v128 : Ref sig .tc := ⟨.hbm, 192, rfl⟩
abbrev main_call0_call0_v129 : Ref sig .tc := ⟨.hbm, 193, rfl⟩
abbrev main_call0_call0_c_33 : Ref sig .tc := ⟨.hbm, 194, rfl⟩
abbrev main_call0_call0_v130 : Ref sig .tc := ⟨.hbm, 195, rfl⟩
abbrev main_call0_call0_v131 : Ref sig .tc := ⟨.hbm, 196, rfl⟩
abbrev main_call0_call0_c_34 : Ref sig .tc := ⟨.hbm, 197, rfl⟩
abbrev main_call0_call0_v132 : Ref sig .tc := ⟨.hbm, 198, rfl⟩
abbrev main_call0_call0_v133 : Ref sig .tc := ⟨.hbm, 199, rfl⟩
abbrev main_call0_call0_v134 : Ref sig .tc := ⟨.hbm, 200, rfl⟩
abbrev main_call0_call0_v135 : Ref sig .tc := ⟨.hbm, 201, rfl⟩
abbrev main_call0_call0_v136 : Ref sig .tc := ⟨.hbm, 202, rfl⟩
abbrev main_call0_call0_v137 : Ref sig .tc := ⟨.hbm, 203, rfl⟩
abbrev main_call0_call0_v138 : Ref sig .tc := ⟨.hbm, 204, rfl⟩
abbrev main_call0_call0_v139 : Ref sig .tc := ⟨.hbm, 205, rfl⟩
abbrev main_call0_call0_c_35 : Ref sig .tc := ⟨.hbm, 206, rfl⟩
abbrev main_call0_call0_v140 : Ref sig .tc := ⟨.hbm, 207, rfl⟩
abbrev main_call0_call0_v141 : Ref sig .tc := ⟨.hbm, 208, rfl⟩
abbrev main_call0_call0_v142 : Ref sig .tc := ⟨.hbm, 209, rfl⟩
abbrev main_call0_call0_c_36 : Ref sig .tc := ⟨.hbm, 210, rfl⟩
abbrev main_call0_call0_v143 : Ref sig .tc := ⟨.hbm, 211, rfl⟩
abbrev main_call0_call0_v144 : Ref sig .tc := ⟨.hbm, 212, rfl⟩
abbrev main_call0_call0_c_37 : Ref sig .tc := ⟨.hbm, 213, rfl⟩
abbrev main_call0_call0_v145 : Ref sig .tc := ⟨.hbm, 214, rfl⟩
abbrev main_call0_call0_v146 : Ref sig .tc := ⟨.hbm, 215, rfl⟩
abbrev main_call0_call0_v147 : Ref sig .tc := ⟨.hbm, 216, rfl⟩
abbrev main_call0_call0_v148 : Ref sig .tc := ⟨.hbm, 217, rfl⟩
abbrev main_call0_call0_v149 : Ref sig .tc := ⟨.hbm, 218, rfl⟩
abbrev main_call0_call0_c_38 : Ref sig .tc := ⟨.hbm, 219, rfl⟩
abbrev main_call0_call0_v150 : Ref sig .tc := ⟨.hbm, 220, rfl⟩
abbrev main_call0_call0_v151 : Ref sig .tc := ⟨.hbm, 221, rfl⟩
abbrev main_call0_call0_c_39 : Ref sig .tc := ⟨.hbm, 222, rfl⟩
abbrev main_call0_call0_v152 : Ref sig .tc := ⟨.hbm, 223, rfl⟩
abbrev main_call0_call0_v153 : Ref sig .tc := ⟨.hbm, 224, rfl⟩
abbrev main_call0_call0_v154 : Ref sig .tc := ⟨.hbm, 225, rfl⟩
abbrev main_call0_call0_v155 : Ref sig .tc := ⟨.hbm, 226, rfl⟩
abbrev main_call0_call0_v156 : Ref sig .tc := ⟨.hbm, 227, rfl⟩
abbrev main_call0_call0_c_40 : Ref sig .tc := ⟨.hbm, 228, rfl⟩
abbrev main_call0_call0_v157 : Ref sig .tc := ⟨.hbm, 229, rfl⟩
abbrev main_call0_call0_v158 : Ref sig .tc := ⟨.hbm, 230, rfl⟩
abbrev main_call0_call0_c_41 : Ref sig .tc := ⟨.hbm, 231, rfl⟩
abbrev main_call0_call0_v159 : Ref sig .tc := ⟨.hbm, 232, rfl⟩
abbrev main_call0_call0_v160 : Ref sig .tc := ⟨.hbm, 233, rfl⟩
abbrev main_call0_call0_v161 : Ref sig .tc := ⟨.hbm, 234, rfl⟩
abbrev main_call0_call0_v162 : Ref sig .tc := ⟨.hbm, 235, rfl⟩
abbrev main_call0_call0_v163 : Ref sig .tc := ⟨.hbm, 236, rfl⟩
abbrev main_call0_call0_c_42 : Ref sig .tc := ⟨.hbm, 237, rfl⟩
abbrev main_call0_call0_v164 : Ref sig .tc := ⟨.hbm, 238, rfl⟩
abbrev main_call0_call0_v165 : Ref sig .tc := ⟨.hbm, 239, rfl⟩
abbrev main_call0_call0_c_43 : Ref sig .tc := ⟨.hbm, 240, rfl⟩
abbrev main_call0_call0_v166 : Ref sig .tc := ⟨.hbm, 241, rfl⟩
abbrev main_call0_call0_v167 : Ref sig .tc := ⟨.hbm, 242, rfl⟩
abbrev main_call0_call0_v168 : Ref sig .tc := ⟨.hbm, 243, rfl⟩
abbrev main_call0_call0_v169 : Ref sig .tc := ⟨.hbm, 244, rfl⟩
abbrev main_call0_call0_v170 : Ref sig .tc := ⟨.hbm, 245, rfl⟩
abbrev main_call0_v15_0 : Ref sig .tc := ⟨.hbm, 246, rfl⟩
abbrev main_call0_call0_v172 : Ref sig .tc := ⟨.hbm, 247, rfl⟩
abbrev main_call0_call0_v173 : Ref sig .tc := ⟨.hbm, 248, rfl⟩
abbrev main_call0_call0_c_44 : Ref sig .tc := ⟨.hbm, 249, rfl⟩
abbrev main_call0_call0_v174 : Ref sig .tc := ⟨.hbm, 250, rfl⟩
abbrev main_call0_v15_1 : Ref sig .tc := ⟨.hbm, 251, rfl⟩
abbrev main_call0_v16 : Ref sig .tc := ⟨.hbm, 252, rfl⟩
abbrev main_call0_c_1 : Ref sig .tc := ⟨.hbm, 253, rfl⟩
abbrev main_call0_v17 : Ref sig .tc := ⟨.hbm, 254, rfl⟩
abbrev main_call0_v18 : Ref sig .tc := ⟨.hbm, 255, rfl⟩
abbrev main_call0_c_2 : Ref sig .tc := ⟨.hbm, 256, rfl⟩
abbrev main_call0_v19 : Ref sig .tc := ⟨.hbm, 257, rfl⟩
abbrev main_call0_v20 : Ref sig .tc := ⟨.hbm, 258, rfl⟩
abbrev main_call0_v21 : Ref sig .tc := ⟨.hbm, 259, rfl⟩
abbrev main_call0_cst : Ref sig .tc := ⟨.hbm, 260, rfl⟩
abbrev main_call0_v22 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_v26 : Ref sig .tc := ⟨.hbm, 265, rfl⟩
abbrev main_call0_v27 : Ref sig .tc := ⟨.hbm, 266, rfl⟩
abbrev main_call0_v28 : Ref sig .tc := ⟨.hbm, 267, rfl⟩
abbrev main_call0_v29 : Ref sig .tc := ⟨.hbm, 268, rfl⟩
abbrev main_v7 : Ref sig .tc := ⟨.hbm, 269, rfl⟩
abbrev main_cst_2 : Ref sig .tc := ⟨.hbm, 270, rfl⟩
abbrev main_v8 : Ref sig .tc := ⟨.hbm, 271, rfl⟩
abbrev main_v9 : Ref sig .tc := ⟨.hbm, 272, rfl⟩
abbrev main_v10 : Ref sig .tc := ⟨.hbm, 273, rfl⟩
abbrev main_c_3 : Ref sig .tc := ⟨.hbm, 274, rfl⟩
abbrev main_v11 : Ref sig .tc := ⟨.hbm, 275, rfl⟩
abbrev main_v12 : Ref sig .tc := ⟨.hbm, 276, rfl⟩
abbrev main_cst_4 : Ref sig .tc := ⟨.hbm, 277, rfl⟩
abbrev main_v13 : Ref sig .tc := ⟨.hbm, 278, rfl⟩
abbrev main_v14 : Ref sig .tc := ⟨.hbm, 279, rfl⟩
abbrev main_v15 : Ref sig .tc := ⟨.hbm, 280, rfl⟩
abbrev main_v16 : Ref sig .tc := ⟨.hbm, 281, rfl⟩
abbrev main_cst_5 : Ref sig .tc := ⟨.hbm, 282, rfl⟩
abbrev main_v17 : Ref sig .tc := ⟨.hbm, 283, rfl⟩
abbrev main_v18 : Ref sig .tc := ⟨.hbm, 284, rfl⟩
abbrev main_v19 : Ref sig .tc := ⟨.hbm, 285, rfl⟩
abbrev main_v20 : Ref sig .tc := ⟨.hbm, 286, rfl⟩
abbrev main_cst_6 : Ref sig .tc := ⟨.hbm, 287, rfl⟩
abbrev main_v21 : Ref sig .tc := ⟨.hbm, 288, rfl⟩
abbrev main_v22 : Ref sig .tc := ⟨.hbm, 289, rfl⟩
abbrev main_v23 : Ref sig .tc := ⟨.hbm, 290, rfl⟩
abbrev main_v24 : Ref sig .tc := ⟨.hbm, 291, rfl⟩
abbrev main_cst_7 : Ref sig .tc := ⟨.hbm, 292, rfl⟩
abbrev main_v25 : Ref sig .tc := ⟨.hbm, 293, rfl⟩
abbrev main_v26 : Ref sig .tc := ⟨.hbm, 294, rfl⟩
abbrev main_v27 : Ref sig .tc := ⟨.hbm, 295, rfl⟩
abbrev main_v28 : Ref sig .tc := ⟨.hbm, 296, rfl⟩
abbrev main_cst_8 : Ref sig .tc := ⟨.hbm, 297, rfl⟩
abbrev main_v29 : Ref sig .tc := ⟨.hbm, 298, rfl⟩
abbrev main_v30 : Ref sig .tc := ⟨.hbm, 299, rfl⟩
abbrev main_v31 : Ref sig .tc := ⟨.hbm, 300, rfl⟩
abbrev main_v32 : Ref sig .tc := ⟨.hbm, 301, rfl⟩
abbrev main_cst_9 : Ref sig .tc := ⟨.hbm, 302, rfl⟩
abbrev main_v33 : Ref sig .tc := ⟨.hbm, 303, rfl⟩
abbrev main_v34 : Ref sig .tc := ⟨.hbm, 304, rfl⟩
abbrev main_v35 : Ref sig .tc := ⟨.hbm, 305, rfl⟩
abbrev main_v36 : Ref sig .tc := ⟨.hbm, 306, rfl⟩
abbrev main_cst_10 : Ref sig .tc := ⟨.hbm, 307, rfl⟩
abbrev main_v37 : Ref sig .tc := ⟨.hbm, 308, rfl⟩
abbrev main_v38 : Ref sig .tc := ⟨.hbm, 309, rfl⟩
abbrev main_v39 : Ref sig .tc := ⟨.hbm, 310, rfl⟩
abbrev main_v40 : Ref sig .tc := ⟨.hbm, 311, rfl⟩
abbrev main_cst_11 : Ref sig .tc := ⟨.hbm, 312, rfl⟩
abbrev main_v41 : Ref sig .tc := ⟨.hbm, 313, rfl⟩
abbrev main_v42 : Ref sig .tc := ⟨.hbm, 314, rfl⟩
abbrev main_v43 : Ref sig .tc := ⟨.hbm, 315, rfl⟩
abbrev main_v44 : Ref sig .tc := ⟨.hbm, 316, rfl⟩
abbrev main_cst_12 : Ref sig .tc := ⟨.hbm, 317, rfl⟩
abbrev main_v45 : Ref sig .tc := ⟨.hbm, 318, rfl⟩
abbrev main_v46 : Ref sig .tc := ⟨.hbm, 319, rfl⟩
abbrev main_v47 : Ref sig .tc := ⟨.hbm, 320, rfl⟩
abbrev main_v48 : Ref sig .tc := ⟨.hbm, 321, rfl⟩
abbrev main_cst_13 : Ref sig .tc := ⟨.hbm, 322, rfl⟩
abbrev main_v49 : Ref sig .tc := ⟨.hbm, 323, rfl⟩
abbrev main_v50 : Ref sig .tc := ⟨.hbm, 324, rfl⟩
abbrev main_v51 : Ref sig .tc := ⟨.hbm, 325, rfl⟩
abbrev main_v52 : Ref sig .tc := ⟨.hbm, 326, rfl⟩
abbrev main_cst_14 : Ref sig .tc := ⟨.hbm, 327, rfl⟩
abbrev main_v53 : Ref sig .tc := ⟨.hbm, 328, rfl⟩
abbrev main_v54 : Ref sig .tc := ⟨.hbm, 329, rfl⟩
abbrev main_v55 : Ref sig .tc := ⟨.hbm, 330, rfl⟩
abbrev main_v56 : Ref sig .tc := ⟨.hbm, 331, rfl⟩
abbrev main_cst_15 : Ref sig .tc := ⟨.hbm, 332, rfl⟩
abbrev main_v57 : Ref sig .tc := ⟨.hbm, 333, rfl⟩
abbrev main_v58 : Ref sig .tc := ⟨.hbm, 334, rfl⟩
abbrev main_v59 : Ref sig .tc := ⟨.hbm, 335, rfl⟩
abbrev main_v60 : Ref sig .tc := ⟨.hbm, 336, rfl⟩
abbrev main_cst_16 : Ref sig .tc := ⟨.hbm, 337, rfl⟩
abbrev main_v61 : Ref sig .tc := ⟨.hbm, 338, rfl⟩
abbrev main_v62 : Ref sig .tc := ⟨.hbm, 339, rfl⟩
abbrev main_v63 : Ref sig .tc := ⟨.hbm, 340, rfl⟩
abbrev main_v64 : Ref sig .tc := ⟨.hbm, 341, rfl⟩
abbrev main_cst_17 : Ref sig .tc := ⟨.hbm, 342, rfl⟩
abbrev main_v65 : Ref sig .tc := ⟨.hbm, 343, rfl⟩
abbrev main_v66 : Ref sig .tc := ⟨.hbm, 344, rfl⟩
abbrev main_v67 : Ref sig .tc := ⟨.hbm, 345, rfl⟩
abbrev main_v68 : Ref sig .tc := ⟨.hbm, 346, rfl⟩
abbrev main_cst_18 : Ref sig .tc := ⟨.hbm, 347, rfl⟩
abbrev main_v69 : Ref sig .tc := ⟨.hbm, 348, rfl⟩
abbrev main_v70 : Ref sig .tc := ⟨.hbm, 349, rfl⟩
abbrev main_v71 : Ref sig .tc := ⟨.hbm, 350, rfl⟩
abbrev main_v72 : Ref sig .tc := ⟨.hbm, 351, rfl⟩
abbrev main_cst_19 : Ref sig .tc := ⟨.hbm, 352, rfl⟩
abbrev main_v73 : Ref sig .tc := ⟨.hbm, 353, rfl⟩
abbrev main_v74 : Ref sig .tc := ⟨.hbm, 354, rfl⟩
abbrev main_v75 : Ref sig .tc := ⟨.hbm, 355, rfl⟩
abbrev main_v76 : Ref sig .tc := ⟨.hbm, 356, rfl⟩
abbrev main_cst_20 : Ref sig .tc := ⟨.hbm, 357, rfl⟩
abbrev main_v77 : Ref sig .tc := ⟨.hbm, 358, rfl⟩
abbrev main_v78 : Ref sig .tc := ⟨.hbm, 359, rfl⟩
abbrev main_v79 : Ref sig .tc := ⟨.hbm, 360, rfl⟩
abbrev main_v80 : Ref sig .tc := ⟨.hbm, 361, rfl⟩
abbrev main_cst_21 : Ref sig .tc := ⟨.hbm, 362, rfl⟩
abbrev main_v81 : Ref sig .tc := ⟨.hbm, 363, rfl⟩
abbrev main_v82 : Ref sig .tc := ⟨.hbm, 364, rfl⟩
abbrev main_v83 : Ref sig .tc := ⟨.hbm, 365, rfl⟩
abbrev main_v84 : Ref sig .tc := ⟨.hbm, 366, rfl⟩
abbrev main_cst_22 : Ref sig .tc := ⟨.hbm, 367, rfl⟩
abbrev main_v85 : Ref sig .tc := ⟨.hbm, 368, rfl⟩
abbrev main_v86 : Ref sig .tc := ⟨.hbm, 369, rfl⟩
abbrev main_v87 : Ref sig .tc := ⟨.hbm, 370, rfl⟩
abbrev main_v88 : Ref sig .tc := ⟨.hbm, 371, rfl⟩
abbrev main_cst_23 : Ref sig .tc := ⟨.hbm, 372, rfl⟩
abbrev main_v89 : Ref sig .tc := ⟨.hbm, 373, rfl⟩
abbrev main_v90 : Ref sig .tc := ⟨.hbm, 374, rfl⟩
abbrev main_v91 : Ref sig .tc := ⟨.hbm, 375, rfl⟩
abbrev main_v92 : Ref sig .tc := ⟨.hbm, 376, rfl⟩
abbrev main_cst_24 : Ref sig .tc := ⟨.hbm, 377, rfl⟩
abbrev main_v93 : Ref sig .tc := ⟨.hbm, 378, rfl⟩
abbrev main_v94 : Ref sig .tc := ⟨.hbm, 379, rfl⟩
abbrev main_v95 : Ref sig .tc := ⟨.hbm, 380, rfl⟩
abbrev main_v96 : Ref sig .tc := ⟨.hbm, 381, rfl⟩
abbrev main_c_25 : Ref sig .tc := ⟨.hbm, 382, rfl⟩
abbrev main_v97 : Ref sig .tc := ⟨.hbm, 383, rfl⟩
abbrev main_v98 : Ref sig .tc := ⟨.hbm, 384, rfl⟩
abbrev main_v99 : Ref sig .tc := ⟨.hbm, 385, rfl⟩
abbrev main_v100 : Ref sig .tc := ⟨.hbm, 386, rfl⟩
abbrev main_cst_26 : Ref sig .tc := ⟨.hbm, 387, rfl⟩
abbrev main_v101 : Ref sig .tc := ⟨.hbm, 388, rfl⟩
abbrev main_v102 : Ref sig .tc := ⟨.hbm, 389, rfl⟩
abbrev main_cst_27 : Ref sig .tc := ⟨.hbm, 390, rfl⟩
abbrev main_v103 : Ref sig .tc := ⟨.hbm, 391, rfl⟩
abbrev main_v104 : Ref sig .tc := ⟨.hbm, 392, rfl⟩
abbrev main_v105 : Ref sig .tc := ⟨.hbm, 393, rfl⟩
abbrev main_c_28 : Ref sig .tc := ⟨.hbm, 394, rfl⟩
abbrev main_v106 : Ref sig .tc := ⟨.hbm, 395, rfl⟩
abbrev main_v107 : Ref sig .tc := ⟨.hbm, 396, rfl⟩
abbrev main_v108 : Ref sig .tc := ⟨.hbm, 397, rfl⟩
abbrev main_cst_29 : Ref sig .tc := ⟨.hbm, 398, rfl⟩
abbrev main_v109 : Ref sig .tc := ⟨.hbm, 399, rfl⟩
abbrev main_v110 : Ref sig .tc := ⟨.hbm, 400, rfl⟩
abbrev main_cst_30 : Ref sig .tc := ⟨.hbm, 401, rfl⟩
abbrev main_v111 : Ref sig .tc := ⟨.hbm, 402, rfl⟩
abbrev main_v112 : Ref sig .tc := ⟨.hbm, 403, rfl⟩
abbrev main_v113 : Ref sig .tc := ⟨.hbm, 404, rfl⟩
abbrev main_v114 : Ref sig .tc := ⟨.hbm, 405, rfl⟩
abbrev main_v115 : Ref sig .tc := ⟨.hbm, 406, rfl⟩
abbrev main_cst_31 : Ref sig .tc := ⟨.hbm, 407, rfl⟩
abbrev main_v116 : Ref sig .tc := ⟨.hbm, 408, rfl⟩
abbrev main_v117 : Ref sig .tc := ⟨.hbm, 409, rfl⟩
abbrev main_v118 : Ref sig .tc := ⟨.hbm, 410, rfl⟩
abbrev main_v119 : Ref sig .tc := ⟨.hbm, 411, rfl⟩
abbrev main_v120 : Ref sig .tc := ⟨.hbm, 412, rfl⟩
abbrev main_v121 : Ref sig .tc := ⟨.hbm, 413, rfl⟩
abbrev main_cst_32 : Ref sig .tc := ⟨.hbm, 414, rfl⟩
abbrev main_v122 : Ref sig .tc := ⟨.hbm, 415, rfl⟩
abbrev main_v123 : Ref sig .tc := ⟨.hbm, 416, rfl⟩
abbrev main_v124 : Ref sig .tc := ⟨.hbm, 417, rfl⟩
abbrev main_v125 : Ref sig .tc := ⟨.hbm, 418, rfl⟩
abbrev main_v126 : Ref sig .tc := ⟨.hbm, 419, rfl⟩
abbrev main_v127 : Ref sig .tc := ⟨.hbm, 420, rfl⟩
abbrev main_v128 : Ref sig .tc := ⟨.hbm, 421, rfl⟩
abbrev main_cst_33 : Ref sig .tc := ⟨.hbm, 422, rfl⟩
abbrev main_v129 : Ref sig .tc := ⟨.hbm, 423, rfl⟩
abbrev main_v130 : Ref sig .tc := ⟨.hbm, 424, rfl⟩
abbrev main_v131 : Ref sig .tc := ⟨.hbm, 425, rfl⟩
abbrev main_v132 : Ref sig .tc := ⟨.hbm, 426, rfl⟩
abbrev main_v133 : Ref sig .tc := ⟨.hbm, 427, rfl⟩
abbrev main_v134 : Ref sig .tc := ⟨.hbm, 428, rfl⟩
abbrev main_v135 : Ref sig .tc := ⟨.hbm, 429, rfl⟩
abbrev main_cst_34 : Ref sig .tc := ⟨.hbm, 430, rfl⟩
abbrev main_v136 : Ref sig .tc := ⟨.hbm, 431, rfl⟩
abbrev main_v137 : Ref sig .tc := ⟨.hbm, 432, rfl⟩
abbrev main_v138 : Ref sig .tc := ⟨.hbm, 433, rfl⟩
abbrev main_cst_35 : Ref sig .tc := ⟨.hbm, 434, rfl⟩
abbrev main_v139 : Ref sig .tc := ⟨.hbm, 435, rfl⟩
abbrev main_v140 : Ref sig .tc := ⟨.hbm, 436, rfl⟩
abbrev main_v141 : Ref sig .tc := ⟨.hbm, 437, rfl⟩
abbrev main_cst_36 : Ref sig .tc := ⟨.hbm, 438, rfl⟩
abbrev main_v142 : Ref sig .tc := ⟨.hbm, 439, rfl⟩
abbrev main_v143 : Ref sig .tc := ⟨.hbm, 440, rfl⟩
abbrev main_v144 : Ref sig .tc := ⟨.hbm, 441, rfl⟩
abbrev main_cst_37 : Ref sig .tc := ⟨.hbm, 442, rfl⟩
abbrev main_v145 : Ref sig .tc := ⟨.hbm, 443, rfl⟩
abbrev main_v146 : Ref sig .tc := ⟨.hbm, 444, rfl⟩
abbrev main_cst_38 : Ref sig .tc := ⟨.hbm, 445, rfl⟩
abbrev main_call3_v0 : Ref sig .tc := ⟨.hbm, 446, rfl⟩
abbrev main_v147 : Ref sig .tc := ⟨.hbm, 447, rfl⟩
abbrev main_v148 : Ref sig .tc := ⟨.hbm, 448, rfl⟩
abbrev main_v149 : Ref sig .tc := ⟨.hbm, 449, rfl⟩
abbrev main_v150 : Ref sig .tc := ⟨.hbm, 450, rfl⟩
abbrev main_cst_39 : Ref sig .tc := ⟨.hbm, 451, rfl⟩
abbrev main_v151 : Ref sig .tc := ⟨.hbm, 452, rfl⟩
abbrev main_v152 : Ref sig .tc := ⟨.hbm, 453, rfl⟩
abbrev main_v153 : Ref sig .tc := ⟨.hbm, 454, rfl⟩
abbrev main_v154 : Ref sig .tc := ⟨.hbm, 455, rfl⟩
abbrev main_v155 : Ref sig .tc := ⟨.hbm, 456, rfl⟩
abbrev main_v156 : Ref sig .tc := ⟨.hbm, 457, rfl⟩
abbrev main_v157 : Ref sig .tc := ⟨.hbm, 458, rfl⟩
abbrev main_v158 : Ref sig .tc := ⟨.hbm, 459, rfl⟩
abbrev main_c_40 : Ref sig .tc := ⟨.hbm, 460, rfl⟩
abbrev main_v159 : Ref sig .tc := ⟨.hbm, 461, rfl⟩
abbrev main_v160 : Ref sig .tc := ⟨.hbm, 462, rfl⟩
abbrev main_c_41 : Ref sig .tc := ⟨.hbm, 463, rfl⟩
abbrev main_v161 : Ref sig .tc := ⟨.hbm, 464, rfl⟩
abbrev main_v162 : Ref sig .tc := ⟨.hbm, 465, rfl⟩
abbrev main_v163 : Ref sig .tc := ⟨.hbm, 466, rfl⟩
abbrev main_v164 : Ref sig .tc := ⟨.hbm, 467, rfl⟩
abbrev main_v165 : Ref sig .tc := ⟨.hbm, 468, rfl⟩
abbrev main_cst_42 : Ref sig .tc := ⟨.hbm, 469, rfl⟩
abbrev main_v166 : Ref sig .tc := ⟨.hbm, 470, rfl⟩
abbrev main_v167 : Ref sig .tc := ⟨.hbm, 471, rfl⟩
abbrev main_v168 : Ref sig .tc := ⟨.hbm, 472, rfl⟩
abbrev main_c_43 : Ref sig .tc := ⟨.hbm, 473, rfl⟩
abbrev main_call6_v0 : Ref sig .tc := ⟨.hbm, 474, rfl⟩
abbrev main_call6_v1 : Ref sig .tc := ⟨.hbm, 475, rfl⟩
abbrev main_v169 : Ref sig .tc := ⟨.hbm, 476, rfl⟩
abbrev main_c_44 : Ref sig .tc := ⟨.hbm, 477, rfl⟩
abbrev main_v170 : Ref sig .tc := ⟨.hbm, 478, rfl⟩

abbrev nD : Nat := 1
abbrev τ : Topo := Topo.v7x

variable {F : FTy → Type} [FloatOps F]
-- ==== Proof.Draw.lean ====
/-
  The arithmetic of one vector of sixteen draws, as the tile kernel computes it, written once for any float instance:
  the Threefry word of sixteen state numbers, the word's negated logarithm by the truncated series, and the weight
  `(-ln u) * exp (-logit)`; then one step of the running minimum over a chain of vectors, and the merge of two chains.
-/
module

public import Idealize.ShloMosaic.Lib.Tactic

@[expose] public section

noncomputable section

namespace Cert.Proof.Draw

open Idealize.ShloMosaic

/-- Sixteen lanes. -/
abbrev L16 : Shape := ⟨1, ![16]⟩
/-- Sixteen words. -/
abbrev Words : Type := IVec L16 32

variable {F : FTy → Type} [FloatOps F]

/-- A word in every lane. -/
abbrev bc (c : BitVec 32) : Words := broadcast L16 c
/-- A float word in every lane. -/
abbrev bcf (c : BitVec 32) : FVec F L16 .f32 := broadcast L16 (Scalar.ofBits .f32 c)

/-- The second word after a round whose first word is `a'`: the old second word rotated by `r`, xored into `a'`. -/
def mix (r s : BitVec 32) (a' b : Words) : Words := xori a' (ori (shli b (bc r)) (shrui b (bc s)))

/-- Four rounds of Threefry and the key words that follow them, on a pair of words. -/
def group (r₁ s₁ r₂ s₂ r₃ s₃ r₄ s₄ : BitVec 32) (k l : Words) (x : Words × Words) : Words × Words :=
  have a₁ : Words := addi x.1 x.2
  have b₁ : Words := mix r₁ s₁ a₁ x.2
  have a₂ : Words := addi a₁ b₁
  have b₂ : Words := mix r₂ s₂ a₂ b₁
  have a₃ : Words := addi a₂ b₂
  have b₃ : Words := mix r₃ s₃ a₃ b₂
  have a₄ : Words := addi a₃ b₃
  have b₄ : Words := mix r₄ s₄ a₄ b₃
  (addi a₄ k, addi b₄ l)

/-- The groups of even number, -/
def groupE (k l : Words) (x : Words × Words) : Words × Words := group 13#32 19#32 15#32 17#32 26#32 6#32 6#32 26#32 k l x
/-- and of odd number. -/
def groupO (k l : Words) (x : Words × Words) : Words × Words := group 17#32 15#32 29#32 3#32 16#32 16#32 24#32 8#32 k l x

/-- The key words of the kernel: the seed's, zero, the parity word, and those with the group numbers added. -/
structure Key where
  one : Words
  zero : Words
  two : Words
  two1 : Words
  zero2 : Words
  one3 : Words
  two4 : Words
  zero5 : Words

/-- Twenty rounds of Threefry on the counter words `(0, idx)`. -/
def threefry (K : Key) (idx : Words) : Words × Words :=
  groupE K.two K.zero5 (groupO K.one K.two4 (groupE K.zero K.one3 (groupO K.two K.zero2 (groupE K.one K.two1 (K.zero, addi idx K.one)))))

/-- The draw's 23 bits: the two words xored, shifted down. -/
def mant (K : Key) (idx : Words) : Words := shrui (xori (threefry K idx).1 (threefry K idx).2) (bc 9#32)

/-- One step of the search for the leading bit: the part still to search, -/
def stepH (t s : BitVec 32) (h : Words) : Words := select (cmpi .sge h (bc t)) (shrsi h (bc s)) h
/-- and the number of bits known to lie below it. -/
def stepK (t s : BitVec 32) (h k : Words) : Words := select (cmpi .sge h (bc t)) (addi k (bc s)) k

/-- The position of the leading bit of a number below `2 ^ 23`, by five halvings. -/
def lead (n : Words) : Words :=
  have h₁ : Words := stepH 65536#32 16#32 n
  have k₁ : Words := stepK 65536#32 16#32 n (bc 0#32)
  have h₂ : Words := stepH 256#32 8#32 h₁
  have k₂ : Words := stepK 256#32 8#32 h₁ k₁
  have h₃ : Words := stepH 16#32 4#32 h₂
  have k₃ : Words := stepK 16#32 4#32 h₂ k₂
  have h₄ : Words := stepH 4#32 2#32 h₃
  have k₄ : Words := stepK 4#32 2#32 h₃ k₃
  stepK 2#32 1#32 h₄ k₄

/-- The float word of a number below `2 ^ 23`. -/
def fword (n : Words) : Words :=
  select (cmpi .eq n (bc 0#32)) (bc 0#32)
    (ori (shli (addi (lead n) (bc 127#32)) (bc 23#32)) (andi (shli n (subi (bc 23#32) (lead n))) (bc 8388607#32)))

/-- The exponent in a float word, -/
def expo (b : Words) : Words := subi (shrsi b (bc 23#32)) (bc 127#32)
/-- and its significand in `[1, 2)`. -/
def signif (b : Words) : FVec F L16 .f32 := bitcastToFloat .f32 (ori (andi b (bc 8388607#32)) (bc 1065353216#32))

/-- The significand is at least `√2`'s float. -/
def isBig (m : FVec F L16 .f32) : IVec L16 1 := cmpf .oge m (bcf 0x3FB504F3#32)

/-- `ln m` by the first five terms of the series in `(m - 1) / (m + 1)`. -/
def series (m : FVec F L16 .f32) : FVec F L16 .f32 :=
  have s : FVec F L16 .f32 := divf (subf m (bcf 0x3F800000#32)) (addf m (bcf 0x3F800000#32))
  have t : FVec F L16 .f32 := mulf s s
  mulf (mulf (bcf 0x40000000#32) s)
    (addf (mulf (addf (mulf (addf (mulf (addf (mulf (bcf 0x3DE38E39#32) t) (bcf 0x3E124925#32)) t) (bcf 0x3E4CCCCD#32)) t) (bcf 0x3EAAAAAB#32)) t)
      (bcf 0x3F800000#32))

/-- The exponent and the significand, reduced to `[√2 / 2, √2)`, combined. -/
def combine (e : Words) (m : FVec F L16 .f32) : FVec F L16 .f32 :=
  subf (mulf (subf (bcf 0x41B80000#32) (sitofp .f32 (select (isBig m) (addi e (bc 1#32)) e))) (bcf 0x3F317218#32))
    (series (select (isBig m) (mulf m (bcf 0x3F000000#32)) m))

/-- `-ln (n / 2 ^ 23)` as the kernel computes it; at `n = 0` the logarithm of the smallest float. -/
def negLog (n : Words) : FVec F L16 .f32 :=
  select (cmpi .eq n (bc 0#32)) (bcf 0x42AEAC50#32) (combine (expo (fword n)) (signif (fword n)))

/-- The weight of sixteen states with the logits `l`. -/
def weight (K : Key) (idx : Words) (l : FVec F L16 .f32) : FVec F L16 .f32 :=
  mulf (negLog (mant K idx)) (exp (subf (bcf 0x00000000#32) l))

/-- A chain's running minimum takes a vector's weights where they are smaller, -/
def takeW (w bw : FVec F L16 .f32) : FVec F L16 .f32 := select (cmpf .olt w bw) w bw
/-- and their state numbers with them. -/
def takeI (w bw : FVec F L16 .f32) (idx bi : Words) : Words := select (cmpf .olt w bw) idx bi

/-- Where the second chain's minimum goes first: smaller, or equal at a smaller state number. -/
def before (w₂ w₁ : FVec F L16 .f32) (i₂ i₁ : Words) : IVec L16 1 :=
  ori (cmpf .olt w₂ w₁) (andi (cmpf .oeq w₂ w₁) (cmpi .slt i₂ i₁))
/-- Two chains merged: the weight, -/
def mergeW (w₁ : FVec F L16 .f32) (i₁ : Words) (w₂ : FVec F L16 .f32) (i₂ : Words) : FVec F L16 .f32 := select (before w₂ w₁ i₂ i₁) w₂ w₁
/-- and the state number. -/
def mergeI (w₁ : FVec F L16 .f32) (i₁ : Words) (w₂ : FVec F L16 .f32) (i₂ : Words) : Words := select (before w₂ w₁ i₂ i₁) i₂ i₁

end Cert.Proof.Draw

end
-- ==== Proof.Block.lean ====
/-
  Loads and stores of a whole buffer, by what the buffer holds.
-/
module

public import Idealize.ShloMosaic.Lib.Exec
public import Idealize.ShloMosaic.Lib.Memref
public import Idealize.ShloMosaic.Lib.Pipeline.Regions

@[expose] public section

noncomputable section

namespace Cert.Proof.Block

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable (defs : Defs nD τ sig Val Λ) (𝒱 : Variants) (c : Thread nD τ) (bd : Option 𝒱.V) (E : Set Name)

/-- A load of a rectangle gives what the buffer holds there. -/
theorem load {α : Type} {Q : α → sProp 𝕄} {cs : CoreSpace} {s : Shape} {e : EltTy} {m : Memref sig c.2.kind cs s e} {r : Rect s} {hl : m.view.LoadsAt r.toLoadRect}
    {k : (r.toLoadRect.shape.Idx → Val e) → Prog (TpuEff nD τ sig Val Λ c.2) α} {q : PosShare TreeShare} {X : s.Idx → Val e} :
    (owns c m q X : sProp 𝕄)
      ⊢ iprop(((owns c m q X) -∗ wp frame (wpE defs 𝒱 c bd) E (k fun j => X (r.emb j)) Q)
        -∗ wp frame (wpE defs 𝒱 c bd) E (.op (.load m r.toLoadRect hl) k) Q) := by
  unfold owns
  iintro ⟨%f, %hf, H⟩ Hk
  subst hf
  iapply (wp_load_rect 𝒱 c bd E (m := m) (r := r) (View.set_slice_subset _ _)) $$ H
  iintro H
  iapply Hk
  iexists f
  isplitr; · ipureintro; rfl
  iexact H

/-- A store of the whole buffer leaves what was stored. -/
theorem store {α : Type} {Q : α → sProp 𝕄} {cs : CoreSpace} {s : Shape} {e : EltTy} {m : Memref sig c.2.kind cs s e} {r : Rect s} (h : r.shape = s) (w : r.shape.Idx → Val e)
    {hx : (m.access r).Stores Finset.univ} {hm : Finset.univ = Finset.univ ∨ ∀ a, r.stride a = 1}
    {k : PUnit → Prog (TpuEff nD τ sig Val Λ c.2) α} {X Y : s.Idx → Val e} (hw : ∀ j, w j = Y (r.emb j)) (hr : ∀ i : s.Idx, ∃ j, r.emb j = i) :
    (owns c m fullShare X : sProp 𝕄)
      ⊢ iprop(((owns c m fullShare Y) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (View.set_slice_subset _ _)) $$ H
  iintro H
  iapply Hk
  iexists (m.access r).write Val f w Finset.univ
  isplitr
  · ipureintro
    funext i
    obtain ⟨j, rfl⟩ := hr i
    have : (m.access r).read Val ((m.access r).write Val f w Finset.univ) j = w j := by
      rw [View.read_write_univ]
    rw [← hw j]
    exact this
  iexact H

end Cert.Proof.Block

end
-- ==== Proof.RowDraw.lean ====
/-
  The arithmetic of one block of 8 × 128 draws, as the dense kernel computes it, written once for any float instance: the
  Threefry word of the block's state numbers, the logarithm of the uniform it makes, and the weight `(-ln u) * exp (-logit)`.
-/
module

public import Idealize.ShloMosaic.Lib.Tactic

@[expose] public section

noncomputable section

namespace Cert.Proof.RowDraw

open Idealize.ShloMosaic

/-- A block of 8 × 128. -/
abbrev B : Shape := ⟨2, ![8, 128]⟩
/-- A block of words. -/
abbrev Words : Type := IVec B 32

variable {F : FTy → Type} [FloatOps F]

/-- A word everywhere. -/
abbrev bc (c : BitVec 32) : Words := broadcast B c
/-- A float word everywhere. -/
abbrev bcf (c : BitVec 32) : FVec F B .f32 := broadcast B (Scalar.ofBits .f32 c)

/-- The second word after a round whose first word is `a'`: the old second word rotated by `r`, xored into `a'`. -/
def mix (r s : BitVec 32) (a' b : Words) : Words := xori a' (ori (shli b (bc r)) (shrui b (bc s)))

/-- Four rounds of Threefry and the key words that follow them, on a pair of words. -/
def group (r₁ s₁ r₂ s₂ r₃ s₃ r₄ s₄ : BitVec 32) (k l : Words) (x : Words × Words) : Words × Words :=
  have a₁ : Words := addi x.1 x.2
  have b₁ : Words := mix r₁ s₁ a₁ x.2
  have a₂ : Words := addi a₁ b₁
  have b₂ : Words := mix r₂ s₂ a₂ b₁
  have a₃ : Words := addi a₂ b₂
  have b₃ : Words := mix r₃ s₃ a₃ b₂
  have a₄ : Words := addi a₃ b₃
  have b₄ : Words := mix r₄ s₄ a₄ b₃
  (addi a₄ k, addi b₄ l)

/-- The groups of even number, -/
def groupE (k l : Words) (x : Words × Words) : Words × Words := group 13#32 19#32 15#32 17#32 26#32 6#32 6#32 26#32 k l x
/-- and of odd number. -/
def groupO (k l : Words) (x : Words × Words) : Words × Words := group 17#32 15#32 29#32 3#32 16#32 16#32 24#32 8#32 k l x

/-- The key words of the kernel: zero, the seed, the parity word, and those with the group numbers added. -/
structure Key where
  zero : Words
  one : Words
  two : Words
  two1 : Words
  zero2 : Words
  one3 : Words
  two4 : Words
  zero5 : Words

/-- The key words from the seed. -/
def keyOf (seed : BitVec 32) : Key :=
  ⟨bc 0#32, bc seed, xori (xori (bc 0#32) (bc seed)) (bc 466688986#32), addi (xori (xori (bc 0#32) (bc seed)) (bc 466688986#32)) (bc 1#32), addi (bc 0#32) (bc 2#32),
    addi (bc seed) (bc 3#32), addi (xori (xori (bc 0#32) (bc seed)) (bc 466688986#32)) (bc 4#32), addi (bc 0#32) (bc 5#32)⟩

/-- Twenty rounds of Threefry on the counter words `(0, idx)`. -/
def threefry (K : Key) (idx : Words) : Words × Words :=
  groupE K.two K.zero5 (groupO K.one K.two4 (groupE K.zero K.one3 (groupO K.two K.zero2 (groupE K.one K.two1 (K.zero, addi idx K.one)))))

/-- The draw's 23 bits: the two words xored, shifted down. -/
def mant (K : Key) (idx : Words) : Words := shrui (xori (threefry K idx).1 (threefry K idx).2) (bc 9#32)

/-- The uniform the bits make, no smaller than the smallest normal float. -/
def unif (n : Words) : FVec F B .f32 :=
  maximumf (subf (bitcastToFloat .f32 (ori n (bc 1065353216#32))) (bcf 0x3F800000#32)) (bcf 0x00800000#32)

/-- The weight of a block of states with the logits `l`. -/
def weight (K : Key) (idx : Words) (l : FVec F B .f32) : FVec F B .f32 :=
  mulf (subf (bcf 0x00000000#32) (log (unif (mant K idx)))) (exp (subf (bcf 0x00000000#32) l))

/-- The running minimum takes a block's weights where they are smaller, -/
def takeW (w bw : FVec F B .f32) : FVec F B .f32 := select (cmpf .olt w bw) w bw
/-- and their state numbers with them. -/
def takeI (w bw : FVec F B .f32) (idx bi : Words) : Words := select (cmpf .olt w bw) idx bi

end Cert.Proof.RowDraw

end
-- ==== Proof.Region.lean ====
/-
  A kernel region entered from, and left with, a set of held buffers and what the core owes, its recorded waits bounded.
-/
module

public import Idealize.ShloMosaic.Lib.Pipeline.RegionArraysS
public import Idealize.ShloMosaic.Lib.Pipeline.Regions

@[expose] public section

noncomputable section

namespace Cert.Proof.Region

open Idealize.ShloMosaic
open Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P]

/-- What the core owes, its recorded waits within a set. -/
abbrev owesIn (c : Dev nD) (D : CellTallies nD τ sig Ix) (B : Set (SemLoc sig × Ix)) : sProp 𝕄 := iprop(∃ W, ⌜↑W ⊆ B⌝ ∗ owes (c : Thread nD τ) D W)

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (p : P) (D : Dev nD → CellTallies nD τ sig Ix)

/-- The region over the buffers of `S` at `W c`: left with them at `afterRegion (pdats p c) (W c)`. -/
def ofBuffers (S : Finset (DevRef τ sig)) (hS : arrRefs (pcs p).spec ⊆ S) (kit : PLaunchFacts (nD := nD) (τ := τ) pcs p) (hK : (pcs p).pre.K = 0)
    (hbody : ∀ c, BodyObligationLoose (pdats p c) defs₀ 𝒱₀ ι Set.univ)
    (howed : ∀ c t, (pdats p c).owed t = D c) (B : Dev nD → Set (SemLoc sig × Ix)) (hB : ∀ c, (pdats p c).bound ι 0 = B c)
    (hB' : ∀ c, (pdats p c).bound ι (Fin.last (pin pcs a p).N) = B c)
    (hshare : ∀ c w, (pdats p c).share w = fullShare)
    (hin : ∀ c, scopedRest (pin pcs a p).spec c ⊢ (pdats p c).Φ 0)
    (hout : ∀ c, (pdats p c).Φ (Fin.last (pin pcs a p).N) ⊢ scopedRest (pin pcs a p).spec c)
    (b : Dev nD → Lvl) (hcut : LevelCut pcs a ι L lv p D b)
    (W : Dev nD → Valuation τ sig Val)
    (hW : ∀ c w, (pdats p c).arrAt w 0 = W c (Proc.devRef .tc (arrRef (pin pcs a p).spec w))) :
    RegionSeg pcs a pdats ι defs₀ 𝒱₀ L lv p where
  win := kit.to₀.win
  block_pos := kit.block_pos
  stage_whole := kit.stage_whole
  K := PEmpty
  osem k := k.elim
  ho := OwnSemFacts.none _
  hbody := hbody
  hwaits c := cellsWaits_of_cut (pin pcs a) pdats ι p c (b c) (D c) (howed c) (hcut.hι c) (hcut.hιb c) (hcut.hD c)
  pre c := iprop(StableHlo.held (c.tc : Thread nD τ) S (W c) ∗ owesIn c (D c) (B c))
  post c := iprop(StableHlo.held (c.tc : Thread nD τ) S (afterRegion (pdats p c) (W c)) ∗ owesIn c (D c) (B c))
  X _ := iprop(emp)
  Y _ := iprop(emp)
  Z c := StableHlo.held (c.tc : Thread nD τ) (S \ arrRefs (pcs p).spec) (W c)
  hentry c := by
    rw [ownSems0_none, prefHeld_of_none _ hK, StableHlo.held_sub_split (c.tc : Thread nD τ) hS (W c),
      ← arrays_held pcs a pdats p kit c (hshare c) ((pdats p c).arrAt · 0) (W c) (hW c)]
    iintro ⟨⟨⟨Ha, HZ⟩, HO⟩, -, -⟩
    imodintro
    isplitl [Ha]; · iexact Ha
    isplitr; · iempintro
    isplitl [HO]
    · unfold Dat.owesAt owesWithin
      rw [howed c 0, hB c]
      iexact HO
    isplitr; · iempintro
    iexact HZ
  hin c := (show _ ⊢ scopedRest (pin pcs a p).spec c from by
    iintro ⟨-, -, Hr⟩
    iexact Hr).trans (hin c)
  hout c := (hout c).trans (by
    rw [ownSems0_none]
    iintro Hr
    isplitr; · iempintro
    isplitr; · iempintro
    iexact Hr)
  hexit c := by
    rw [StableHlo.held_sub_split (c.tc : Thread nD τ) hS (afterRegion (pdats p c) (W c)),
      StableHlo.held_congr (c.tc : Thread nD τ) (S := S \ arrRefs (pcs p).spec) (V := afterRegion (pdats p c) (W c)) (V' := W c) (afterRegion_off (pdats p c) (W c) S),
      ← arrays_held pcs a pdats p kit c (hshare c) ((pdats p c).arrAt · (pin pcs a p).N) (afterRegion (pdats p c) (W c))
        (fun w => (afterRegion_arr (pdats p c) (W c) kit.win.arr_inj w).symm)]
    iintro ⟨Ha, HO, -, HZ⟩
    imodintro
    isplitl [Ha HZ]
    · isplitl [Ha]; · iexact Ha
      iexact HZ
    unfold Dat.owesAt owesWithin
    rw [howed c (Fin.last _), hB' c]
    iexact HO

end Cert.Proof.Region

end
-- ==== Proof.HostLine.lean ====
/-
  Reading a long straight line of host operations as a system of equations. When the buffers are numbered in the order
  in which the line writes them, each buffer is written once and read only afterwards; so the contents at the end
  satisfy one equation per operation, each between contents at the end. `Line p n m E` says this of a piece of program
  that writes the buffers `n`, …, `m - 1`, with `E` its equations.
-/
module

public import Idealize.ShloMosaic.Lib.StableHlo.RunHlo
public import Idealize.ShloMosaic.Lib.Quiescent

@[expose] public section

noncomputable section

namespace Cert.Proof.HostLine

open Idealize Idealize.SL.Sem Idealize.ShloMosaic Idealize.ShloMosaic.StableHlo

variable {nD : Nat} {τ : Topo} {sig : RefSig} {Val : EltTy → Type} {Λ : Labels}

/-- The buffer's number in its memory space. -/
abbrev num (r : Ref sig .tc) : ℕ := r.idx.val

/-- The contents of a buffer. -/
abbrev rd (W : Valuation τ sig Val) (r : Ref sig .tc) : r.ty.Contents Val := W (Proc.devRef .tc r)
/-- The contents of a typed buffer. -/
abbrev trd {T : BufTy} (W : Valuation τ sig Val) (t : TRef sig T) : T.Contents Val := t.ofBuf (W (Proc.devRef .tc t.ref))

/-- An operation that writes the buffer `y` alone, with `val` of the contents before it, which reads only buffers of
    smaller number. -/
structure Step (op : HloOp τ sig Val) (y : Ref sig .tc) (val : Valuation τ sig Val → y.ty.Contents Val) : Prop where
  bufs : op.bufs ⊆ tcRefs τ sig
  fresh : op.fresh = ∅
  writes : op.writes = {Proc.devRef .tc y}
  result : ∀ V, op.result V (Proc.devRef .tc y) = val V
  reads : ∀ V W : Valuation τ sig Val, (∀ r, num r < num y → rd W r = rd V r) → val W = val V

/-- The line of host operations `p` writes the buffers numbered `n` to `m - 1` in this order, and the contents `W` of
    any end that keeps the buffers below `m` satisfy `E`. -/
def Line (p : Prog (TpuEff nD τ sig Val Λ .tc) PUnit) (n m : ℕ) (E : Valuation τ sig Val → Prop) : Prop :=
  ∃ ops : List (HloOp τ sig Val), IsSeq p ops ∧ (∀ op ∈ ops, op.bufs ⊆ tcRefs τ sig ∧ op.fresh = ∅) ∧ n ≤ m ∧
    (∀ r : Ref sig .tc, num r < n → ∀ V, rd (after ops V) r = rd V r) ∧
    ∀ V W : Valuation τ sig Val, (∀ r, num r < m → rd W r = rd (after ops V) r) → E W

theorem Line.mono {p : Prog (TpuEff nD τ sig Val Λ .tc) PUnit} {n m : ℕ} {E E' : Valuation τ sig Val → Prop}
    (h : Line p n m E) (hE : ∀ W, E W → E' W) : Line p n m E' := by
  obtain ⟨ops, h₁, h₂, h₃, h₄, h₅⟩ := h
  exact ⟨ops, h₁, h₂, h₃, h₄, fun V W h => hE W (h₅ V W h)⟩

/-- Nothing. -/
theorem Line.nil {n : ℕ} : Line (.ret ⟨⟩ : Prog (TpuEff nD τ sig Val Λ .tc) PUnit) n n fun _ => True :=
  ⟨[], IsSeq.nil, by simp, le_rfl, fun _ _ _ => rfl, fun _ _ _ => trivial⟩

/-- One operation and the rest of the line. -/
theorem Line.cons {op : HloOp τ sig Val} {y : Ref sig .tc} {val : Valuation τ sig Val → y.ty.Contents Val}
    (hs : Step op y val) {n m : ℕ} (hn : num y = n) {k : Prog (TpuEff nD τ sig Val Λ .tc) PUnit} {E : Valuation τ sig Val → Prop}
    (hk : Line k (n + 1) m E) :
    Line ((hlo rfl op fun _ => .ret (⟨⟩ : PUnit)) >>= fun _ => k) n m fun W => rd W y = val W ∧ E W := by
  obtain ⟨ops, h₁, h₂, h₃, h₄, h₅⟩ := hk
  have keep : ∀ r : Ref sig .tc, num r < n → ∀ V, rd (op.result V) r = rd V r := fun r hr V =>
    op.result_of_not_mem V (by
      rw [hs.writes, Finset.mem_singleton]; exact devRef_ne_of_ne fun h => by rw [h, hn] at hr; exact lt_irrefl _ hr)
  refine ⟨op :: ops, h₁.cons, ?_, by omega, fun r hr V => ?_, fun V W h => ⟨?_, h₅ (op.result V) W h⟩⟩
  · intro o ho
    rcases List.mem_cons.mp ho with rfl | ho
    · exact ⟨hs.bufs, hs.fresh⟩
    · exact h₂ o ho
  · rw [after_cons, h₄ r (by omega), keep r hr]
  · have e : ∀ r, num r < n → rd W r = rd V r := fun r hr => by
      rw [h r (by omega), after_cons, h₄ r (by omega), keep r hr]
    rw [h y (by omega), after_cons, h₄ y (by omega), hs.reads V W fun r hr => e r (hn ▸ hr)]
    exact hs.result V

/-- One operation of a module-local function and the rest of the line. -/
theorem Line.tcons {T : BufTy} {op : HloOp τ sig Val} {y : TRef sig T} {val : Valuation τ sig Val → T.Contents Val}
    (hs : Step op y.ref fun W => y.toBuf (val W)) {n m : ℕ} (hn : num y.ref = n) {k : Prog (TpuEff nD τ sig Val Λ .tc) PUnit}
    {E : Valuation τ sig Val → Prop} (hk : Line k (n + 1) m E) :
    Line ((hlo rfl op fun _ => .ret (⟨⟩ : PUnit)) >>= fun _ => k) n m fun W => trd W y = val W ∧ E W :=
  (Line.cons hs hn hk).mono fun W h => ⟨(congrArg y.ofBuf h.1).trans (TRef.ofBuf_toBuf y _), h.2⟩

/-- Two pieces in a row. -/
theorem Line.bind {p q : Prog (TpuEff nD τ sig Val Λ .tc) PUnit} {n k m : ℕ} {E E' : Valuation τ sig Val → Prop}
    (hp : Line p n k E) (hq : Line q k m E') : Line (p >>= fun _ => q) n m fun W => E W ∧ E' W := by
  obtain ⟨ops, h₁, h₂, h₃, h₄, h₅⟩ := hp
  obtain ⟨ops', g₁, g₂, g₃, g₄, g₅⟩ := hq
  have happ : ∀ V, after (ops ++ ops') V = after ops' (after ops V) := fun V => by
    clear h₁ h₂ h₄ h₅
    induction ops generalizing V with
    | nil => rfl
    | cons o os ih => exact ih _
  refine ⟨ops ++ ops', ?_, fun o ho => (List.mem_append.mp ho).elim (h₂ o) (g₂ o), h₃.trans g₃, fun r hr V => ?_,
    fun V W h => ⟨h₅ V W fun r hr => ?_, g₅ (after ops V) W fun r hr => by rw [h r hr, happ]⟩⟩
  · unfold IsSeq at h₁ g₁ ⊢; rw [h₁, g₁, seq_append]
  · rw [happ, g₄ r (by omega), h₄ r hr]
  · rw [h r (by omega), happ, g₄ r hr]

section Steps

variable {x a b c y : Ref sig .tc}

theorem step_nullary (v : y.ty.Contents Val) (hy) : Step (nullary (τ := τ) y v hy) y fun _ => v :=
  ⟨nullary_bufs_sub y v hy, rfl, rfl, fun V => nullary_result y v hy V, fun _ _ _ => rfl⟩
theorem step_unary (f : x.ty.Contents Val → y.ty.Contents Val) (hx hy) (h : num x < num y) :
    Step (unary (τ := τ) x y f hx hy) y fun W => f (rd W x) :=
  ⟨unary_bufs_sub x y f hx hy, rfl, rfl, fun V => unary_result x y f hx hy V, fun _ _ e => congrArg f (e x h)⟩
theorem step_binary (f : a.ty.Contents Val → b.ty.Contents Val → y.ty.Contents Val) (ha hb hy) (h : num a < num y) (h' : num b < num y) :
    Step (binary (τ := τ) a b y f ha hb hy) y fun W => f (rd W a) (rd W b) :=
  ⟨binary_bufs_sub a b y f ha hb hy, rfl, rfl, fun V => binary_result a b y f ha hb hy V,
    fun _ _ e => by change f _ _ = f _ _; rw [e a h, e b h']⟩
theorem step_ternary (f : c.ty.Contents Val → a.ty.Contents Val → b.ty.Contents Val → y.ty.Contents Val) (hc ha hb hy)
    (h₀ : num c < num y) (h : num a < num y) (h' : num b < num y) :
    Step (ternary (τ := τ) c a b y f hc ha hb hy) y fun W => f (rd W c) (rd W a) (rd W b) :=
  ⟨ternary_bufs_sub a b c y f hc ha hb hy, rfl, rfl, fun V => ternary_result c a b y f hc ha hb hy V,
    fun _ _ e => by change f _ _ _ = f _ _ _; rw [e c h₀, e a h, e b h']⟩
theorem step_reshape (he hn hx hy) (h : num x < num y) :
    Step (reshape (τ := τ) (Val := Val) x y he hn hx hy) y fun W i => he ▸ shapeCast y.ty.shape (rd W x) hn i :=
  ⟨reshape_bufs_sub x y he hn hx hy, rfl, rfl, fun V => reshape_result x y he hn hx hy V,
    fun _ _ e => by funext i; rw [e x h]⟩

variable {Tx Ta Tb Tc Ty : BufTy}

theorem tstep_nullary (y : TRef sig Ty) (v : Ty.Contents Val) : Step (TRef.nullary (τ := τ) y v) y.ref fun _ => y.toBuf v :=
  step_nullary _ _
theorem tstep_unary (x : TRef sig Tx) (y : TRef sig Ty) (f : Tx.Contents Val → Ty.Contents Val) (h : num x.ref < num y.ref) :
    Step (TRef.unary (τ := τ) x y f) y.ref fun W => y.toBuf (f (trd W x)) :=
  step_unary _ _ _ h
theorem tstep_binary (a : TRef sig Ta) (b : TRef sig Tb) (y : TRef sig Ty) (f : Ta.Contents Val → Tb.Contents Val → Ty.Contents Val)
    (h : num a.ref < num y.ref) (h' : num b.ref < num y.ref) :
    Step (TRef.binary (τ := τ) a b y f) y.ref fun W => y.toBuf (f (trd W a) (trd W b)) :=
  step_binary _ _ _ _ h h'
theorem tstep_ternary (c : TRef sig Tc) (a : TRef sig Ta) (b : TRef sig Tb) (y : TRef sig Ty)
    (f : Tc.Contents Val → Ta.Contents Val → Tb.Contents Val → Ty.Contents Val)
    (h₀ : num c.ref < num y.ref) (h : num a.ref < num y.ref) (h' : num b.ref < num y.ref) :
    Step (TRef.ternary (τ := τ) c a b y f) y.ref fun W => y.toBuf (f (trd W c) (trd W a) (trd W b)) :=
  step_ternary _ _ _ _ _ h₀ h h'

end Steps

/-! ## One operation of each kind, and the rest of the line -/

section Lines

variable {x a b c y : Ref sig .tc} {n m : ℕ} {k : Prog (TpuEff nD τ sig Val Λ .tc) PUnit} {E : Valuation τ sig Val → Prop}

theorem Line.nullary {v : y.ty.Contents Val} {hy} (hn : num y = n) (hk : Line k (n + 1) m E) :
    Line ((hlo rfl (StableHlo.nullary (τ := τ) y v hy) fun _ => .ret (⟨⟩ : PUnit)) >>= fun _ => k) n m fun W => rd W y = v ∧ E W :=
  Line.cons (step_nullary _ _) hn hk
theorem Line.unary {f : x.ty.Contents Val → y.ty.Contents Val} {hx hy} (h : num x < num y) (hn : num y = n) (hk : Line k (n + 1) m E) :
    Line ((hlo rfl (StableHlo.unary (τ := τ) x y f hx hy) fun _ => .ret (⟨⟩ : PUnit)) >>= fun _ => k) n m
      fun W => rd W y = f (rd W x) ∧ E W :=
  Line.cons (step_unary _ _ _ h) hn hk
theorem Line.binary {f : a.ty.Contents Val → b.ty.Contents Val → y.ty.Contents Val} {ha hb hy} (h : num a < num y) (h' : num b < num y)
    (hn : num y = n) (hk : Line k (n + 1) m E) :
    Line ((hlo rfl (StableHlo.binary (τ := τ) a b y f ha hb hy) fun _ => .ret (⟨⟩ : PUnit)) >>= fun _ => k) n m
      fun W => rd W y = f (rd W a) (rd W b) ∧ E W :=
  Line.cons (step_binary _ _ _ _ h h') hn hk
theorem Line.reshape {he hn' hx hy} (h : num x < num y) (hn : num y = n) (hk : Line k (n + 1) m E) :
    Line ((hlo rfl (StableHlo.reshape (τ := τ) (Val := Val) x y he hn' hx hy) fun _ => .ret (⟨⟩ : PUnit)) >>= fun _ => k) n m
      fun W => (rd W y = fun i => he ▸ shapeCast y.ty.shape (rd W x) hn' i) ∧ E W :=
  Line.cons (step_reshape _ _ _ _ h) hn hk

variable {Tx Ta Tb Tc Ty : BufTy}

theorem Line.tnullary {t : TRef sig Ty} {v : Ty.Contents Val} (hn : num t.ref = n) (hk : Line k (n + 1) m E) :
    Line ((hlo rfl (TRef.nullary (τ := τ) t v) fun _ => .ret (⟨⟩ : PUnit)) >>= fun _ => k) n m fun W => trd W t = v ∧ E W :=
  Line.tcons (tstep_nullary _ _) hn hk
theorem Line.tunary {s : TRef sig Tx} {t : TRef sig Ty} {f : Tx.Contents Val → Ty.Contents Val} (h : num s.ref < num t.ref)
    (hn : num t.ref = n) (hk : Line k (n + 1) m E) :
    Line ((hlo rfl (TRef.unary (τ := τ) s t f) fun _ => .ret (⟨⟩ : PUnit)) >>= fun _ => k) n m fun W => trd W t = f (trd W s) ∧ E W :=
  Line.tcons (tstep_unary _ _ _ h) hn hk
theorem Line.tbinary {s : TRef sig Ta} {u : TRef sig Tb} {t : TRef sig Ty} {f : Ta.Contents Val → Tb.Contents Val → Ty.Contents Val}
    (h : num s.ref < num t.ref) (h' : num u.ref < num t.ref) (hn : num t.ref = n) (hk : Line k (n + 1) m E) :
    Line ((hlo rfl (TRef.binary (τ := τ) s u t f) fun _ => .ret (⟨⟩ : PUnit)) >>= fun _ => k) n m
      fun W => trd W t = f (trd W s) (trd W u) ∧ E W :=
  Line.tcons (tstep_binary _ _ _ _ h h') hn hk
theorem Line.tternary {c : TRef sig Tc} {s : TRef sig Ta} {u : TRef sig Tb} {t : TRef sig Ty}
    {f : Tc.Contents Val → Ta.Contents Val → Tb.Contents Val → Ty.Contents Val}
    (h₀ : num c.ref < num t.ref) (h : num s.ref < num t.ref) (h' : num u.ref < num t.ref) (hn : num t.ref = n) (hk : Line k (n + 1) m E) :
    Line ((hlo rfl (TRef.ternary (τ := τ) c s u t f) fun _ => .ret (⟨⟩ : PUnit)) >>= fun _ => k) n m
      fun W => trd W t = f (trd W c) (trd W s) (trd W u) ∧ E W :=
  Line.tcons (tstep_ternary _ _ _ _ _ h₀ h h') hn hk

/-- The last operation of a piece, as one with nothing after it. -/
theorem Line.last {op : HloOp τ sig Val}
    (h : Line (((hlo rfl op fun _ => .ret (⟨⟩ : PUnit)) >>= fun _ => pure ⟨⟩ : Prog (TpuEff nD τ sig Val Λ .tc) PUnit)) n m E) :
    Line (hlo rfl op fun _ => .ret (⟨⟩ : PUnit) : Prog (TpuEff nD τ sig Val Λ .tc) PUnit) n m E := h

end Lines

/-- On a signature without semaphores and scoped buffers, a line that is the whole of @main runs to contents that
    satisfy its equations and keep every buffer of number below `n`. -/
theorem Line.run (hR : (Finset.univ.filter fun b : Ref sig .tc => b.isScoped) = ∅)
    (hC : (Finset.univ.filter fun sm : SemLoc sig => sm.isScoped .tc) = ∅) (h0 : sig.nSem + sig.nDmaSem = 0)
    {defs : Defs nD τ sig Val Λ} {main : Dev nD → Prog (TpuEff nD τ sig Val Λ .tc) PUnit} {n m : ℕ} {E : Valuation τ sig Val → Prop}
    (d₀ : Dev nD) (hc : ∀ d, main d = main d₀) (h : Line (main d₀) n m E)
    (mem : (ℓ : Loc nD τ sig) → Buf Val ℓ) (ρ : Dev nD → PrngReg) :
    θ_run defs (onTc (τ := τ) main) ⟨mem, fun _ => 0, ρ⟩ fun r =>
      (∀ d : Dev nD, (∀ x : Ref sig .tc, num x < n → r.2.mem ((d.tc : Thread nD τ).loc x) = mem ((d.tc : Thread nD τ).loc x)) ∧
        ∃ W : Valuation τ sig Val, (∀ x : Ref sig .tc, r.2.mem ((d.tc : Thread nD τ).loc x) = rd W x) ∧ E W) ∧ r.2.sem = fun _ => 0 := by
  obtain ⟨ops, h₁, h₂, h₃, h₄, h₅⟩ := h
  refine θ_run_mono (run_hlo defs main (ops := ops) (fun d => (hc d).trans h₁) hR hC
    (List.forall_iff_forall_mem.mpr fun o ho => (h₂ o ho).1) (fun o ho => (h₂ o ho).2) mem ρ) fun r hr => ?_
  refine ⟨fun d => ⟨fun x hx => ?_, after ops (launchContents mem d), hr d, h₅ _ _ fun _ _ => rfl⟩,
    sem_eq_zero_of_no_sems h0 r.2⟩
  rw [hr d x]; exact h₄ x hx _

end Cert.Proof.HostLine

end
-- ==== Proof.Lane.lean ====
/-
  The draw of one state on plain words: the twenty rounds of Threefry-2x32 on one pair of counter words.
-/
module

public import Idealize.ShloMosaic.Lib.Tactic

@[expose] public section

namespace Cert.Proof.Lane

/-- A round: the first word takes the sum, the second is rotated (left by `r`, and `s = 32 - r`) and xored with it. -/
def rnd (r s : BitVec 32) (p : BitVec 32 × BitVec 32) : BitVec 32 × BitVec 32 :=
  (p.1 + p.2, (p.1 + p.2) ^^^ ((p.2 <<< r) ||| (p.2 >>> s)))

/-- The rounds of a group of even number, -/
def evens (p : BitVec 32 × BitVec 32) : BitVec 32 × BitVec 32 := rnd 6#32 26#32 (rnd 26#32 6#32 (rnd 15#32 17#32 (rnd 13#32 19#32 p)))
/-- and of odd number. -/
def odds (p : BitVec 32 × BitVec 32) : BitVec 32 × BitVec 32 := rnd 24#32 8#32 (rnd 16#32 16#32 (rnd 29#32 3#32 (rnd 17#32 15#32 p)))

/-- The key words added after a group. -/
def inject (k l : BitVec 32) (p : BitVec 32 × BitVec 32) : BitVec 32 × BitVec 32 := (p.1 + k, p.2 + l)

/-- The parity word of a key. -/
def parity (k₀ k₁ : BitVec 32) : BitVec 32 := k₀ ^^^ k₁ ^^^ 466688986#32

/-- Threefry-2x32 with twenty rounds, on the counter words `x₀`, `x₁` under the key words `k₀`, `k₁`. -/
def threefry (k₀ k₁ x₀ x₁ : BitVec 32) : BitVec 32 × BitVec 32 :=
  inject (parity k₀ k₁) (k₀ + 5#32) (evens (inject k₁ (parity k₀ k₁ + 4#32) (odds (inject k₀ (k₁ + 3#32) (evens
    (inject (parity k₀ k₁) (k₀ + 2#32) (odds (inject k₁ (parity k₀ k₁ + 1#32) (evens (inject k₀ k₁ (x₀, x₁)))))))))))

/-- The 23 bits drawn for the state `i` from the seed: the two words xored, shifted down. -/
def bits (seed i : BitVec 32) : BitVec 32 := ((threefry 0#32 seed 0#32 i).1 ^^^ (threefry 0#32 seed 0#32 i).2) >>> 9#32

end Cert.Proof.Lane
-- ==== Proof.RefThreefry.lean ====
/-
  The reference's call of Threefry: its 223 operations as a system of equations, and from them, lane by lane, that its
  two results are the twenty rounds of `Lane.threefry` on the lane's counter words.
-/
module

public import proofs.«01_k».proof.ReferenceIdeal
public import proofs.«01_k».proof.Proof.Gen.ReferenceIdeal
public import proofs.«01_k».proof.Proof.HostLine
public import proofs.«01_k».proof.Proof.Lane

@[expose] public section

noncomputable section

namespace Cert.Proof.Ref

open Idealize Idealize.SL.Sem Idealize.ShloMosaic Idealize.ShloMosaic.StableHlo Cert.ReferenceIdeal Cert.Proof.HostLine
open Cert.ReferenceIdeal.Facts₀ Cert.ReferenceIdeal.Facts
open Cert.Proof.Lane (rnd evens odds inject parity threefry)

instance : Cert.ReferenceIdeal.Facts := Cert.ReferenceIdeal.Gen.facts

variable {F : FTy → Type} [FloatOps F]

/-- A vector of words over the states, as a buffer holds it, -/
abbrev BV (F : FTy → Type) : Type := (⟨S1000000, .i32⟩ : BufTy).Contents (Elt F)
/-- and a single word. -/
abbrev B0 (F : FTy → Type) : Type := (⟨S_, .i32⟩ : BufTy).Contents (Elt F)

/-- The one index of a single word. -/
abbrev o : S_.Idx := fun a => a.elim0

theorem host_shli {x y : BitVec 32} (h : y.toNat < 32) : IntOp.shli .host x y = x <<< y := if_pos h
theorem host_shrui {x y : BitVec 32} (h : y.toNat < 32) : IntOp.shrui .host x y = x >>> y := if_pos h

theorem spread_at (w : B0 F) (j : S1000000.Idx) : (broadcastInDim S1000000 ![] bcast_S_S1000000 w : BV F) j = w o :=
  congrArg w (Subsingleton.elim _ _)

/-- The equations of a round give the round on a lane. -/
theorem round_use {x₀ x₁ x y b b' u v w : BV F} {c c' : B0 F} {r s : BitVec 32} {R : Prop} (hr : r.toNat < 32) (hs : s.toNat < 32)
    {j : S1000000.Idx} {p : BitVec 32 × BitVec 32} (hp : (x₀ j, x₁ j) = p)
    (E : x = addi x₀ x₁ ∧ c = constantI S_ 32 r ∧ b = broadcastInDim S1000000 ![] bcast_S_S1000000 c ∧ u = Host.shli x₁ b
      ∧ c' = constantI S_ 32 s ∧ b' = broadcastInDim S1000000 ![] bcast_S_S1000000 c' ∧ v = Host.shrui x₁ b' ∧ w = ori u v
      ∧ y = xori x w ∧ R) : (x j, y j) = rnd r s p ∧ R := by
  obtain ⟨rfl, rfl, rfl, rfl, rfl, rfl, rfl, rfl, rfl, hR⟩ := E
  subst hp
  refine ⟨?_, hR⟩
  have e₁ : (Host.shli x₁ (broadcastInDim S1000000 ![] bcast_S_S1000000 (constantI S_ 32 r)) : BV F) j = x₁ j <<< r := host_shli hr
  have e₂ : (Host.shrui x₁ (broadcastInDim S1000000 ![] bcast_S_S1000000 (constantI S_ 32 s)) : BV F) j = x₁ j >>> s := host_shrui hs
  show (_, (x₀ j + x₁ j) ^^^ (_ ||| _)) = _
  rw [e₁, e₂]; rfl

/-- The equations of the key words that follow a group, the second with a group number `n`. -/
theorem inject_use {x₀ x₁ x y z b b' b'' : BV F} {k l c : B0 F} {n : BitVec 32} {R : Prop}
    {j : S1000000.Idx} {p : BitVec 32 × BitVec 32} (hp : (x₀ j, x₁ j) = p)
    (E : b = broadcastInDim S1000000 ![] bcast_S_S1000000 k ∧ x = addi x₀ b ∧ b' = broadcastInDim S1000000 ![] bcast_S_S1000000 l
      ∧ y = addi x₁ b' ∧ c = constantI S_ 32 n ∧ b'' = broadcastInDim S1000000 ![] bcast_S_S1000000 c ∧ z = addi y b'' ∧ R) :
    (x j, z j) = inject (k o) (l o + n) p ∧ R := by
  obtain ⟨rfl, rfl, rfl, rfl, rfl, rfl, rfl, hR⟩ := E
  subst hp
  refine ⟨?_, hR⟩
  show (x₀ j + (broadcastInDim S1000000 ![] bcast_S_S1000000 k : BV F) j,
    x₁ j + (broadcastInDim S1000000 ![] bcast_S_S1000000 l : BV F) j + n) = (x₀ j + k o, x₁ j + (l o + n))
  rw [spread_at, spread_at, BitVec.add_assoc]

set_option maxHeartbeats 4000000 in
/-- The call's operations, and what they leave in its two results. -/
theorem threefry_line :
    Line (fn_threefry2x32.body (F := F) main_call0.v5 main_call0.v7 main_call0.v14 main_call0.v13 main_call0_call0) 30 252 fun W =>
      ∀ j : S1000000.Idx, ((trd W main_call0_call0.v171 : BV F) j, (trd W main_call0_call0.v175 : BV F) j)
        = threefry ((trd W main_call0.v5 : B0 F) o) ((trd W main_call0.v7 : B0 F) o) ((trd W main_call0.v14 : BV F) j) ((trd W main_call0.v13 : BV F) j) := by
  unfold fn_threefry2x32.body fn_threefry2x32.body_part0 fn_threefry2x32.body_part1 fn_threefry2x32.body_part2 fn_threefry2x32.body_part3
  apply Line.mono
  · repeat (first
      | (apply Line.tunary; decide; rfl)
      | (apply Line.tbinary; decide; decide; rfl)
      | (apply Line.tnullary; rfl)
      | apply Line.bind
      | apply Line.last
      | exact Line.nil)
  intro W E j
  simp only [and_assoc, true_and] at E
  obtain ⟨e₀, e₁, e₂, e₃, e₄, e₅, e₆, E⟩ := E
  have h : ((trd W main_call0_call0.v3 : BV F) j, (trd W main_call0_call0.v5 : BV F) j)
      = inject ((trd W main_call0.v5 : B0 F) o) ((trd W main_call0.v7 : B0 F) o) ((trd W main_call0.v14 : BV F) j, (trd W main_call0.v13 : BV F) j) := by
    rw [e₄, e₆, e₃, e₅]
    exact Prod.ext (congrArg (_ + ·) (spread_at _ j)) (congrArg (_ + ·) (spread_at _ j))
  have hp : (trd W main_call0_call0.v1 : B0 F) o = parity ((trd W main_call0.v5 : B0 F) o) ((trd W main_call0.v7 : B0 F) o) := by
    rw [e₂, e₀, e₁]; rfl
  obtain ⟨h, E⟩ := round_use (by decide) (by decide) h E
  obtain ⟨h, E⟩ := round_use (by decide) (by decide) h E
  obtain ⟨h, E⟩ := round_use (by decide) (by decide) h E
  obtain ⟨h, E⟩ := round_use (by decide) (by decide) h E
  obtain ⟨h, E⟩ := inject_use h E
  obtain ⟨h, E⟩ := round_use (by decide) (by decide) h E
  obtain ⟨h, E⟩ := round_use (by decide) (by decide) h E
  obtain ⟨h, E⟩ := round_use (by decide) (by decide) h E
  obtain ⟨h, E⟩ := round_use (by decide) (by decide) h E
  obtain ⟨h, E⟩ := inject_use h E
  obtain ⟨h, E⟩ := round_use (by decide) (by decide) h E
  obtain ⟨h, E⟩ := round_use (by decide) (by decide) h E
  obtain ⟨h, E⟩ := round_use (by decide) (by decide) h E
  obtain ⟨h, E⟩ := round_use (by decide) (by decide) h E
  obtain ⟨h, E⟩ := inject_use h E
  obtain ⟨h, E⟩ := round_use (by decide) (by decide) h E
  obtain ⟨h, E⟩ := round_use (by decide) (by decide) h E
  obtain ⟨h, E⟩ := round_use (by decide) (by decide) h E
  obtain ⟨h, E⟩ := round_use (by decide) (by decide) h E
  obtain ⟨h, E⟩ := inject_use h E
  obtain ⟨h, E⟩ := round_use (by decide) (by decide) h E
  obtain ⟨h, E⟩ := round_use (by decide) (by decide) h E
  obtain ⟨h, E⟩ := round_use (by decide) (by decide) h E
  obtain ⟨h, E⟩ := round_use (by decide) (by decide) h E
  obtain ⟨h, E⟩ := inject_use h E
  rw [h, hp]; rfl

end Cert.Proof.Ref

end
-- ==== Proof.RefLane.lean ====
/-
  The reference's arithmetic on one state: the draw from its bits, its negated logarithm, the weight.
-/
module

public import Idealize.ShloMosaic.Lib.Tactic

@[expose] public section

noncomputable section

namespace Cert.Proof.Ref

open Idealize.ShloMosaic

variable {F : FTy → Type} [FloatOps F]

/-- The reference's draw from 23 bits: the float of exponent 0 and that significand, less one, scaled to [0, 1). -/
def unitOf (n : BitVec 32) : F .f32 :=
  FloatOps.maximumf (FloatOps.ofBits .f32 0x00000000#32)
    (FloatOps.addf (FloatOps.mulf (FloatOps.subf (FloatOps.ofBits .f32 (n ||| 1065353216#32)) (FloatOps.ofBits .f32 0x3F800000#32))
      (FloatOps.subf (FloatOps.ofBits .f32 0x3F800000#32) (FloatOps.ofBits .f32 0x00000000#32))) (FloatOps.ofBits .f32 0x00000000#32))

/-- A float of the reference, by its bits. -/
abbrev fl (b : BitVec 32) : F .f32 := FloatOps.ofBits .f32 b

/-- One where a draw is below a threshold, else zero. -/
def below (u : F .f32) (b : BitVec 32) : BitVec 32 := (FloatOps.cmpf .olt u (fl b)).setWidth 32

/-- The thresholds 2^-1, …, 2^-22. -/
def thresholds : List (BitVec 32) :=
  [0x3F000000#32, 0x3E800000#32, 0x3E000000#32, 0x3D800000#32, 0x3D000000#32, 0x3C800000#32, 0x3C000000#32, 0x3B800000#32,
    0x3B000000#32, 0x3A800000#32, 0x3A000000#32, 0x39800000#32, 0x39000000#32, 0x38800000#32, 0x38000000#32, 0x37800000#32,
    0x37000000#32, 0x36800000#32, 0x36000000#32, 0x35800000#32, 0x35000000#32, 0x34800000#32]

/-- How many thresholds a draw is below. -/
def count (u : F .f32) : BitVec 32 := thresholds.foldl (fun n b => n + below u b) 0#32

/-- The reference's power series. -/
def powers (s : F .f32) : F .f32 :=
  let m := FloatOps.mulf (F := F) (φ := .f32)
  let a := FloatOps.addf (F := F) (φ := .f32)
  let q := m s s
  m (fl 0x40000000#32) (a (a (a (a s (m (fl 0x3EAAAAAB#32) (m q s))) (m (fl 0x3E4CCCCD#32) (m s (m q q))))
    (m (fl 0x3E124925#32) (m (m s q) (m q q)))) (m (fl 0x3DE38E39#32) (m s (m (m q q) (m q q)))))

/-- The quotient the series is taken at. -/
def quot (m : F .f32) : F .f32 :=
  FloatOps.hostDivf (FloatOps.subf m (fl 0x3F800000#32)) (FloatOps.addf m (fl 0x3F800000#32))

/-- The reference's negated logarithm of a draw. -/
def negLog (u : F .f32) : F .f32 :=
  let j := count u
  let m := FloatOps.mulf u (FloatOps.sitofp .f32 (IntOp.shli .host 1#32 j))
  let c := FloatOps.cmpf .olt m (fl 0x3F3504F3#32)
  Scalar.select (FloatOps.cmpf .oeq u (fl 0x00000000#32)) (fl 0x42AEAC50#32)
    (FloatOps.subf (FloatOps.mulf (FloatOps.sitofp .f32 (Scalar.select c (j + 1#32) j)) (fl 0x3F317218#32))
      (powers (quot (Scalar.select c (FloatOps.mulf (fl 0x40000000#32) m) m))))

/-- The reference's weight of a draw's bits and a logit. -/
def weight (n : BitVec 32) (l : F .f32) : F .f32 :=
  FloatOps.mulf (negLog (unitOf n)) (FloatOps.hostUnary .exp (FloatOps.hostNegf l))

/-- The weight with the logarithm itself, the draw taken no smaller than the smallest normal float. -/
def logWeight (n : BitVec 32) (l : F .f32) : F .f32 :=
  FloatOps.mulf (FloatOps.hostNegf (FloatOps.hostUnary .log (FloatOps.maximumf (unitOf n) (fl 0x00800000#32))))
    (FloatOps.hostUnary .exp (FloatOps.hostNegf l))

/-- The weight of the state with number `s`: the logarithm for the first states, the series for the last, and the lesser
where the two ranges overlap. -/
def stateWeight (s n : BitVec 32) (l : F .f32) : F .f32 :=
  Scalar.select (IntOp.cmpi .slt s 766528#32) (logWeight n l)
    (Scalar.select (IntOp.cmpi .slt s 774144#32) (FloatOps.minimumf (weight n l) (logWeight n l)) (weight n l))

end Cert.Proof.Ref
-- ==== Proof.RefUniform.lean ====
/-
  The reference's uniform draws: the operations around Threefry as a system of equations, and from them each state's
  draw as a function of the state's number and the two key words.
-/
module

public import proofs.«01_k».proof.Proof.RefThreefry
public import proofs.«01_k».proof.Proof.RefLane

@[expose] public section

noncomputable section

namespace Cert.Proof.Ref

open Idealize Idealize.SL.Sem Idealize.ShloMosaic Idealize.ShloMosaic.StableHlo Cert.ReferenceIdeal Cert.Proof.HostLine
open Cert.ReferenceIdeal.Facts₀ Cert.ReferenceIdeal.Facts
open Cert.Proof.Lane (threefry)

variable {F : FTy → Type} [FloatOps F]

/-- The 23 bits of state `j` under the key words `k₀`, `k₁`. -/
def drawn (k₀ k₁ : BitVec 32) (j : S1000000.Idx) : BitVec 32 :=
  let p := threefry k₀ k₁ 0 (BitVec.ofNat 32 (j 0).val)
  (p.1 ^^^ p.2) >>> (9#32)

/-- The index of a key word. -/
def word (n : Fin 2) : S2.Idx := fun a => ⟨n.val, by match a with | 0 => exact n.isLt⟩

attribute [local irreducible] fn_threefry2x32.body in
theorem uniform_line : Line (fn_uniform.body (F := F) (.of main_v6) (.of main_cst) (.of main_cst_1) main_call0) 13 270 fun W =>
    rd W main_cst = (constant S_ .f32 0x00000000#32 : FVec F S_ .f32) → rd W main_cst_1 = (constant S_ .f32 0x3F800000#32 : FVec F S_ .f32) →
    ∀ j, (rd W main_v7 : FVec F S1000000 .f32) j
      = unitOf (drawn ((rd W main_v6 : IVec S2 32) (word 0)) ((rd W main_v6 : IVec S2 32) (word 1)) j) := by
  unfold fn_uniform.body
  apply Line.mono
  · repeat (first
      | (apply Line.tunary; decide; rfl)
      | (apply Line.tbinary; decide; decide; rfl)
      | (apply Line.tnullary; rfl)
      | (apply Line.reshape; decide; rfl)
      | (apply Line.bind; exact threefry_line)
      | exact Line.nil)
  intro W E h₀ h₁ j
  obtain ⟨e0, e1, e2, e3, e4, e5, e6, e7, e8, ec, e9, e10, ec0, e11, e12, e13, e14, eT, e16, ec1, e17, e18, ec2, e19, e20, e21,
    ecst, e22, e23, e24, e25, e26, e27, e28, e29, e30, -⟩ := E
  have h5 : (trd W main_call0.v5 : B0 F) o = (rd W main_v6 : IVec S2 32) (word 0) := by
    have : (trd W main_call0.v5 : B0 F) = shapeCast S_ (trd W main_call0.v4 : IVec S1 32) shapeCasts_S1_S_ := e5
    rw [this, e4]
    show (rd W main_v6 : IVec S2 32) _ = _
    congr 1; funext a; match a with | 0 => exact Fin.ext (by decide)
  have h7 : (trd W main_call0.v7 : B0 F) o = (rd W main_v6 : IVec S2 32) (word 1) := by
    have : (trd W main_call0.v7 : B0 F) = shapeCast S_ (trd W main_call0.v6 : IVec S1 32) shapeCasts_S1_S_ := e7
    rw [this, e6]
    show (rd W main_v6 : IVec S2 32) _ = _
    congr 1; funext a; match a with | 0 => exact Fin.ext (by decide)
  have h13 : (trd W main_call0.v13 : BV F) j = BitVec.ofNat 32 (j 0).val := by
    rw [e13, e10, e9, ec, e8]
    show BitVec.setWidth 32 ((1#64) * BitVec.ofNat 64 (j 0).val) = _
    rw [BitVec.one_mul]; apply BitVec.eq_of_toNat_eq; simp
  have h14 : (trd W main_call0.v14 : BV F) j = 0 := by
    rw [e14, e12, e11, ec0, e10, e9, ec, e8]
    show BitVec.setWidth 32 (IntOp.shrui .host ((1#64) * BitVec.ofNat 64 (j 0).val) 32#64) = _
    have hs : ∀ x : BitVec 64, IntOp.shrui .host x 32#64 = x >>> 32#64 := fun x => if_pos (by decide)
    have hj : (j 0).val < 1000000 := (j 0).isLt
    rw [BitVec.one_mul, hs]; apply BitVec.eq_of_toNat_eq
    simp [Nat.shiftRight_eq_div_pow]; omega
  have hT := eT j
  rw [h5, h7, h13, h14] at hT
  have h18 : (trd W main_call0.v18 : BV F) j
      = drawn ((rd W main_v6 : IVec S2 32) (word 0)) ((rd W main_v6 : IVec S2 32) (word 1)) j := by
    rw [e18, e17, ec1, e16]
    show IntOp.shrui .host (_ ^^^ _) 9#32 = _
    rw [host_shrui (by decide), drawn, ← hT]
  have h0 : trd W (.of main_cst : TRef sig _) = (constant S_ .f32 0x00000000#32 : FVec F S_ .f32) := h₀
  have h1 : trd W (.of main_cst_1 : TRef sig _) = (constant S_ .f32 0x3F800000#32 : FVec F S_ .f32) := h₁
  show (trd W main_call0.v30 : FVec F S1000000 .f32) j = _
  rw [e30, e29, e28, e27, e26, e25, e24, e23, e22, ecst, e21, e20, e19, ec2, e3, e2, e1, e0, h0, h1, ← h18]
  rfl

end Cert.Proof.Ref
-- ==== Proof.RefMain.lean ====
/-
  The reference's @main: its operations as a system of equations, and from them the weight of each state as a function
  of the seed, the state's number and its logit, and the two results as reductions over the weights.
-/
module

public import proofs.«01_k».proof.Proof.RefUniform

@[expose] public section

noncomputable section

namespace Cert.Proof.Ref

open Idealize Idealize.SL.Sem Idealize.ShloMosaic Idealize.ShloMosaic.StableHlo Cert.ReferenceIdeal Cert.Proof.HostLine
open Cert.ReferenceIdeal.Facts₀ Cert.ReferenceIdeal.Facts

variable {F : FTy → Type} [FloatOps F]

/-- A vector of floats over the states. -/
abbrev FV (F : FTy → Type) : Type := (⟨S1000000, .f32⟩ : BufTy).Contents (Elt F)

/-- The equations of one threshold add its comparison to the count. -/
theorem count_use {u : FV F} {c : FVec F S_ .f32} {b : FV F} {t : IVec S1000000 1} {a e a' : BV F} {x : BitVec 32}
    {n : S1000000.Idx → BitVec 32} {R : Prop} (hp : ∀ j, a j = n j)
    (E : c = constant S_ .f32 x ∧ b = broadcastInDim S1000000 ![] bcast_S_S1000000 c ∧ t = cmpf .olt u b ∧ e = extui 32 t natLt_1_32
      ∧ a' = addi a e ∧ R) : (∀ j, a' j = n j + below (u j) x) ∧ R := by
  obtain ⟨rfl, rfl, rfl, rfl, rfl, hR⟩ := E
  exact ⟨fun j => congrArg (· + below (u j) x) (hp j), hR⟩

/-- The least weight. -/
def least (w : FV F) : FVec F S_ .f32 :=
  Host.reduce FloatOps.minimumf w (constant S_ .f32 0x7F800000#32) reducesTo_S1000000_S_d0 h_S_

/-- Each state whose weight is the least, and 1000000 in the place of every other. -/
def candidates (w : FV F) : IVec S1000000 32 :=
  select (cmpf .oeq w (broadcastInDim S1000000 ![] bcast_S_S1000000 (least w))) (iotaInDim S1000000 32 0)
    (broadcastInDim S1000000 ![] bcast_S_S1000000 (constantI S_ 32 1000000#32))

/-- The least of them. -/
def first (w : FV F) : IVec S_ 32 :=
  Host.reduce IntOp.minsi (candidates w) (constantI S_ 32 2147483647#32) reducesTo_S1000000_S_d0 h_S_

/-- What the reference's buffers hold of its result: the weights, and the reduction over them. -/
def Facts (W : Valuation τ sig (Elt F)) : Prop :=
  (∀ j : S1000000.Idx, (rd W main_v165 : FV F) j
      = stateWeight (BitVec.ofNat 32 (j 0).val) (drawn 0 ((rd W main_arg1 : B0 F) o) j) ((rd W main_arg0 : FV F) j)) ∧
    (rd W main_v170 : IVec S_ 32) = first (rd W main_v165 : FV F)

attribute [local irreducible] fn_uniform.body in
set_option maxHeartbeats 4000000 in
theorem main_line (d : Dev nD) : Line (main (F := F) d) 2 479 Facts := by
  unfold main main_part0 main_part1 main_part2 main_part3 fn_where.body fn_where_0.body fn_where_1.body fn_where_2.body
  apply Line.mono
  · repeat (first
      | (apply Line.unary; decide; rfl)
      | (apply Line.binary; decide; decide; rfl)
      | (apply Line.nullary; rfl)
      | (apply Line.reshape; decide; rfl)
      | (apply Line.tunary; decide; rfl)
      | (apply Line.tternary; decide; decide; decide; rfl)
      | (apply Line.bind; exact uniform_line)
      | apply Line.bind
      | apply Line.last
      | exact Line.nil)
  intro W E
  simp only [and_assoc, true_and, and_true] at E
  obtain ⟨k, k0, k1, k2, k3, k4, k5, k6, e6, cst0, cst1, eU, E⟩ := E
  obtain ⟨t0, t1, t2, t3, t4, t5, t6, E⟩ := E
  have h : ∀ j, (rd W main_v12 : BV F) j = 0#32 + below ((rd W main_v7 : FV F) j) 0x3F000000#32 := by
    intro j; rw [t6, t5, t4, t3, t2, t1, t0]; rfl
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨h, E⟩ := count_use h E
  obtain ⟨c25, e97, e98, e99, e100, c26, e101, e102, c27, e103, e104, e105, c28, e106, e107, e108, c29, e109, e110, c30,
    e111, e112, e113, e114, e115, c31, e116, e117, e118, e119, e120, e121, c32, e122, e123, e124, e125, e126,
    e127, e128, c33, e129, e130, e131, e132, e133, e134, e135, c34, e136, e137, e138, c35, e139, e140, e141, c36,
    e142, e143, e144, c37, e145, e146, c38, e147a, e147, e148, e149, e150, c39, e151, e152, e153, e154, e155, e156, e157,
    e158, c40, e159, e160, c41, e161, e162, e163, e164, e165, c42, e166, e167, e168, c43, e169a, e169b, e169, c44, e170⟩ := E
  have h166 : (rd W main_v166 : FVec F S_ .f32) = least (rd W main_v165 : FV F) := by
    rw [e166, c42]; rfl
  have h169 : (rd W main_v169 : IVec S1000000 32) = candidates (rd W main_v165 : FV F) := by
    change rd W main_v169 = (select (rd W main_v168 : IVec S1000000 1) (rd W main_v158 : IVec S1000000 32)
      (trd W main_call6.v1 : IVec S1000000 32) : IVec S1000000 32) at e169
    have c : trd W main_call6.v1 = (broadcastInDim S1000000 ![] bcast_S_S1000000 (constantI S_ 32 1000000#32) : IVec S1000000 32) := by
      change trd W main_call6.v0 = (id (rd W main_c_43 : IVec S_ 32) : IVec S_ 32) at e169a
      change trd W main_call6.v1 = (broadcastInDim S1000000 ![] bcast_S_S1000000 (trd W main_call6.v0 : IVec S_ 32) : IVec S1000000 32) at e169b
      rw [e169b, e169a, c43]; rfl
    rw [e169, c, e168, e167, h166, e158]; rfl
  refine ⟨fun j => ?_, ?_⟩
  · have hu : (rd W main_v7 : FV F) j = unitOf (drawn 0 ((rd W main_arg1 : B0 F) o) j) := by
      have w0 : (rd W main_v6 : IVec S2 32) (word 0) = (0 : BitVec 32) := by
        rw [e6, k2, k1, k0, k]
        rfl
      have w1 : (rd W main_v6 : IVec S2 32) (word 1) = (rd W main_arg1 : B0 F) o := by
        rw [e6, k6, k5, k4, k3]
        have h : ∀ x : BitVec 32, IntOp.andi x 4294967295#32 = x := fun x => BitVec.and_allOnes
        exact (h _).trans (congrArg _ (Subsingleton.elim _ _))
      rw [eU cst0 cst1 j, w0, w1]
    have h96 : (rd W main_v96 : BV F) j = count ((rd W main_v7 : FV F) j) := h j
    have h100 : (rd W main_v100 : FV F) j = FloatOps.mulf ((rd W main_v7 : FV F) j)
        (FloatOps.sitofp .f32 (IntOp.shli .host 1#32 (count ((rd W main_v7 : FV F) j)))) := by
      rw [← h96, e100, e99, e98, e97, c25]; rfl
    have h102 : (rd W main_v102 : IVec S1000000 1) j = FloatOps.cmpf .olt ((rd W main_v100 : FV F) j) (fl 0x3F3504F3#32) := by
      rw [e102, e101, c26]; rfl
    have h105 : (rd W main_v105 : FV F) j = Scalar.select ((rd W main_v102 : IVec S1000000 1) j)
        (FloatOps.mulf (fl 0x40000000#32) ((rd W main_v100 : FV F) j)) ((rd W main_v100 : FV F) j) := by
      change rd W main_v105 = select (rd W main_v102) (rd W main_v104) (rd W main_v100) at e105
      rw [e105, e104, e103, c27]; rfl
    have h108 : (rd W main_v108 : BV F) j = Scalar.select ((rd W main_v102 : IVec S1000000 1) j)
        (IntOp.addi ((rd W main_v96 : BV F) j) 1#32) ((rd W main_v96 : BV F) j) := by
      change rd W main_v108 = select (rd W main_v102) (rd W main_v107) (rd W main_v96) at e108
      rw [e108, e107, e106, c28]; rfl
    have h113 : (rd W main_v113 : FV F) j = quot ((rd W main_v105 : FV F) j) := by
      rw [e113, e112, e111, e110, e109, c29, c30]; rfl
    have h140 : (rd W main_v140 : FV F) j = powers ((rd W main_v113 : FV F) j) := by
      rw [e140, e139, e138, e137, e136, e135, e134, e133, e132, e131, e130, e129, e128, e127, e126, e125, e124, e123, e122, e121,
        e120, e119, e118, e117, e116, e115, e114, c35, c34, c33, c32, c31]; rfl
    have h144 : (rd W main_v144 : FV F) j = FloatOps.subf (FloatOps.mulf (FloatOps.sitofp .f32 ((rd W main_v108 : BV F) j))
        (fl 0x3F317218#32)) ((rd W main_v140 : FV F) j) := by
      rw [e144, e143, e142, e141, c36]; rfl
    have h147 : (rd W main_v147 : FV F) j = negLog ((rd W main_v7 : FV F) j) := by
      change rd W main_v147 = (select (rd W main_v146 : IVec S1000000 1) (trd W main_call3.v0 : FV F) (rd W main_v144 : FV F) : FV F) at e147
      have : (rd W main_v147 : FV F) j = Scalar.select (FloatOps.cmpf .oeq ((rd W main_v7 : FV F) j) (fl 0x00000000#32))
          (fl 0x42AEAC50#32) ((rd W main_v144 : FV F) j) := by
        change trd W main_call3.v0 = broadcastInDim S1000000 ![] bcast_S_S1000000 (rd W main_cst_38) at e147a
        rw [e147, e147a, c38, e146, e145, c37]; rfl
      rw [this, h144, h140, h113, h108, h105, h102, h100, h96]; rfl
    have h150 : (rd W main_v150 : FV F) j = FloatOps.mulf ((rd W main_v147 : FV F) j)
        (FloatOps.hostUnary .exp (FloatOps.hostNegf ((rd W main_arg0 : FV F) j))) := by
      rw [e150, e149, e148]; rfl
    have h157 : (rd W main_v157 : FV F) j = logWeight (drawn 0 ((rd W main_arg1 : B0 F) o) j) ((rd W main_arg0 : FV F) j) := by
      rw [e157, e156, e155, e154, e153, e152, e151, c39]
      show FloatOps.mulf (FloatOps.hostNegf (FloatOps.hostUnary .log (FloatOps.maximumf ((rd W main_v7 : FV F) j) _))) _ = _
      rw [hu]; rfl
    have h164 : (rd W main_v164 : FV F) j = Scalar.select (IntOp.cmpi .slt (BitVec.ofNat 32 (j 0).val) 774144#32)
        (FloatOps.minimumf ((rd W main_v150 : FV F) j) ((rd W main_v157 : FV F) j)) ((rd W main_v150 : FV F) j) := by
      change rd W main_v164 = (select (rd W main_v162 : IVec S1000000 1) (rd W main_v163 : FV F) (rd W main_v150 : FV F) : FV F) at e164
      rw [e164, e163, e162, e161, c41, e158]; rfl
    change rd W main_v165 = (select (rd W main_v160 : IVec S1000000 1) (rd W main_v157 : FV F) (rd W main_v164 : FV F) : FV F) at e165
    have h165 : (rd W main_v165 : FV F) j = Scalar.select (IntOp.cmpi .slt (BitVec.ofNat 32 (j 0).val) 766528#32)
        ((rd W main_v157 : FV F) j) ((rd W main_v164 : FV F) j) := by
      rw [e165, e160, e159, c40, e158]; rfl
    rw [h165, h164, h157, h150, h147, hu]; rfl
  · rw [e170, h169, c44]; rfl

end Cert.Proof.Ref
-- ==== Proof.RefRun.lean ====
/-
  Every run of the reference: its arguments unchanged, its result the reduction over the states' weights, every counter
  at zero.
-/
module

public import proofs.«01_k».proof.Proof.RefMain

@[expose] public section

noncomputable section

namespace Cert.Proof.Ref

open Idealize Idealize.SL.Sem Idealize.ShloMosaic Idealize.ShloMosaic.StableHlo Cert.ReferenceIdeal Cert.Proof.HostLine
open Cert.ReferenceIdeal.Facts₀ Cert.ReferenceIdeal.Facts

variable {F : FTy → Type} [FloatOps F]

/-- What the final memory `M` holds at device `d`, of a run from `m`. -/
def Ends (m : (ℓ : Loc nD τ sig) → Buf (Elt F) ℓ) (d : Dev nD) (M : (ℓ : Loc nD τ sig) → Buf (Elt F) ℓ) : Prop :=
  (M ((d.tc : Thread nD τ).loc main_arg0) = m ((d.tc : Thread nD τ).loc main_arg0) ∧
    M ((d.tc : Thread nD τ).loc main_arg1) = m ((d.tc : Thread nD τ).loc main_arg1)) ∧
  ∃ w : FV F, (∀ j : S1000000.Idx, w j = stateWeight (BitVec.ofNat 32 (j 0).val) (drawn 0 ((m ((d.tc : Thread nD τ).loc main_arg1) : B0 F) o) j)
      ((m ((d.tc : Thread nD τ).loc main_arg0) : FV F) j)) ∧
    (M ((d.tc : Thread nD τ).loc main_v170) : IVec S_ 32) = first w

theorem run_main (m : (ℓ : Loc nD τ sig) → Buf (Elt F) ℓ) (ρ : Dev nD → PrngReg) :
    θ_run (defs (F := F)) (onTc (τ := τ) (main (F := F))) ⟨m, fun _ => 0, ρ⟩ (fun r => (∀ d : Dev nD, Ends m d r.2.mem) ∧ r.2.sem = fun _ => 0) := by
  refine θ_run_mono (Line.run (by decide) (by decide) (by decide) (0 : Dev nD) (fun d => rfl) (main_line (F := F) 0) m ρ) fun r hr => ⟨fun d => ?_, hr.2⟩
  obtain ⟨ha, W, hW, hw, h₁⟩ := hr.1 d
  have a₀ := ha main_arg0 (by decide)
  have a₁ := ha main_arg1 (by decide)
  refine ⟨⟨a₀, a₁⟩, rd W main_v165, fun j => ?_, (hW main_v170).trans h₁⟩
  rw [hw j, ← hW main_arg0, ← hW main_arg1, a₀, a₁]

end Cert.Proof.Ref

end
-- ==== Proof.CompactI.lean ====
/-
  The tile kernel with its 1446 statements a trip put together as the functions of Proof/Draw.lean: one trip loads four
  vectors of logits and takes a step of each of the four chains. Said of the
  idealised program, as Proof/Compact.lean says it of the kernel.
-/
module

public import Idealize.ShloMosaic.Lib.Pipeline.Regions
public import proofs.«01_k».proof.Proof.Gen.KernelIdeal
public import proofs.«01_k».proof.Proof.Draw

@[expose] public section

set_option maxRecDepth 16384

noncomputable section

namespace Cert.Proof.TileI

open Cert.KernelIdeal Cert.KernelIdeal.Gen
open Idealize.ShloMosaic Idealize.SL.Sem
open Cert.Proof.Draw

variable {F : FTy → Type} [FloatOps F]

/-- The kernel's float vectors and words. -/
abbrev FV (F : FTy → Type) : Type := FVec F S16 .f32
abbrev WV : Type := IVec S16 32

/-- The four chains: each its running minimum and the state that attains it. -/
abbrev Acc (F : FTy → Type) : Type := FV F × WV × FV F × WV × FV F × WV × FV F × WV

/-- The state numbers of vector `r` of trip `k`, from the number `g` of the tile's first state. -/
def states (g : BitVec 32) (k : Fin k1_t1_loop.trips) (c : BitVec 32) (lanes : WV) : WV :=
  addi (broadcast S16 (Scalar.addi g (Scalar.addi (Scalar.muli (Scf.iv 0#32 1#32 k) 64#32) c))) lanes

/-- One step of the four chains at trip `k`, from the four vectors of logits. -/
def stepAll (K : Key) (g : BitVec 32) (lanes : WV) (k : Fin k1_t1_loop.trips) (l₀ l₁ l₂ l₃ : FV F) : Acc F → Acc F :=
  fun (w₀, i₀, w₁, i₁, w₂, i₂, w₃, i₃) =>
    have s₀ : WV := states g k 0#32 lanes
    have s₁ : WV := states g k 16#32 lanes
    have s₂ : WV := states g k 32#32 lanes
    have s₃ : WV := states g k 48#32 lanes
    have u₀ : FV F := weight K s₀ (shapeCast S16 l₀ shapeCasts_S16_S16)
    have u₁ : FV F := weight K s₁ (shapeCast S16 l₁ shapeCasts_S16_S16)
    have u₂ : FV F := weight K s₂ (shapeCast S16 l₂ shapeCasts_S16_S16)
    have u₃ : FV F := weight K s₃ (shapeCast S16 l₃ shapeCasts_S16_S16)
    (takeW u₀ w₀, takeI u₀ w₀ s₀ i₀, takeW u₁ w₁, takeI u₁ w₁ s₁ i₁, takeW u₂ w₂, takeI u₂ w₂ s₂ i₂, takeW u₃ w₃, takeI u₃ w₃ s₃ i₃)

/-- The four chains merged in order: the weight and the state. -/
def mergeAll : Acc F → FV F × WV :=
  fun (w₀, i₀, w₁, i₁, w₂, i₂, w₃, i₃) =>
    have v₁ : FV F := mergeW w₀ i₀ w₁ i₁
    have j₁ : WV := mergeI w₀ i₀ w₁ i₁
    have v₂ : FV F := mergeW v₁ j₁ w₂ i₂
    have j₂ : WV := mergeI v₁ j₁ w₂ i₂
    (mergeW v₂ j₂ w₃ i₃, mergeI v₂ j₂ w₃ i₃)

/-- One trip of the loop. -/
def trip (i : grid1.Coords) (arg6 : Memref sig .scVector .vmem S7296 .f32) (K : Key) (g : BitVec 32) (lanes : WV) (k : Fin k1_t1_loop.trips) (acc : Acc F) :
    Prog (TpuEff nD τ sig (Elt F) Λ₀ (.scVector ((i 0).castLE hcore1) ((i 1).castLE hsub1))) (Acc F) := do
  let l₀ : Vec F S16 .f32 ← Prog.lift (.load arg6 (Rect.unit (s := S7296) (k1_off2 k 0#32) S16.size (k1_off2_inb k 0)).toLoadRect (View.loadsAt_vmem h_S16))
  let l₁ : Vec F S16 .f32 ← Prog.lift (.load arg6 (Rect.unit (s := S7296) (k1_off2 k 16#32) S16.size (k1_off2_inb k 1)).toLoadRect (View.loadsAt_vmem h_S16))
  let l₂ : Vec F S16 .f32 ← Prog.lift (.load arg6 (Rect.unit (s := S7296) (k1_off2 k 32#32) S16.size (k1_off2_inb k 2)).toLoadRect (View.loadsAt_vmem h_S16))
  let l₃ : Vec F S16 .f32 ← Prog.lift (.load arg6 (Rect.unit (s := S7296) (k1_off2 k 48#32) S16.size (k1_off2_inb k 3)).toLoadRect (View.loadsAt_vmem h_S16))
  pure (stepAll K g lanes k l₀ l₁ l₂ l₃ acc)

/-- The key words from the seed's. -/
def keyOf (s : WV) : Key :=
  ⟨s, bc 0#32, xori (xori (bc 0#32) s) (bc 466688986#32), addi (xori (xori (bc 0#32) s) (bc 466688986#32)) (bc 1#32), addi (bc 0#32) (bc 2#32), addi s (bc 3#32),
    addi (xori (xori (bc 0#32) s) (bc 466688986#32)) (bc 4#32), addi (bc 0#32) (bc 5#32)⟩

/-- The number of the first state of the tile at `i`. -/
def firstState (i : grid1.Coords) : BitVec 32 :=
  Scalar.addi 766528#32 (Scalar.muli (Scalar.addi (Scalar.muli (BitVec.ofNat 32 (i 1).val) 2#32) (BitVec.ofNat 32 (i 0).val)) 7296#32)

/-- The lane numbers. -/
def lanes : WV := iota .scVector S16 32 [0] iota_S16_d0_w32_scVector

/-- The chains before the loop: infinite weights. -/
def acc₀ : Acc F := (bcf 0x7F800000#32, bc 0#32, bcf 0x7F800000#32, bc 0#32, bcf 0x7F800000#32, bc 0#32, bcf 0x7F800000#32, bc 0#32)

/-- The tile kernel, its arithmetic put together. -/
def stage (i : grid1.Coords) (arg2 : Memref sig .scVector .hbm S233472 .f32) (arg3 : Memref sig .scVector .hbm S16 .i32) (harg3 : arg3.IsWhole)
    (arg4 : Memref sig .scVector .hbm S512 .f32) (arg5 : Memref sig .scVector .hbm S512 .i32)
    (arg6 : Memref sig .scVector .vmem S7296 .f32) (harg6 : arg6.IsWhole) (arg7 : Memref sig .scVector .vmem S16 .i32) (harg7 : arg7.IsWhole)
    (arg8 : Memref sig .scVector .vmem S16 .f32) (harg8 : arg8.IsWhole) (arg9 : Memref sig .scVector .vmem S16 .i32) (harg9 : arg9.IsWhole)
    (s₀ s₁ s₂ s₃ : DmaSems sig S_) :
    Prog (TpuEff nD τ sig (Elt F) Λ₀ (.scVector ((i 0).castLE hcore1) ((i 1).castLE hsub1))) PUnit := do
  Prog.lift (.enqueueDma (arg2.slice (Rect.unit (s := S233472) (k1_off1 i) S7296.size (k1_off1_inb i)) (fun _ => rfl)) (.here arg6) (.dma s₀.sem) (View.wordExact_bits rfl) harg6.wordExact ⟨Or.inl rfl, trivial⟩)
  Prog.lift (.waitDma2 s₀.sem (arg2.slice (Rect.unit (s := S233472) (k1_off1 i) S7296.size (k1_off1_inb i)) (fun _ => rfl)) arg6 (View.wordExact_bits rfl) harg6.wordExact)
  Prog.lift (.enqueueDma arg3 (.here arg7) (.dma s₁.sem) harg3.wordExact harg7.wordExact ⟨Or.inl rfl, trivial⟩)
  Prog.lift (.waitDma2 s₁.sem arg3 arg7 harg3.wordExact harg7.wordExact)
  let seed : Vec F S16 .i32 ← Prog.lift (.load arg7 (Rect.unit (s := S16) ![0] S16.size inb_S16_S16_0).toLoadRect (View.loadsAt_vmem h_S16))
  let acc ← Scf.Loop.for k1_t1_loop k1_t1_ok acc₀ (trip i arg6 (keyOf (shapeCast S16 seed shapeCasts_S16_S16)) (firstState i) lanes)
  let _ : Vec F S16 .f32 ← Prog.lift (.load arg8 (Rect.unit (s := S16) ![0] S16.size inb_S16_S16_0).toLoadRect (View.loadsAt_vmem h_S16))
  Prog.lift (.store arg8 (Rect.unit (s := S16) ![0] S16.size inb_S16_S16_0) (shapeCast S16 (mergeAll acc).1 shapeCasts_S16_S16) Finset.univ (View.stores_vmem_bits_univ h_S16 rfl) (.inl rfl))
  let _ : Vec F S16 .i32 ← Prog.lift (.load arg9 (Rect.unit (s := S16) ![0] S16.size inb_S16_S16_0).toLoadRect (View.loadsAt_vmem h_S16))
  Prog.lift (.store arg9 (Rect.unit (s := S16) ![0] S16.size inb_S16_S16_0) (shapeCast S16 (mergeAll acc).2 shapeCasts_S16_S16) Finset.univ (View.stores_vmem_bits_univ h_S16 rfl) (.inl rfl))
  Prog.lift (.enqueueDma arg8 (.here (arg4.slice (Rect.unit (s := S512) (k1_off3 i) S16.size (k1_off3_inb i)) (fun _ => rfl))) (.dma s₂.sem) harg8.wordExact (View.wordExact_bits rfl) ⟨Or.inl rfl, trivial⟩)
  Prog.lift (.waitDma2 s₂.sem arg8 (arg4.slice (Rect.unit (s := S512) (k1_off3 i) S16.size (k1_off3_inb i)) (fun _ => rfl)) harg8.wordExact (View.wordExact_bits rfl))
  Prog.lift (.enqueueDma arg9 (.here (arg5.slice (Rect.unit (s := S512) (k1_off3 i) S16.size (k1_off3_inb i)) (fun _ => rfl))) (.dma s₃.sem) harg9.wordExact (View.wordExact_bits rfl) ⟨Or.inl rfl, trivial⟩)
  Prog.lift (.waitDma2 s₃.sem arg9 (arg5.slice (Rect.unit (s := S512) (k1_off3 i) S16.size (k1_off3_inb i)) (fun _ => rfl)) harg9.wordExact (View.wordExact_bits rfl))
  pure ⟨⟩

/-- The printed kernel is `stage`. -/
theorem stage_eq (i : grid1.Coords) (arg2 : Memref sig .scVector .hbm S233472 .f32) (harg2 : arg2.IsWhole) (arg3 : Memref sig .scVector .hbm S16 .i32) (harg3 : arg3.IsWhole)
    (arg4 : Memref sig .scVector .hbm S512 .f32) (harg4 : arg4.IsWhole) (arg5 : Memref sig .scVector .hbm S512 .i32) (harg5 : arg5.IsWhole)
    (arg6 : Memref sig .scVector .vmem S7296 .f32) (harg6 : arg6.IsWhole) (arg7 : Memref sig .scVector .vmem S16 .i32) (harg7 : arg7.IsWhole)
    (arg8 : Memref sig .scVector .vmem S16 .f32) (harg8 : arg8.IsWhole) (arg9 : Memref sig .scVector .vmem S16 .i32) (harg9 : arg9.IsWhole)
    (s₀ s₁ s₂ s₃ : DmaSems sig S_) :
    cc1__sc_stage (F := F) i arg2 harg2 arg3 harg3 arg4 harg4 arg5 harg5 arg6 harg6 arg7 harg7 arg8 harg8 arg9 harg9 s₀ s₁ s₂ s₃
      = stage i arg2 arg3 harg3 arg4 arg5 arg6 harg6 arg7 harg7 arg8 harg8 arg9 harg9 s₀ s₁ s₂ s₃ := by
  chain_rfl

end Cert.Proof.TileI

end
-- ==== Proof.TileRunI.lean ====
/-
  One tile's task: the executor's run of the compact tile program (Proof/Compact.lean), the four chains' values carried
  through the loop. Said of the
  idealised program, as Proof/TileRun.lean says it of the kernel.
-/
module

public import proofs.«01_k».proof.Proof.CompactI
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.VecWindow
public import Idealize.ShloMosaic.Lib.Pipeline.Value

@[expose] public section

noncomputable section

namespace Cert.Proof.TileI

open Cert.KernelIdeal Cert.KernelIdeal.Gen
open Cert.Proof.Draw

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
/-- The pipelines' rounds, -/
abbrev UP : Type := URounds (GSem nD τ sig) Unit
/-- and all of it. -/
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-! ## The buffers -/

/-- The logits' slice, the seed's vector and the two results, as locations of device `d`. -/
abbrev xLoc (d : Dev nD) : Loc nD τ sig := (SparseCore.T d).loc main_v4
abbrev sLoc (d : Dev nD) : Loc nD τ sig := (SparseCore.T d).loc main_v0
abbrev wLoc (d : Dev nD) : Loc nD τ sig := (SparseCore.T d).loc main_v5_0
abbrev iLoc (d : Dev nD) : Loc nD τ sig := (SparseCore.T d).loc main_v5_1

local notation "xV" => (Memref.whole Cert.KernelIdeal.main_v4_scv : Memref Cert.KernelIdeal.sig Kind.scVector Space.hbm Cert.KernelIdeal.S233472 EltTy.f32)
local notation "sV" => (Memref.whole Cert.KernelIdeal.main_v0_scv : Memref Cert.KernelIdeal.sig Kind.scVector Space.hbm Cert.KernelIdeal.S16 EltTy.i32)
local notation "wV" => (Memref.whole Cert.KernelIdeal.main_v5_0_scv : Memref Cert.KernelIdeal.sig Kind.scVector Space.hbm Cert.KernelIdeal.S512 EltTy.f32)
local notation "iV" => (Memref.whole Cert.KernelIdeal.main_v5_1_scv : Memref Cert.KernelIdeal.sig Kind.scVector Space.hbm Cert.KernelIdeal.S512 EltTy.i32)
local notation "bX" => (Memref.whole Cert.KernelIdeal.cc1_scratch0 : Memref Cert.KernelIdeal.sig Kind.scVector Space.vmem Cert.KernelIdeal.S7296 EltTy.f32)
local notation "bS" => (Memref.whole Cert.KernelIdeal.cc1_scratch1 : Memref Cert.KernelIdeal.sig Kind.scVector Space.vmem Cert.KernelIdeal.S16 EltTy.i32)
local notation "bW" => (Memref.whole Cert.KernelIdeal.cc1_scratch2 : Memref Cert.KernelIdeal.sig Kind.scVector Space.vmem Cert.KernelIdeal.S16 EltTy.f32)
local notation "bI" => (Memref.whole Cert.KernelIdeal.cc1_scratch3 : Memref Cert.KernelIdeal.sig Kind.scVector Space.vmem Cert.KernelIdeal.S16 EltTy.i32)

theorem hdivX : 32 ∣ S233472.size 0 := ⟨7296, rfl⟩
/-- The tiles' parts of the logits' slice, -/
abbrev rowX (i : Fin 32) : Rect S233472 := Rect.part (s := S233472) (a₀ := 0) hdivX i
abbrev setX (i : Fin 32) : Finset S233472.Idx := ((xV).view.slice (rowX i)).set
theorem hdivO : 32 ∣ S512.size 0 := ⟨16, rfl⟩
/-- and of the two results. -/
abbrev rowO (i : Fin 32) : Rect S512 := Rect.part (s := S512) (a₀ := 0) hdivO i
abbrev setO (i : Fin 32) : Finset S512.Idx := ((wV).view.slice (rowO i)).set

variable [FloatOps F]

/-- The tile's part of each array, and a share of the seed's vector. -/
abbrev xPts (d : Dev nD) (i : Fin 32) (f : Buf (Elt F) (xLoc d)) : sProp 𝕄 := xLoc d ↦[setX i]{fullShare} f
abbrev sPts (d : Dev nD) (q : PosShare TreeShare) (f : Buf (Elt F) (sLoc d)) : sProp 𝕄 := sLoc d ↦{q} f
abbrev wPts (d : Dev nD) (i : Fin 32) (f : Buf (Elt F) (wLoc d)) : sProp 𝕄 := wLoc d ↦[setO i]{fullShare} f
abbrev iPts (d : Dev nD) (i : Fin 32) (f : Buf (Elt F) (iLoc d)) : sProp 𝕄 := iLoc d ↦[setO i]{fullShare} f

section Tile

variable (d : Dev nD) (L : grid1.Coords)

abbrev cV (L : grid1.Coords) : Fin τ.nSC := (L 0).castLE hcore1
abbrev jV (L : grid1.Coords) : Fin τ.nSub := (L 1).castLE hsub1
/-- The tile's number: its subcore's, its core's fastest. -/
def wid (L : grid1.Coords) : Fin 32 :=
  ⟨2 * (L 1).val + (L 0).val, by
    have h₀ : (L 0).val < 2 := (L 0).isLt
    have h₁ : (L 1).val < 16 := (L 1).isLt
    omega⟩

/-- The parts the task addresses, as the body spells them. -/
abbrev rectX (L : grid1.Coords) : Rect S233472 := Rect.unit (s := S233472) (k1_off1 L) S7296.size (k1_off1_inb L)
abbrev rectO (L : grid1.Coords) : Rect S512 := Rect.unit (s := S512) (k1_off3 L) S16.size (k1_off3_inb L)
abbrev xPart (L : grid1.Coords) : Memref sig .scVector .hbm S7296 .f32 := (xV).slice (rectX L) (fun _ => rfl)
abbrev wPart (L : grid1.Coords) : Memref sig .scVector .hbm S16 .f32 := (wV).slice (rectO L) (fun _ => rfl)
abbrev iPart (L : grid1.Coords) : Memref sig .scVector .hbm S16 .i32 := (iV).slice (rectO L) (fun _ => rfl)

omit [FloatOps F] in
theorem rectX_eq : rectX L = rowX (wid L) := by
  unfold rectX rowX Rect.part Rect.block
  congr 1 <;> funext a
  · rw [k1_off1_eq]
    match a with
    | 0 => simp [Shape.partIx, Shape.partSize, wid]; omega
  · match a with
    | 0 => simp [Shape.partSize]
omit [FloatOps F] in
theorem rectO_eq : rectO L = rowO (wid L) := by
  unfold rectO rowO Rect.part Rect.block
  congr 1 <;> funext a
  · rw [k1_off3_eq]
    match a with
    | 0 => simp [Shape.partIx, Shape.partSize, wid]; omega
  · match a with
    | 0 => simp [Shape.partSize]

omit [FloatOps F] in
theorem set_xPart : (xPart L).view.set = setX (wid L) := by
  show ((xV).view.slice (rectX L)).set = ((xV).view.slice (rowX (wid L))).set
  exact rectX_eq L ▸ rfl
omit [FloatOps F] in
theorem set_wPart : (wPart L).view.set = setO (wid L) := by
  show ((wV).view.slice (rectO L)).set = ((wV).view.slice (rowO (wid L))).set
  exact rectO_eq L ▸ rfl
omit [FloatOps F] in
theorem set_iPart : (iPart L).view.set = setO (wid L) := by
  show ((iV).view.slice (rectO L)).set = ((wV).view.slice (rowO (wid L))).set
  exact rectO_eq L ▸ rfl

omit [FloatOps F] in
theorem pts_x (q : PosShare TreeShare) (f : Buf (Elt F) (xLoc d)) :
    ((xPart L).view.loc (V d (cV L) (jV L)) ↦[(xPart L).view.set]{q} f : sProp 𝕄) = xLoc d ↦[setX (wid L)]{q} f := by
  rw [set_xPart]
omit [FloatOps F] in
theorem pts_w (f : Buf (Elt F) (wLoc d)) :
    ((wPart L).view.loc (V d (cV L) (jV L)) ↦[(wPart L).view.set]{fullShare} f : sProp 𝕄) = wLoc d ↦[setO (wid L)]{fullShare} f := by
  rw [set_wPart]
omit [FloatOps F] in
theorem pts_i (f : Buf (Elt F) (iLoc d)) :
    ((iPart L).view.loc (V d (cV L) (jV L)) ↦[(iPart L).view.set]{fullShare} f : sProp 𝕄) = iLoc d ↦[setO (wid L)]{fullShare} f := by
  rw [set_iPart]
omit [FloatOps F] in
/-- A share of the seed's vector, in the body's spelling. -/
theorem pts_s (q : PosShare TreeShare) (f : Buf (Elt F) (sLoc d)) :
    ((sV).view.loc (V d (cV L) (jV L)) ↦[(sV).view.set]{q} f : sProp 𝕄) = sLoc d ↦{q} f := by
  simp only [Memref.view_whole, View.set_whole]

abbrev cell₀ (d : Dev nD) (c : Fin τ.nSC) (i : Fin τ.nSub) : GSem nD τ sig := (V d c i, .dma cc1_scoped0.sem)
abbrev cell₁ (d : Dev nD) (c : Fin τ.nSC) (i : Fin τ.nSub) : GSem nD τ sig := (V d c i, .dma cc1_scoped1.sem)
abbrev cell₂ (d : Dev nD) (c : Fin τ.nSC) (i : Fin τ.nSub) : GSem nD τ sig := (V d c i, .dma cc1_scoped2.sem)
abbrev cell₃ (d : Dev nD) (c : Fin τ.nSC) (i : Fin τ.nSub) : GSem nD τ sig := (V d c i, .dma cc1_scoped3.sem)

omit [FloatOps F] in
/-- The tile's own cells are the four the body names, together with the rest. -/
theorem ownSems0_V :
    (ownSems0 (V d (cV L) (jV L)) : sProp 𝕄)
      = iprop(semVal (cell₀ d (cV L) (jV L)) 0 ∗ semVal (cell₁ d (cV L) (jV L)) 0 ∗ semVal (cell₂ d (cV L) (jV L)) 0 ∗ semVal (cell₃ d (cV L) (jV L)) 0
          ∗ bigSep (((((ownCells (V d (cV L) (jV L))).erase (cell₀ d (cV L) (jV L))).erase (cell₁ d (cV L) (jV L))).erase (cell₂ d (cV L) (jV L))).erase
              (cell₃ d (cV L) (jV L))) fun g => semVal g 0) := by
  unfold SparseCore.Cfg.ownSems0
  rw [SparseCore.bigSep_erase' ((mem_ownCells (g := cell₀ d (cV L) (jV L))).mpr ⟨rfl, by
      show (SemLoc.dma cc1_scoped0.sem : SemLoc sig).isScoped .scVector = true; decide⟩),
    SparseCore.bigSep_erase' (Finset.mem_erase.mpr ⟨by simp [cell₀, cell₁]; decide, (mem_ownCells (g := cell₁ d (cV L) (jV L))).mpr ⟨rfl, by
      show (SemLoc.dma cc1_scoped1.sem : SemLoc sig).isScoped .scVector = true; decide⟩⟩),
    SparseCore.bigSep_erase' (Finset.mem_erase.mpr ⟨by simp [cell₁, cell₂]; decide, Finset.mem_erase.mpr ⟨by simp [cell₀, cell₂]; decide,
      (mem_ownCells (g := cell₂ d (cV L) (jV L))).mpr ⟨rfl, by show (SemLoc.dma cc1_scoped2.sem : SemLoc sig).isScoped .scVector = true; decide⟩⟩⟩),
    SparseCore.bigSep_erase' (Finset.mem_erase.mpr ⟨by simp [cell₂, cell₃]; decide, Finset.mem_erase.mpr ⟨by simp [cell₁, cell₃]; decide,
      Finset.mem_erase.mpr ⟨by simp [cell₀, cell₃]; decide, (mem_ownCells (g := cell₃ d (cV L) (jV L))).mpr ⟨rfl, by
        show (SemLoc.dma cc1_scoped3.sem : SemLoc sig).isScoped .scVector = true; decide⟩⟩⟩⟩)]

omit [FloatOps F] in
/-- The tile's own buffers are the four scratches, each at some contents, together with the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have hne {a b : Ref sig .scVector} (h : a ≠ b) : (Proc.scVector (cV L) (jV L)).devRef a ≠ (Proc.scVector (cV L) (jV L)).devRef b :=
    fun e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨hne (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨hne (show (cc1_scratch2 : Ref sig .scVector) ≠ cc1_scratch1 by decide),
      Finset.mem_erase.mpr ⟨hne (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨hne (show (cc1_scratch3 : Ref sig .scVector) ≠ cc1_scratch2 by decide),
      Finset.mem_erase.mpr ⟨hne (show (cc1_scratch3 : Ref sig .scVector) ≠ cc1_scratch1 by decide),
      Finset.mem_erase.mpr ⟨hne (show (cc1_scratch3 : Ref sig .scVector) ≠ cc1_scratch0 by decide),
      SparseCore.Cfg.mem_ownRefs_of_owner (p := Proc.scVector (cV L) (jV L)) (b := (Proc.scVector (cV L) (jV L)).devRef cc1_scratch3) rfl⟩⟩⟩)]

/-! ## The values -/

/-- The vector a load of the tile's logits reads at an offset of trip `k`. -/
def vecAt (k : Fin k1_t1_loop.trips) (c : BitVec 32) (h : ∀ a, (k1_off2 k c) a + S16.size a ≤ S7296.size a) (f : Vec F S7296 .f32) : FV F :=
  (bX).view.readAt (Elt F) (Rect.unit (s := S7296) (k1_off2 k c) S16.size h).toLoadRect f

/-- The four chains after `n` trips. -/
def accAt (Ky : Key) (g : BitVec 32) (f : Vec F S7296 .f32) : ℕ → Acc F
  | 0 => acc₀
  | n + 1 =>
    if h : n < k1_t1_loop.trips then
      stepAll Ky g lanes ⟨n, h⟩ (vecAt ⟨n, h⟩ 0#32 (k1_off2_inb _ 0) f) (vecAt ⟨n, h⟩ 16#32 (k1_off2_inb _ 1) f)
        (vecAt ⟨n, h⟩ 32#32 (k1_off2_inb _ 2) f) (vecAt ⟨n, h⟩ 48#32 (k1_off2_inb _ 3) f) (accAt Ky g f n)
    else accAt Ky g f n

/-- What the task has in its scratches: its part of the logits, -/
def partX (fx : Buf (Elt F) (xLoc d)) : Vec F S7296 .f32 := (xPart L).view.read (Elt F) fx
/-- and the tile's results: the weight and the state of its least lane by lane. -/
def tileOut (fx : Buf (Elt F) (xLoc d)) (fs : Buf (Elt F) (sLoc d)) : FV F × WV :=
  mergeAll (accAt (keyOf (fs : Vec F S16 .i32)) (firstState L) (partX d L fx) k1_t1_loop.trips)

/-- Contents a view reads alike agree on the view's elements. -/
theorem agree_of_read {κ : Kind} {sp : Space} {s : Shape} {e : EltTy} {Val : EltTy → Type} (v : View sig κ sp s e) (f g : v.ty.Contents Val)
    (h : v.read Val f = v.read Val g) : ∀ i ∈ v.set, f i = g i := by
  intro i hi
  obtain ⟨x, -, rfl⟩ := Finset.mem_map.mp hi
  have := congrFun h x
  rw [View.read_apply, View.read_apply] at this
  exact cast_inj _ |>.mp this

/-- A store of the whole view is what the view then reads. -/
theorem read_store_whole {κ : Kind} {sp : Space} {s : Shape} {e : EltTy} {Val : EltTy → Type} (v : View sig κ sp s e) (f : v.ty.Contents Val) (X : s.Idx → Val e) :
    v.read Val (v.writes Val f [⟨Rect.whole s, X⟩]) = X :=
  View.read_writes_full v f (off := fun _ => 0) (fun _ => by omega) X []

/-- The loop's invariant. -/
def inv (fx : Vec F S7296 .f32) (Ky : Key) (n : ℕ) (acc : Acc F) : sProp 𝕄 :=
  iprop(⌜acc = accAt Ky (firstState L) fx n⌝ ∗ ((bX).view.loc (V d (cV L) (jV L)) ↦{fullShare} fx))

/-- The task of the tile at `L`: the logits' part and the seed's vector fetched, the loop by `inv`, the merge stored and
    written out; whatever `gw` and `gi` hold the task's results at the tile's lanes describe the results afterwards. -/
theorem tile_body (hF : (K (F := F)).Facts) (O : CellTallies nD τ sig (HIx 1)) (W : Waits sig (HIx 1)) (hO : ∀ g, O g none = 0)
    (q : PosShare TreeShare) (fx : Buf (Elt F) (xLoc d)) (fs : Buf (Elt F) (sLoc d)) (fw gw : Buf (Elt F) (wLoc d)) (fi gi : Buf (Elt F) (iLoc d))
    (hw : (wPart L).view.read (Elt F) gw = (tileOut d L fx fs).1) (hi : (iPart L).view.read (Elt F) gi = (tileOut d L fx fs).2) :
    iprop(levAts (K (F := F)).L (K (F := F)).lev ∗ emp
        ∗ (xPts d (wid L) fx ∗ sPts d q fs ∗ wPts d (wid L) fw ∗ iPts d (wid L) fi)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (stage L xV sV (Memref.isWhole_whole _) wV iV bX (Memref.isWhole_whole _) bS (Memref.isWhole_whole _)
            bW (Memref.isWhole_whole _) bI (Memref.isWhole_whole _) cc1_scoped0 cc1_scoped1 cc1_scoped2 cc1_scoped3)
          fun _ => iprop((xPts d (wid L) fx ∗ sPts d q fs ∗ wPts d (wid L) gw ∗ iPts d (wid L) gi)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hs, Hw, Hi⟩, ⟨⟨%f₀, H0⟩, ⟨%f₁, H1⟩, ⟨%f₂, H2⟩, ⟨%f₃, H3⟩, Hbufs⟩, ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_x (F := F) d L _ _).symm) $$ Hx
  ihave Hs' := (Entails.of_eq (pts_s (F := F) d L _ _).symm) $$ Hs
  ihave Hw' := (Entails.of_eq (pts_w (F := F) d L _).symm) $$ Hw
  ihave Hi' := (Entails.of_eq (pts_i (F := F) d L _).symm) $$ Hi
  ihave H0' := (show ((V d (cV L) (jV L)).loc cc1_scratch0 ↦{fullShare} f₀ : sProp 𝕄) ⊢ ((bX).view.loc (V d (cV L) (jV L)) ↦{fullShare} f₀) from .rfl) $$ H0
  ihave H1' := (show ((V d (cV L) (jV L)).loc cc1_scratch1 ↦{fullShare} f₁ : sProp 𝕄) ⊢ ((bS).view.loc (V d (cV L) (jV L)) ↦{fullShare} f₁) from .rfl) $$ H1
  ihave H2' := (show ((V d (cV L) (jV L)).loc cc1_scratch2 ↦{fullShare} f₂ : sProp 𝕄) ⊢ ((bW).view.loc (V d (cV L) (jV L)) ↦{fullShare} f₂) from .rfl) $$ H2
  ihave H3' := (show ((V d (cV L) (jV L)).loc cc1_scratch3 ↦{fullShare} f₃ : sProp 𝕄) ⊢ ((bI).view.loc (V d (cV L) (jV L)) ↦{fullShare} f₃) from .rfl) $$ H3
  sl_unfold [stage]
  sl_exec (disch := exact View.amount_pos _ _ (show 0 < S7296.numel by decide))
  sl_for (inv d L (View.write (Elt F) (bX).view f₀ (tile_body.sl.dma0 d L fx) Finset.univ)
    (keyOf (shapeCast S16 (View.readAt (Elt F) (bS).view (Rect.unit (s := S16) ![0] S16.size inb_S16_S16_0).toLoadRect
      (View.write (Elt F) (bS).view f₁ (tile_body.sl.dma0_1 d fs) Finset.univ)) shapeCasts_S16_S16))) $$ [H0']
  case region =>
    intro k acc
    unfold inv
    iintro ⟨%hacc, H0⟩
    sl_exec
    sl_step
    isplitr
    · ipureintro
      rw [accAt, dif_pos k.isLt, hacc]
      rfl
    · iexact H0
  · unfold inv
    isplitr
    · ipureintro; rfl
    · iexact H0'
  iintro %acc HI
  unfold inv
  icases HI with ⟨%hacc, H0'⟩
  sl_exec
  have hfin : acc = accAt (keyOf (fs : Vec F S16 .i32)) (firstState L) (partX d L fx) k1_t1_loop.trips := by
    have e₁ : shapeCast S16 (View.readAt (Elt F) (bS).view (Rect.unit (s := S16) ![0] S16.size inb_S16_S16_0).toLoadRect
        (View.write (Elt F) (bS).view f₁ (tile_body.sl.dma0_1 d fs) Finset.univ)) shapeCasts_S16_S16 = (fs : Vec F S16 .i32) :=
      (Idealize.ShloMosaic.shapeCast_self _ _).trans ((View.readAt_full (bS).view _ inb_S16_S16_0).trans (View.read_write_univ (v := (bS).view) f₁ _))
    have e₀ : View.write (Elt F) (bX).view f₀ (tile_body.sl.dma0 d L fx) Finset.univ = partX d L fx := View.write_whole_univ (Val := Elt F) cc1_scratch0 f₀ _
    rw [hacc]
    exact congrArg₂ (fun a b => accAt (keyOf a) (firstState L) b k1_t1_loop.trips) e₁ e₀
  have ew : (wPart L).view.read (Elt F) ((wPart L).view.writes (Elt F) fw [⟨Rect.whole S16, tile_body.sl.dma4 d L f₂ acc⟩]) = (wPart L).view.read (Elt F) gw := by
    rw [read_store_whole, hw]
    unfold tile_body.sl.dma4 tile_body.sl.H2'_1 tileOut
    rw [← hfin]
    exact (View.read_writes_full (bW).view f₂ inb_S16_S16_0 _ []).trans (Idealize.ShloMosaic.shapeCast_self _ _)
  have ei : (iPart L).view.read (Elt F) ((iPart L).view.writes (Elt F) fi [⟨Rect.whole S16, tile_body.sl.dma4_1 d L f₃ acc⟩]) = (iPart L).view.read (Elt F) gi := by
    rw [read_store_whole, hi]
    unfold tile_body.sl.dma4_1 tile_body.sl.H3'_1 tileOut
    rw [← hfin]
    exact (View.read_writes_full (bI).view f₃ inb_S16_S16_0 _ []).trans (Idealize.ShloMosaic.shapeCast_self _ _)
  sl_step
  isplitl [Hx' Hs' Hw' Hi']
  · isplitl [Hx']; · iapply (Entails.of_eq (pts_x (F := F) d L _ _)); iexact Hx'
    isplitl [Hs']; · iapply (Entails.of_eq (pts_s (F := F) d L _ _)); iexact Hs'
    isplitl [Hw']
    · iapply (Entails.of_eq ((pointsTo_congr (agree_of_read _ _ _ ew)).trans (pts_w (F := F) d L gw))); iexact Hw'
    · iapply (Entails.of_eq ((pointsTo_congr (agree_of_read _ _ _ ei)).trans (pts_i (F := F) d L gi))); iexact Hi'
  isplitl [H0' H1' H2' H3' Hbufs]
  · isplitl [H0']; · iexists _; iexact H0'
    isplitl [H1']; · iexists _; iexact H1'
    isplitl [H2']; · iexists _; iexact H2'
    isplitl [H3']; · iexists _; iexact H3'
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p _
  rcases p.2 with _ | q
  · exact .inr (.inl rfl)
  · exact .inr (.inr (congrArg some (Subsingleton.elim q 0)))

end Tile

end Cert.Proof.TileI

end
-- ==== Proof.LaunchI.lean ====
/-
  The launch: the call deals each of the thirty-two tiles its part of the logits' slice and of the two results and a read
  share of the seed's vector, and joins the parts again. Every run ends with the arguments unchanged, every semaphore
  counter at zero, and in the two results, at each tile's sixteen lanes, what the tile's task computed (`WOut`, `IOut`). Said of the
  idealised program, as Proof/Launch.lean says it of the kernel.
-/
module

public import proofs.«01_k».proof.Proof.TileRunI

@[expose] public section

noncomputable section

namespace Cert.Proof.TileI

open Cert.KernelIdeal Cert.KernelIdeal.Gen
open Cert.Proof.Draw

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

local notation "xV" => (Memref.whole Cert.KernelIdeal.main_v4_scv : Memref Cert.KernelIdeal.sig Kind.scVector Space.hbm Cert.KernelIdeal.S233472 EltTy.f32)
local notation "sV" => (Memref.whole Cert.KernelIdeal.main_v0_scv : Memref Cert.KernelIdeal.sig Kind.scVector Space.hbm Cert.KernelIdeal.S16 EltTy.i32)
local notation "wV" => (Memref.whole Cert.KernelIdeal.main_v5_0_scv : Memref Cert.KernelIdeal.sig Kind.scVector Space.hbm Cert.KernelIdeal.S512 EltTy.f32)
local notation "iV" => (Memref.whole Cert.KernelIdeal.main_v5_1_scv : Memref Cert.KernelIdeal.sig Kind.scVector Space.hbm Cert.KernelIdeal.S512 EltTy.i32)
local notation "bX" => (Memref.whole Cert.KernelIdeal.cc1_scratch0 : Memref Cert.KernelIdeal.sig Kind.scVector Space.vmem Cert.KernelIdeal.S7296 EltTy.f32)
local notation "bS" => (Memref.whole Cert.KernelIdeal.cc1_scratch1 : Memref Cert.KernelIdeal.sig Kind.scVector Space.vmem Cert.KernelIdeal.S16 EltTy.i32)
local notation "bW" => (Memref.whole Cert.KernelIdeal.cc1_scratch2 : Memref Cert.KernelIdeal.sig Kind.scVector Space.vmem Cert.KernelIdeal.S16 EltTy.f32)
local notation "bI" => (Memref.whole Cert.KernelIdeal.cc1_scratch3 : Memref Cert.KernelIdeal.sig Kind.scVector Space.vmem Cert.KernelIdeal.S16 EltTy.i32)

variable (m : (ℓ : Loc nD τ sig) → Buf (Elt F) ℓ) (ρ : Dev nD → PrngReg)

/-- The arguments, as locations of device `d`. -/
abbrev aLoc (d : Dev nD) : Loc nD τ sig := (SparseCore.T d).loc main_arg0
abbrev gLoc (d : Dev nD) : Loc nD τ sig := (SparseCore.T d).loc main_arg1

variable [FloatOps F]

/-! ## The contents -/

/-- The logits' slice the call takes, -/
def XV (d : Dev nD) : Buf (Elt F) (xLoc d) :=
  (extractStridedSlice S233472 ![766528] (m (aLoc d) : Vec F S1000000 .f32) slices_S1000000_S233472_766528 : Vec F S233472 .f32)
/-- and the seed's vector. -/
def SV (d : Dev nD) : Buf (Elt F) (sLoc d) := (broadcastInDim S16 ![] bcast_S_S16 (m (gLoc d) : Vec F S_ .i32) : Vec F S16 .i32)

/-- The coordinates of a core and a subcore. -/
def coordsV (c : Fin (grid1.bound 0)) (s : Fin (grid1.bound 1)) : grid1.Coords :=
  fun | 0 => c | 1 => s | ⟨_ + 2, h⟩ => absurd h (Nat.not_lt.2 (Nat.le_add_left _ _))

/-- The tile whose lanes hold element `n` of the results, -/
def tileOf (n : ℕ) : grid1.Coords := coordsV ⟨n / 16 % 2, Nat.mod_lt _ (by decide)⟩ ⟨n / 32 % 16, Nat.mod_lt _ (by decide)⟩
/-- and its lane there. -/
def laneOf (n : ℕ) : S16.Idx := fun a => ⟨n % 16, by match a with | 0 => exact Nat.mod_lt _ (by decide)⟩

/-- The results: at each lane of each tile what the tile's task computed. -/
def WOut (d : Dev nD) : Buf (Elt F) (wLoc d) :=
  (fun j => (tileOut d (tileOf (j 0).val) (XV m d) (SV m d)).1 (laneOf (j 0).val) : Vec F S512 .f32)
def IOut (d : Dev nD) : Buf (Elt F) (iLoc d) :=
  (fun j => (tileOut d (tileOf (j 0).val) (XV m d) (SV m d)).2 (laneOf (j 0).val) : Vec F S512 .i32)

omit [FloatOps F] in
theorem part_pos (L : grid1.Coords) (x : S16.Idx) : ((rectO L).idx x 0).val = 32 * (L 1).val + 16 * (L 0).val + (x 0).val := by
  show (k1_off3 L) 0 + 1 * (x 0).val = _
  rw [k1_off3_eq]
  simp

omit [FloatOps F] in
theorem tileOf_part (L : grid1.Coords) (x : S16.Idx) : tileOf ((rectO L).idx x 0).val = L := by
  have h₀ : (L 0).val < 2 := (L 0).isLt
  have h₁ : (L 1).val < 16 := (L 1).isLt
  have h₂ : (x 0).val < 16 := (x 0).isLt
  rw [part_pos]
  funext a
  match a with
  | 0 => exact Fin.ext (show (32 * (L 1).val + 16 * (L 0).val + (x 0).val) / 16 % 2 = (L 0).val by omega)
  | 1 => exact Fin.ext (show (32 * (L 1).val + 16 * (L 0).val + (x 0).val) / 32 % 16 = (L 1).val by omega)

omit [FloatOps F] in
theorem laneOf_part (L : grid1.Coords) (x : S16.Idx) : laneOf ((rectO L).idx x 0).val = x := by
  have h₂ : (x 0).val < 16 := (x 0).isLt
  rw [part_pos]
  funext a
  match a with
  | 0 => exact Fin.ext (show (32 * (L 1).val + 16 * (L 0).val + (x 0).val) % 16 = (x 0).val by omega)

theorem read_WOut (d : Dev nD) (L : grid1.Coords) : (wPart L).view.read (Elt F) (WOut m d) = (tileOut d L (XV m d) (SV m d)).1 := by
  funext x
  show (tileOut d (tileOf ((rectO L).idx x 0).val) (XV m d) (SV m d)).1 (laneOf ((rectO L).idx x 0).val) = _
  rw [tileOf_part, laneOf_part]
theorem read_IOut (d : Dev nD) (L : grid1.Coords) : (iPart L).view.read (Elt F) (IOut m d) = (tileOut d L (XV m d) (SV m d)).2 := by
  funext x
  show (tileOut d (tileOf ((rectO L).idx x 0).val) (XV m d) (SV m d)).2 (laneOf ((rectO L).idx x 0).val) = _
  rw [tileOf_part, laneOf_part]

/-! ## What the handshakes carry -/

/-- A tile's piece of the four arrays, the results at `fw` and `fi`. -/
def piece (d : Dev nD) (fw : Buf (Elt F) (wLoc d)) (fi : Buf (Elt F) (iLoc d)) (w : Fin 32) : sProp 𝕄 :=
  iprop(xPts d w (XV m d) ∗ sPts d (Transfers.shareTok fullShare 32 w) (SV m d) ∗ wPts d w fw ∗ iPts d w fi)

instance piece_storable (d : Dev nD) (fw : Buf (Elt F) (wLoc d)) (fi : Buf (Elt F) (iLoc d)) (w : Fin 32) :
    BI.Storable (upEmb : UEmb _ 𝕄) (piece m d fw fi w) := by
  unfold piece; infer_instance

/-- The tile of core `c` and subcore `i`. -/
def tileAt (c : Fin 2) (i : Fin 16) : Fin 32 := finProdFinEquiv (i, c)

omit [FloatOps F] in
theorem tileAt_eq (c : Fin 2) (i : Fin 16) : tileAt c i = wid (coordsV c i) :=
  Fin.ext (show c.val + 2 * i.val = 2 * i.val + c.val by omega)

/-- Each core takes its tiles' pieces and brings them back at the results. -/
def P : (K (F := F)).Pay (nD := nD) (Val := Elt F) (Name := ℕ) (U := UU) where
  st := fun q d c => match q with
    | 0 => bigSep Finset.univ fun i : Fin 16 => piece m d (m (wLoc d)) (m (iLoc d)) (tileAt (Fin.cast nCore_zero c) i)
  dn := fun q d c => match q with
    | 0 => bigSep Finset.univ fun i : Fin 16 => piece m d (WOut m d) (IOut m d) (tileAt (Fin.cast nCore_zero c) i)
  go := fun q d c i => match q with
    | 0 => piece m d (m (wLoc d)) (m (iLoc d)) (tileAt (Fin.cast nCore_zero c) (Fin.cast nSub_zero i))
  td := fun q d c i => match q with
    | 0 => piece m d (WOut m d) (IOut m d) (tileAt (Fin.cast nCore_zero c) (Fin.cast nSub_zero i))
  x := fun _ _ => iprop(emp)

instance P_storable : (P (F := F) m).IsStorable where
  st q d c := match q with
    | 0 => (inferInstance : BI.Storable (upEmb : UEmb _ 𝕄)
        (bigSep Finset.univ fun i : Fin 16 => piece m d (m (wLoc d)) (m (iLoc d)) (tileAt (Fin.cast nCore_zero c) i)))
  dn q d c := match q with
    | 0 => (inferInstance : BI.Storable (upEmb : UEmb _ 𝕄)
        (bigSep Finset.univ fun i : Fin 16 => piece m d (WOut m d) (IOut m d) (tileAt (Fin.cast nCore_zero c) i)))
  go q d c i := match q with
    | 0 => piece_storable m d (m (wLoc d)) (m (iLoc d)) (tileAt (Fin.cast nCore_zero c) (Fin.cast nSub_zero i))
  td q d c i := match q with
    | 0 => piece_storable m d (WOut m d) (IOut m d) (tileAt (Fin.cast nCore_zero c) (Fin.cast nSub_zero i))

/-! ## The obligation -/

theorem defs₀_vector (c : Fin τ.nSC) (s : Fin τ.nSub) :
    defs₀ (F := F) (.scVector c s) 1 ()
      = SparseCore.onTile hcore1 hsub1 (fun c s => cc1__sc_stage (coordsV c s)
          xV (Memref.isWhole_whole _) sV (Memref.isWhole_whole _) wV (Memref.isWhole_whole _) iV (Memref.isWhole_whole _)
          bX (Memref.isWhole_whole _) bS (Memref.isWhole_whole _) bW (Memref.isWhole_whole _) bI (Memref.isWhole_whole _)
          cc1_scoped0 cc1_scoped1 cc1_scoped2 cc1_scoped3) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [stage_eq]
  have hgo : (P m).go 0 d c i = piece m d (m (wLoc d)) (m (iLoc d)) (wid (coordsV ⟨_, hci.1⟩ ⟨_, hci.2⟩)) :=
    congrArg (piece m d (m (wLoc d)) (m (iLoc d))) (tileAt_eq _ _)
  have htd : (P m).td 0 d c i = piece m d (WOut m d) (IOut m d) (wid (coordsV ⟨_, hci.1⟩ ⟨_, hci.2⟩)) :=
    congrArg (piece m d (WOut m d) (IOut m d)) (tileAt_eq _ _)
  rw [hgo, htd]
  unfold piece
  exact (tile_body d (coordsV ⟨_, hci.1⟩ ⟨_, hci.2⟩) hF O W hO _ (XV m d) (SV m d) (m (wLoc d)) (WOut m d) (m (iLoc d)) (IOut m d)
    (read_WOut m d _) (read_IOut m d _))

theorem vecSplit : (K (F := F)).VecSplit' (P m) 0 := by
  intro d c
  show (P m).st 0 d c ⊢ |={Set.univ}=> iprop((P m).st 0 d c ∗ ((P m).dn 0 d c -∗ (P m).dn 0 d c))
  iintro H; imodintro
  isplitl [H]; · iexact H
  iintro H; iexact H

/-! ## The parts split and join -/

omit [FloatOps F] in
theorem setX_eq (i : Fin 32) : setX i = (rowX i).set := by
  show ((View.whole (main_v4_scv : Ref sig .scVector)).slice (rowX i)).set = _
  rw [View.set_slice]; exact Finset.map_refl
omit [FloatOps F] in
theorem setX_disjoint : ∀ i ∈ (Finset.univ : Finset (Fin 32)), ∀ j ∈ (Finset.univ : Finset (Fin 32)), i ≠ j → Disjoint (setX i) (setX j) :=
  fun i _ j _ h => by rw [setX_eq, setX_eq]; exact Rect.part_disjoint hdivX h
omit [FloatOps F] in
theorem setX_cover : (Finset.univ : Finset (Fin 32)).biUnion setX = Finset.univ :=
  (Finset.biUnion_congr rfl fun i _ => setX_eq i).trans (Rect.biUnion_part hdivX)
omit [FloatOps F] in
theorem setO_eq (i : Fin 32) : setO i = (rowO i).set := by
  show ((View.whole (main_v5_0_scv : Ref sig .scVector)).slice (rowO i)).set = _
  rw [View.set_slice]; exact Finset.map_refl
omit [FloatOps F] in
theorem setO_disjoint : ∀ i ∈ (Finset.univ : Finset (Fin 32)), ∀ j ∈ (Finset.univ : Finset (Fin 32)), i ≠ j → Disjoint (setO i) (setO j) :=
  fun i _ j _ h => by rw [setO_eq, setO_eq]; exact Rect.part_disjoint hdivO h
omit [FloatOps F] in
theorem setO_cover : (Finset.univ : Finset (Fin 32)).biUnion setO = Finset.univ :=
  (Finset.biUnion_congr rfl fun i _ => setO_eq i).trans (Rect.biUnion_part hdivO)

omit [FloatOps F] in
theorem x_parts (d : Dev nD) (f : Buf (Elt F) (xLoc d)) :
    (xLoc d ↦{fullShare} f : sProp 𝕄) = bigSep Finset.univ fun i : Fin 32 => xPts d i f := by
  rw [← pointsTo_biUnion Finset.univ (ℓ := xLoc d) setX setX_disjoint, setX_cover]; try rfl
omit [FloatOps F] in
theorem w_parts (d : Dev nD) (f : Buf (Elt F) (wLoc d)) :
    (wLoc d ↦{fullShare} f : sProp 𝕄) = bigSep Finset.univ fun i : Fin 32 => wPts d i f := by
  rw [← pointsTo_biUnion Finset.univ (ℓ := wLoc d) setO setO_disjoint, setO_cover]; try rfl
omit [FloatOps F] in
theorem i_parts (d : Dev nD) (f : Buf (Elt F) (iLoc d)) :
    (iLoc d ↦{fullShare} f : sProp 𝕄) = bigSep Finset.univ fun i : Fin 32 => iPts d i f := by
  rw [← pointsTo_biUnion Finset.univ (ℓ := iLoc d) setO setO_disjoint, setO_cover]; try rfl

omit [FloatOps F] in
/-- The tiles counted through are the cores' tiles. -/
theorem tiles_cores (Φ : Fin 32 → sProp 𝕄) :
    (bigSep Finset.univ fun c : Fin 2 => bigSep Finset.univ fun i : Fin 16 => Φ (tileAt c i)) = bigSep Finset.univ Φ := by
  rw [bigSep_univ_comm, ← bigSep_univ_prod (fun p : Fin 16 × Fin 2 => Φ (tileAt p.2 p.1))]
  exact (bigSep_univ_equiv (finProdFinEquiv : Fin 16 × Fin 2 ≃ Fin 32) Φ).symm

/-- All the pieces, array by array. -/
theorem pieces_eq (d : Dev nD) (fw : Buf (Elt F) (wLoc d)) (fi : Buf (Elt F) (iLoc d)) :
    (bigSep Finset.univ fun c : Fin 2 => bigSep Finset.univ fun i : Fin 16 => piece m d fw fi (tileAt c i))
      = iprop((xLoc d ↦{fullShare} XV m d) ∗ (bigSep Finset.univ fun w : Fin 32 => sPts d (Transfers.shareTok fullShare 32 w) (SV m d))
          ∗ (wLoc d ↦{fullShare} fw) ∗ (iLoc d ↦{fullShare} fi)) := by
  rw [tiles_cores]
  unfold piece
  rw [bigSep_sep', bigSep_sep', bigSep_sep', x_parts, w_parts, i_parts]

theorem st0_eq (d : Dev nD) :
    (bigSep Finset.univ fun c : Fin ((K (F := F)).nCore 0) => (P m).st 0 d c)
      = iprop((xLoc d ↦{fullShare} XV m d) ∗ (bigSep Finset.univ fun w : Fin 32 => sPts d (Transfers.shareTok fullShare 32 w) (SV m d))
          ∗ (wLoc d ↦{fullShare} m (wLoc d)) ∗ (iLoc d ↦{fullShare} m (iLoc d))) :=
  pieces_eq m d (m (wLoc d)) (m (iLoc d))
theorem dn0_eq (d : Dev nD) :
    (bigSep Finset.univ fun c : Fin ((K (F := F)).nCore 0) => (P m).dn 0 d c)
      = iprop((xLoc d ↦{fullShare} XV m d) ∗ (bigSep Finset.univ fun w : Fin 32 => sPts d (Transfers.shareTok fullShare 32 w) (SV m d))
          ∗ (wLoc d ↦{fullShare} WOut m d) ∗ (iLoc d ↦{fullShare} IOut m d)) :=
  pieces_eq m d (WOut m d) (IOut m d)

end Cert.Proof.TileI

end
-- ==== Proof.LeadBit.lean ====
/-
  The kernel's search for the leading bit of a number, and the float word it builds from it, lane by lane.
-/
module

public import proofs.«01_k».proof.Proof.Draw

@[expose] public section

namespace Cert.Proof.Draw

open Idealize.ShloMosaic

theorem vector_shli {x y : BitVec 32} (h : y.toNat < 32) : IntOp.shli .vector x y = x <<< y := if_pos h
theorem vector_shrui {x y : BitVec 32} (h : y.toNat < 32) : IntOp.shrui .vector x y = x >>> y := if_pos h
theorem vector_shrsi {x y : BitVec 32} (h : y.toNat < 32) : IntOp.shrsi .vector x y = x.sshiftRight' y := if_pos h

/-- An arithmetic shift of a word below `2^31` divides. -/
theorem sshiftRight_nat {x y : BitVec 32} (h : x.toNat < 2 ^ 31) : (x.sshiftRight' y).toNat = x.toNat / 2 ^ y.toNat := by
  have hm : x.msb = false := by
    rw [BitVec.msb_eq_false_iff_two_mul_lt]; omega
  rw [BitVec.sshiftRight', BitVec.sshiftRight_eq_of_msb_false hm, BitVec.toNat_ushiftRight, Nat.shiftRight_eq_div_pow]

/-- The signed comparison of words below `2^31` compares their numbers. -/
theorem sge_nat {x t : BitVec 32} (h : x.toNat < 2 ^ 31) (ht : t.toNat < 2 ^ 31) : IntOp.cmpi .sge x t = if t.toNat ≤ x.toNat then 1 else 0 := by
  have : IntOp.cmpi .sge x t = BitVec.ofBool (BitVec.sle t x) := rfl
  rw [this, BitVec.sle_eq_decide, BitVec.toInt_eq_toNat_of_lt (by omega), BitVec.toInt_eq_toNat_of_lt (by omega)]
  by_cases hc : t.toNat ≤ x.toNat <;> simp [hc]

/-- Where the search stands: `k` bits are known to lie below the leading bit, the part still to search is the number
    without them, and fits `w` bits. -/
structure Stand (n w : ℕ) (h k : BitVec 32) : Prop where
  quot : h.toNat = n / 2 ^ k.toNat
  fits : h.toNat < 2 ^ w
  pos : 1 ≤ h.toNat
  low : k.toNat + w ≤ 32
  small : h.toNat < 2 ^ 31

/-- A step of the search halves the bits to search. -/
theorem Stand.step {n s : ℕ} {t d : BitVec 32} {h k : Words} {i : L16.Idx} (hd : d.toNat = s) (ht : t.toNat = 2 ^ s) (hs : s ≤ 16)
    (H : Stand n (2 * s) (h i) (k i)) : Stand n s (stepH t d h i) (stepK t d h k i) := by
  have e : stepH t d h i = if t.toNat ≤ (h i).toNat then (h i).sshiftRight' d else h i := by
    show Scalar.select (IntOp.cmpi .sge (h i) t) (IntOp.shrsi .vector (h i) d) (h i) = _
    rw [sge_nat H.small (by rw [ht]; exact Nat.pow_lt_pow_right (by decide) (by omega)), vector_shrsi (by omega)]
    split <;> simp [Scalar.select]
  have e' : stepK t d h k i = if t.toNat ≤ (h i).toNat then k i + d else k i := by
    show Scalar.select (IntOp.cmpi .sge (h i) t) (k i + d) (k i) = _
    rw [sge_nat H.small (by rw [ht]; exact Nat.pow_lt_pow_right (by decide) (by omega))]
    split <;> simp [Scalar.select]
  have hp : 0 < 2 ^ s := Nat.two_pow_pos s
  have hq := H.quot; have hf := H.fits; have hl := H.low; have hsm := H.small; have h1 := H.pos
  rw [e, e']
  by_cases hc : t.toNat ≤ (h i).toNat
  · rw [if_pos hc, if_pos hc]
    have hk : (k i + d).toNat = (k i).toNat + s := by
      rw [BitVec.toNat_add, hd]; exact Nat.mod_eq_of_lt (by omega)
    have hh : ((h i).sshiftRight' d).toNat = (h i).toNat / 2 ^ s := by rw [sshiftRight_nat H.small, hd]
    rw [ht] at hc
    refine ⟨?_, ?_, ?_, ?_, ?_⟩
    · rw [hh, hk, hq, Nat.div_div_eq_div_mul, Nat.pow_add]
    · rw [hh]; apply Nat.div_lt_of_lt_mul; rw [← Nat.pow_add]; rw [Nat.two_mul] at hf; exact hf
    · rw [hh]; exact (Nat.one_le_div_iff hp).mpr hc
    · rw [hk]; omega
    · rw [hh]; exact lt_of_le_of_lt (Nat.div_le_self _ _) hsm
  · rw [if_neg hc, if_neg hc]
    exact ⟨hq, by omega, h1, by omega, hsm⟩

/-- The search finds the leading bit. -/
theorem lead_spec {n : Words} {i : L16.Idx} (h₀ : (n i).toNat ≠ 0) (h : (n i).toNat < 2 ^ 23) :
    2 ^ (lead n i).toNat ≤ (n i).toNat ∧ (n i).toNat < 2 ^ ((lead n i).toNat + 1) := by
  have S₀ : Stand (n i).toNat (2 * 16) (n i) (bc 0#32 i) := by
    show Stand _ _ _ 0#32
    exact ⟨by simp, by omega, by omega, by simp, by omega⟩
  have S₁ := S₀.step (t := 65536#32) (d := 16#32) rfl rfl (by decide)
  have S₂ := Stand.step (s := 8) (t := 256#32) (d := 8#32) rfl rfl (by decide) S₁
  have S₃ := Stand.step (s := 4) (t := 16#32) (d := 4#32) rfl rfl (by decide) S₂
  have S₄ := Stand.step (s := 2) (t := 4#32) (d := 2#32) rfl rfl (by decide) S₃
  have S₅ := Stand.step (s := 1) (t := 2#32) (d := 1#32) rfl rfl (by decide) S₄
  have hq := S₅.quot; have hf := S₅.fits; have hp := S₅.pos
  change _ = (n i).toNat / 2 ^ (lead n i).toNat at hq
  have h1 : (n i).toNat / 2 ^ (lead n i).toNat = 1 := by omega
  have hP : 0 < 2 ^ (lead n i).toNat := Nat.two_pow_pos _
  have := Nat.div_add_mod (n i).toNat (2 ^ (lead n i).toNat)
  have := Nat.mod_lt (n i).toNat hP
  rw [h1] at *
  rw [Nat.pow_succ]; omega

/-- Moved up until the leading bit is at place 23, a number lies between `2^23` and `2^24`. -/
theorem place {m k : ℕ} (h : m < 2 ^ 23) (hl : 2 ^ k ≤ m) (hu : m < 2 ^ (k + 1)) :
    k ≤ 22 ∧ 2 ^ 23 ≤ m * 2 ^ (23 - k) ∧ m * 2 ^ (23 - k) < 2 ^ 24 := by
  have k22 : k < 23 := (Nat.pow_lt_pow_iff_right (by decide)).mp (lt_of_le_of_lt hl h)
  obtain ⟨r, hr⟩ : ∃ r, 23 = k + r := ⟨23 - k, by omega⟩
  have hr' : 23 - k = r := by omega
  rw [hr']
  refine ⟨by omega, ?_, ?_⟩
  · rw [hr, Nat.pow_add]; exact Nat.mul_le_mul_right _ hl
  · rw [show 24 = k + 1 + r by omega, Nat.pow_add]; exact Nat.mul_lt_mul_of_pos_right hu (Nat.two_pow_pos _)

/-- The float word of a number whose leading bit is its `k`th: exponent `k`, and the bits below the leading one. -/
theorem fword_nat {n : Words} {i : L16.Idx} {k : ℕ} (h₀ : (n i).toNat ≠ 0) (h : (n i).toNat < 2 ^ 23) (hk : (lead n i).toNat = k) :
    (fword n i).toNat = (k + 127) * 2 ^ 23 + ((n i).toNat * 2 ^ (23 - k) - 2 ^ 23) ∧ k ≤ 22 ∧ 2 ^ 23 ≤ (n i).toNat * 2 ^ (23 - k)
      ∧ (n i).toNat * 2 ^ (23 - k) < 2 ^ 24 := by
  obtain ⟨hl, hu⟩ := lead_spec h₀ h
  rw [hk] at hl hu
  obtain ⟨k22, b₁, b₂⟩ := place h hl hu
  refine ⟨?_, k22, b₁, b₂⟩
  have e : fword n i = ((lead n i + 127#32) <<< 23#32) ||| ((n i <<< (23#32 - lead n i)) &&& 8388607#32) := by
    show Scalar.select (IntOp.cmpi .eq (n i) 0#32) 0#32 (IntOp.shli .vector (lead n i + 127#32) 23#32 ||| (IntOp.shli .vector (n i) (23#32 - lead n i) &&& 8388607#32)) = _
    have hs : (23#32 - lead n i).toNat < 32 := by rw [BitVec.toNat_sub, hk]; simp; omega
    rw [vector_shli (by decide), vector_shli hs]
    have : IntOp.cmpi .eq (n i) 0#32 = 0 := by
      show BitVec.ofBool (n i == 0#32) = 0
      have : n i ≠ 0#32 := fun h => h₀ (by rw [h]; rfl)
      rw [show (n i == 0#32) = false from beq_eq_false_iff_ne.mpr this]; rfl
    rw [this]; rfl
  have hs : (23#32 - lead n i).toNat = 23 - k := by rw [BitVec.toNat_sub, hk]; simp; omega
  have e₁ : ((lead n i + 127#32) <<< 23#32).toNat = (k + 127) <<< 23 := by
    rw [BitVec.shiftLeft_eq', BitVec.toNat_shiftLeft, BitVec.toNat_add, hk]
    simp [Nat.shiftLeft_eq]; omega
  have e₂ : ((n i <<< (23#32 - lead n i)) &&& 8388607#32).toNat = (n i).toNat * 2 ^ (23 - k) - 2 ^ 23 := by
    rw [BitVec.toNat_and, BitVec.shiftLeft_eq', BitVec.toNat_shiftLeft, hs, Nat.shiftLeft_eq, Nat.mod_eq_of_lt (by omega)]
    show _ &&& (2 ^ 23 - 1) = _
    rw [Nat.and_two_pow_sub_one_eq_mod]; omega
  rw [e, BitVec.toNat_or, e₁, e₂, ← Nat.shiftLeft_add_eq_or_of_lt (by omega), Nat.shiftLeft_eq]

/-- The exponent read back from the float word, -/
theorem expo_nat {n : Words} {i : L16.Idx} {k : ℕ} (h₀ : (n i).toNat ≠ 0) (h : (n i).toNat < 2 ^ 23) (hk : (lead n i).toNat = k) :
    expo (fword n) i = BitVec.ofNat 32 k := by
  obtain ⟨hw, k22, b₁, b₂⟩ := fword_nat h₀ h hk
  show IntOp.shrsi .vector (fword n i) 23#32 - 127#32 = _
  rw [vector_shrsi (by decide)]
  apply BitVec.eq_of_toNat_eq
  rw [BitVec.toNat_sub, sshiftRight_nat (by omega), hw]
  simp; omega

/-- and the word of its significand. -/
theorem signif_nat {n : Words} {i : L16.Idx} {k : ℕ} (h₀ : (n i).toNat ≠ 0) (h : (n i).toNat < 2 ^ 23) (hk : (lead n i).toNat = k) :
    (fword n i &&& 8388607#32) ||| 1065353216#32 = BitVec.ofNat 32 (127 * 2 ^ 23 + ((n i).toNat * 2 ^ (23 - k) - 2 ^ 23)) := by
  obtain ⟨hw, k22, b₁, b₂⟩ := fword_nat h₀ h hk
  apply BitVec.eq_of_toNat_eq
  have e : (fword n i &&& 8388607#32).toNat = (n i).toNat * 2 ^ (23 - k) - 2 ^ 23 := by
    rw [BitVec.toNat_and, hw]
    show _ &&& (2 ^ 23 - 1) = _
    rw [Nat.and_two_pow_sub_one_eq_mod]; omega
  rw [BitVec.toNat_or, e]
  show _ ||| 1065353216 = _
  rw [show 1065353216 = 127 <<< 23 from rfl, Nat.or_comm, ← Nat.shiftLeft_add_eq_or_of_lt (by omega), Nat.shiftLeft_eq, BitVec.toNat_ofNat]
  omega

end Cert.Proof.Draw
-- ==== Proof.LaneBits.lean ====
/-
  The kernel's Threefry, lane by lane: the draw's 23 bits of each lane are those of the plain words.
-/
module

public import proofs.«01_k».proof.Proof.LeadBit
public import proofs.«01_k».proof.Proof.Lane

@[expose] public section

namespace Cert.Proof.Draw

open Idealize.ShloMosaic
open Cert.Proof.Lane (rnd evens odds inject parity)

/-- The second word of a round on a lane. -/
theorem mix_lane {r s : BitVec 32} (hr : r.toNat < 32) (hs : s.toNat < 32) (a b : Words) (i : L16.Idx) :
    mix r s a b i = a i ^^^ ((b i <<< r) ||| (b i >>> s)) := by
  show a i ^^^ (IntOp.shli .vector (b i) r ||| IntOp.shrui .vector (b i) s) = _
  rw [vector_shli hr, vector_shrui hs]

/-- A group on a lane: four rounds and the key words. -/
theorem group_lane {r₁ s₁ r₂ s₂ r₃ s₃ r₄ s₄ : BitVec 32} (h₁ : r₁.toNat < 32) (g₁ : s₁.toNat < 32) (h₂ : r₂.toNat < 32) (g₂ : s₂.toNat < 32)
    (h₃ : r₃.toNat < 32) (g₃ : s₃.toNat < 32) (h₄ : r₄.toNat < 32) (g₄ : s₄.toNat < 32) {k l : Words} {x : Words × Words} {i : L16.Idx}
    {p : BitVec 32 × BitVec 32} (hp : (x.1 i, x.2 i) = p) :
    ((group r₁ s₁ r₂ s₂ r₃ s₃ r₄ s₄ k l x).1 i, (group r₁ s₁ r₂ s₂ r₃ s₃ r₄ s₄ k l x).2 i)
      = inject (k i) (l i) (rnd r₄ s₄ (rnd r₃ s₃ (rnd r₂ s₂ (rnd r₁ s₁ p)))) := by
  subst hp
  have round : ∀ {r s : BitVec 32} (_ : r.toNat < 32) (_ : s.toNat < 32) (a b : Words),
      (addi a b i, mix r s (addi a b) b i) = rnd r s (a i, b i) := fun hr hs a b => by
    rw [mix_lane hr hs]; rfl
  rw [← round h₁ g₁, ← round h₂ g₂, ← round h₃ g₃, ← round h₄ g₄]; rfl

/-- The kernel's twenty rounds on a lane, for key words that on that lane are the seed's. -/
theorem threefry_lane {K : Key} {idx : Words} {i : L16.Idx} {s : BitVec 32} (h1 : K.one i = s) (h0 : K.zero i = 0)
    (h2 : K.two i = parity 0 s) (h21 : K.two1 i = parity 0 s + 1#32) (h02 : K.zero2 i = 0 + 2#32) (h13 : K.one3 i = s + 3#32)
    (h24 : K.two4 i = parity 0 s + 4#32) (h05 : K.zero5 i = 0 + 5#32) :
    ((threefry K idx).1 i, (threefry K idx).2 i) = Lane.threefry 0 s 0 (idx i) := by
  have e₀ : (K.zero i, addi idx K.one i) = inject 0 s (0, idx i) := by
    show (K.zero i, idx i + K.one i) = _
    rw [h0, h1]; rfl
  have e₁ := group_lane (r₁ := 13#32) (s₁ := 19#32) (r₂ := 15#32) (s₂ := 17#32) (r₃ := 26#32) (s₃ := 6#32) (r₄ := 6#32) (s₄ := 26#32)
    (by decide) (by decide) (by decide) (by decide) (by decide) (by decide) (by decide) (by decide) (k := K.one) (l := K.two1)
    (x := (K.zero, addi idx K.one)) e₀
  have e₂ := group_lane (r₁ := 17#32) (s₁ := 15#32) (r₂ := 29#32) (s₂ := 3#32) (r₃ := 16#32) (s₃ := 16#32) (r₄ := 24#32) (s₄ := 8#32)
    (by decide) (by decide) (by decide) (by decide) (by decide) (by decide) (by decide) (by decide) (k := K.two) (l := K.zero2) e₁
  have e₃ := group_lane (r₁ := 13#32) (s₁ := 19#32) (r₂ := 15#32) (s₂ := 17#32) (r₃ := 26#32) (s₃ := 6#32) (r₄ := 6#32) (s₄ := 26#32)
    (by decide) (by decide) (by decide) (by decide) (by decide) (by decide) (by decide) (by decide) (k := K.zero) (l := K.one3) e₂
  have e₄ := group_lane (r₁ := 17#32) (s₁ := 15#32) (r₂ := 29#32) (s₂ := 3#32) (r₃ := 16#32) (s₃ := 16#32) (r₄ := 24#32) (s₄ := 8#32)
    (by decide) (by decide) (by decide) (by decide) (by decide) (by decide) (by decide) (by decide) (k := K.one) (l := K.two4) e₃
  have e₅ := group_lane (r₁ := 13#32) (s₁ := 19#32) (r₂ := 15#32) (s₂ := 17#32) (r₃ := 26#32) (s₃ := 6#32) (r₄ := 6#32) (s₄ := 26#32)
    (by decide) (by decide) (by decide) (by decide) (by decide) (by decide) (by decide) (by decide) (k := K.two) (l := K.zero5) e₄
  refine e₅.trans ?_
  rw [h1, h0, h2, h21, h02, h13, h24, h05]; rfl

/-- The draw's 23 bits of a lane. -/
theorem mant_lane {K : Key} {idx : Words} {i : L16.Idx} {p : BitVec 32 × BitVec 32}
    (h : ((threefry K idx).1 i, (threefry K idx).2 i) = p) : mant K idx i = (p.1 ^^^ p.2) >>> 9#32 := by
  subst h
  exact vector_shrui (y := 9#32) (by decide)

/-- They are below `2 ^ 23`. -/
theorem bits_lt (w : BitVec 32) : (w >>> 9#32).toNat < 2 ^ 23 := by
  rw [BitVec.ushiftRight_eq', BitVec.toNat_ushiftRight, Nat.shiftRight_eq_div_pow]
  have := w.isLt
  simp; omega

end Cert.Proof.Draw
-- ==== Proof.LogReal.lean ====
/-
  The negated logarithm of a draw, over the extended reals: the kernel's from the leading bit, the reference's from the
  thresholds, are one function of the draw's 23 bits.
-/
module

public import proofs.«01_k».proof.Proof.LaneBits
public import proofs.«01_k».proof.Proof.RefLane
public import Idealize.ShloMosaic.PureOps.Ideal
public import Mathlib.Tactic.Ring
public import Mathlib.Tactic.Linarith

@[expose] public section

noncomputable section

namespace Cert.Proof.Log

open Idealize.ShloMosaic

/-- The value of a float word of exponent `E` and fraction `f`. -/
def val (E f : ℕ) : ℝ := (2 ^ 23 + f : ℕ) * (2 : ℝ) ^ ((E : ℤ) - 150)

/-- The sign, the exponent and the fraction of such a word. -/
theorem word_sign {E f : ℕ} (h : E < 255) (hf : f < 2 ^ 23) : (BitVec.ofNat 32 (E * 2 ^ 23 + f)).extractLsb' 31 1 = 0#1 := by
  apply BitVec.eq_of_toNat_eq
  rw [BitVec.extractLsb'_toNat, BitVec.toNat_ofNat, Nat.shiftRight_eq_div_pow, BitVec.toNat_ofNat]
  omega
theorem word_exp {E f : ℕ} (h : E < 255) (hf : f < 2 ^ 23) : ((BitVec.ofNat 32 (E * 2 ^ 23 + f)).extractLsb' 23 8).toNat = E := by
  rw [BitVec.extractLsb'_toNat, BitVec.toNat_ofNat, Nat.shiftRight_eq_div_pow]
  omega
theorem word_frac {E f : ℕ} (h : E < 255) (hf : f < 2 ^ 23) : ((BitVec.ofNat 32 (E * 2 ^ 23 + f)).extractLsb' 0 23).toNat = f := by
  rw [BitVec.extractLsb'_toNat, BitVec.toNat_ofNat, Nat.shiftRight_eq_div_pow]
  omega

theorem ieee_val {b : BitVec 32} {E f : ℕ} (hs : b.extractLsb' 31 1 = 0#1) (he : (b.extractLsb' 23 8).toNat = E)
    (hf : (b.extractLsb' 0 23).toNat = f) (h₀ : E ≠ 0) (h : E ≠ 255) : Ideal.ieee 8 23 b = (val E f : EReal) := by
  have hn : (b.extractLsb' (8 + 23) 1 == 1#1) = false := by
    show (b.extractLsb' 31 1 == 1#1) = false
    rw [hs]; rfl
  have key : ∀ (ex fr : ℕ), ex ≠ 0 → ex ≠ 255 →
      (if ex = 2 ^ 8 - 1 then (if fr = 0 then (if false then ⊥ else ⊤) else ⊥)
        else if ex = 0 then ((((if false then -1 else 1) * fr * (2 : ℝ) ^ (1 - (2 ^ (8 - 1) - 1) - ((23 : ℕ) : ℤ) : ℤ) : ℝ)) : EReal)
        else (((if false then -1 else 1) * (2 ^ 23 + fr : ℕ) * (2 : ℝ) ^ ((ex : ℤ) - (2 ^ (8 - 1) - 1) - ((23 : ℕ) : ℤ)) : ℝ) : EReal)) = (val ex fr : EReal) := by
    intro ex fr a b
    rw [if_neg (by omega), if_neg a]
    have hx : (ex : ℤ) - (2 ^ (8 - 1) - 1) - ((23 : ℕ) : ℤ) = (ex : ℤ) - 150 := by omega
    rw [hx, val, if_neg (by decide), one_mul]
  unfold Ideal.ieee
  simp only [hn, he, hf]
  exact key E f h₀ h

theorem word_val {E f : ℕ} (h₀ : 0 < E) (h : E < 255) (hf : f < 2 ^ 23) :
    Ideal.ofBits .f32 (BitVec.ofNat 32 (E * 2 ^ 23 + f)) = (val E f : EReal) :=
  ieee_val (word_sign h hf) (word_exp h hf) (word_frac h hf) (by omega) (by omega)

/-- One, two, a half, twenty-three and zero. -/
theorem one_val : Ideal.ofBits .f32 0x3F800000#32 = ((1 : ℝ) : EReal) := by
  rw [show (0x3F800000#32 : BitVec 32) = BitVec.ofNat 32 (127 * 2 ^ 23 + 0) from rfl, word_val (by decide) (by decide) (by decide)]
  norm_num [val]
theorem two_val : Ideal.ofBits .f32 0x40000000#32 = ((2 : ℝ) : EReal) := by
  rw [show (0x40000000#32 : BitVec 32) = BitVec.ofNat 32 (128 * 2 ^ 23 + 0) from rfl, word_val (by decide) (by decide) (by decide)]
  norm_num [val]
theorem half_val : Ideal.ofBits .f32 0x3F000000#32 = ((1 / 2 : ℝ) : EReal) := by
  rw [show (0x3F000000#32 : BitVec 32) = BitVec.ofNat 32 (126 * 2 ^ 23 + 0) from rfl, word_val (by decide) (by decide) (by decide)]
  norm_num [val]
theorem twentythree_val : Ideal.ofBits .f32 0x41B80000#32 = ((23 : ℝ) : EReal) := by
  rw [show (0x41B80000#32 : BitVec 32) = BitVec.ofNat 32 (131 * 2 ^ 23 + 0x380000) from rfl, word_val (by decide) (by decide) (by decide)]
  norm_num [val]
theorem zero_val : Ideal.ofBits .f32 0x00000000#32 = ((0 : ℝ) : EReal) := by
  simp [Ideal.ofBits, Ideal.ieee]

/-- The bound the significand is compared with, and its half. -/
def bound : ℝ := val 127 0x3504F3
theorem bound_val : Ideal.ofBits .f32 0x3FB504F3#32 = (bound : EReal) :=
  word_val (E := 127) (f := 0x3504F3) (by decide) (by decide) (by decide)
theorem halfBound_val : Ideal.ofBits .f32 0x3F3504F3#32 = ((bound / 2 : ℝ) : EReal) := by
  rw [show (0x3F3504F3#32 : BitVec 32) = BitVec.ofNat 32 (126 * 2 ^ 23 + 0x3504F3) from rfl, word_val (by decide) (by decide) (by decide)]
  norm_num [val, bound]

/-- The logarithm of two, and the series' coefficients. -/
def ln2 : ℝ := val 126 0x317218
def c3 : ℝ := val 125 0x2AAAAB
def c5 : ℝ := val 124 0x4CCCCD
def c7 : ℝ := val 124 0x124925
def c9 : ℝ := val 123 0x638E39
theorem ln2_val : Ideal.ofBits .f32 0x3F317218#32 = (ln2 : EReal) := word_val (E := 126) (f := 0x317218) (by decide) (by decide) (by decide)
theorem c3_val : Ideal.ofBits .f32 0x3EAAAAAB#32 = (c3 : EReal) := word_val (E := 125) (f := 0x2AAAAB) (by decide) (by decide) (by decide)
theorem c5_val : Ideal.ofBits .f32 0x3E4CCCCD#32 = (c5 : EReal) := word_val (E := 124) (f := 0x4CCCCD) (by decide) (by decide) (by decide)
theorem c7_val : Ideal.ofBits .f32 0x3E124925#32 = (c7 : EReal) := word_val (E := 124) (f := 0x124925) (by decide) (by decide) (by decide)
theorem c9_val : Ideal.ofBits .f32 0x3DE38E39#32 = (c9 : EReal) := word_val (E := 123) (f := 0x638E39) (by decide) (by decide) (by decide)

/-- The series at a quotient `s`, -/
def ser (s : ℝ) : ℝ := 2 * (s + c3 * s ^ 3 + c5 * s ^ 5 + c7 * s ^ 7 + c9 * s ^ 9)

/-- and the negated logarithm from the number of halvings `j` and the reduced significand `m`. -/
def logOf (j m : ℝ) : ℝ := j * ln2 - ser ((m - 1) / (m + 1))

/-- The negated logarithm of a draw whose leading bit is its `k`th. -/
def drawLog (n k : ℕ) : ℝ :=
  if bound ≤ (n : ℝ) / 2 ^ k then logOf (22 - k) ((n : ℝ) / 2 ^ k / 2) else logOf (23 - k) ((n : ℝ) / 2 ^ k)

/-- A quotient of reals. -/
theorem div_real (x : ℝ) {y : ℝ} (h : y ≠ 0) : Ideal.div (x : EReal) (y : EReal) = ((x / y : ℝ) : EReal) := by
  rw [Ideal.div_coe h, ← EReal.coe_mul, mul_one_div]

/-- The kernel's series is the power series. -/
theorem series_real {m : FVec Ideal Draw.L16 .f32} {i : Draw.L16.Idx} {x : ℝ} (h : m i = (x : EReal)) (hx : 0 < x) :
    Draw.series m i = (ser ((x - 1) / (x + 1)) : EReal) := by
  have hs : divf (subf m (Draw.bcf 0x3F800000#32)) (addf m (Draw.bcf 0x3F800000#32)) i = (((x - 1) / (x + 1) : ℝ) : EReal) := by
    show Ideal.div (m i - Ideal.ofBits .f32 0x3F800000#32) (m i + Ideal.ofBits .f32 0x3F800000#32) = _
    rw [h, one_val, ← EReal.coe_sub, ← EReal.coe_add, div_real _ (by linarith)]
  have e : Draw.series m i = (Ideal.ofBits .f32 0x40000000#32 * divf (subf m (Draw.bcf 0x3F800000#32)) (addf m (Draw.bcf 0x3F800000#32)) i)
      * ((((Ideal.ofBits .f32 0x3DE38E39#32 * (divf (subf m (Draw.bcf 0x3F800000#32)) (addf m (Draw.bcf 0x3F800000#32)) i * divf (subf m (Draw.bcf 0x3F800000#32)) (addf m (Draw.bcf 0x3F800000#32)) i)
        + Ideal.ofBits .f32 0x3E124925#32) * (divf (subf m (Draw.bcf 0x3F800000#32)) (addf m (Draw.bcf 0x3F800000#32)) i * divf (subf m (Draw.bcf 0x3F800000#32)) (addf m (Draw.bcf 0x3F800000#32)) i)
        + Ideal.ofBits .f32 0x3E4CCCCD#32) * (divf (subf m (Draw.bcf 0x3F800000#32)) (addf m (Draw.bcf 0x3F800000#32)) i * divf (subf m (Draw.bcf 0x3F800000#32)) (addf m (Draw.bcf 0x3F800000#32)) i)
        + Ideal.ofBits .f32 0x3EAAAAAB#32) * (divf (subf m (Draw.bcf 0x3F800000#32)) (addf m (Draw.bcf 0x3F800000#32)) i * divf (subf m (Draw.bcf 0x3F800000#32)) (addf m (Draw.bcf 0x3F800000#32)) i)
        + Ideal.ofBits .f32 0x3F800000#32) := rfl
  rw [e, hs, two_val, c9_val, c7_val, c5_val, c3_val, one_val]
  simp only [← EReal.coe_mul, ← EReal.coe_add]
  exact congrArg Real.toEReal (by rw [ser]; ring)

/-- The reference's series is the power series. -/
theorem powers_real (s : ℝ) : Ref.powers (F := Ideal) (s : EReal) = (ser s : EReal) := by
  have e : Ref.powers (F := Ideal) (s : EReal) = Ideal.ofBits .f32 0x40000000#32 * ((((s : EReal) + Ideal.ofBits .f32 0x3EAAAAAB#32 * (s * s * s))
      + Ideal.ofBits .f32 0x3E4CCCCD#32 * (s * (s * s * (s * s)))) + Ideal.ofBits .f32 0x3E124925#32 * (s * (s * s) * (s * s * (s * s)))
      + Ideal.ofBits .f32 0x3DE38E39#32 * (s * ((s * s * (s * s)) * (s * s * (s * s))))) := rfl
  rw [e, two_val, c9_val, c7_val, c5_val, c3_val]
  simp only [← EReal.coe_mul, ← EReal.coe_add]
  exact congrArg Real.toEReal (by rw [ser]; ring)

end Cert.Proof.Log
-- ==== Proof.LogEq.lean ====
/-
  The kernel's and the reference's negated logarithm of a draw over the extended reals, each as the function of the draw's
  bits that `LogReal` states; so they are equal.
-/
module

public import proofs.«01_k».proof.Proof.LogReal

@[expose] public section

noncomputable section

namespace Cert.Proof.Log

open Idealize.ShloMosaic

/-- A choice by a comparison. -/
theorem select_of {α : Type} {c : BitVec 1} {p : Prop} [Decidable p] (h : c = BitVec.ofBool (decide p)) (a b : α) :
    Scalar.select c a b = if p then a else b := by
  subst h
  by_cases hp : p <;> simp [Scalar.select, hp]

/-! ## The kernel's -/

/-- The significand of a nonzero draw whose leading bit is its `k`th. -/
theorem signif_real {n : Draw.Words} {i : Draw.L16.Idx} {k : ℕ} (h₀ : (n i).toNat ≠ 0) (h : (n i).toNat < 2 ^ 23) (hk : (Draw.lead n i).toNat = k) :
    Draw.signif (F := Ideal) (Draw.fword n) i = ((((n i).toNat : ℝ) / 2 ^ k : ℝ) : EReal) := by
  obtain ⟨-, k22, b₁, b₂⟩ := Draw.fword_nat h₀ h hk
  have e : Draw.signif (F := Ideal) (Draw.fword n) i = Ideal.ofBits .f32 ((Draw.fword n i &&& 8388607#32) ||| 1065353216#32) := rfl
  rw [e, Draw.signif_nat h₀ h hk, word_val (by decide) (by decide) (by omega)]
  apply congrArg Real.toEReal
  have hn : 2 ^ 23 + ((n i).toNat * 2 ^ (23 - k) - 2 ^ 23) = (n i).toNat * 2 ^ (23 - k) := by omega
  rw [val, hn, Nat.cast_mul, Nat.cast_pow, Nat.cast_ofNat]
  obtain ⟨r, hr⟩ : ∃ r, 23 = k + r := ⟨23 - k, by omega⟩
  have hr' : 23 - k = r := by omega
  have e2 : (2 : ℝ) ^ (((127 : ℕ) : ℤ) - 150) = ((2 : ℝ) ^ (23 : ℕ))⁻¹ := by
    rw [show ((127 : ℕ) : ℤ) - 150 = -((23 : ℕ) : ℤ) by norm_num, zpow_neg, zpow_natCast]
  rw [e2, hr', hr, pow_add]
  field_simp

/-- The kernel's combination of exponent and significand. -/
theorem combine_real {e : Draw.Words} {m : FVec Ideal Draw.L16 .f32} {i : Draw.L16.Idx} {k : ℕ} {x : ℝ} (he : e i = BitVec.ofNat 32 k) (hk : k ≤ 22)
    (hm : m i = (x : EReal)) (hx : 0 < x) :
    Draw.combine e m i = ((if bound ≤ x then logOf (22 - k) (x / 2) else logOf (23 - k) x : ℝ) : EReal) := by
  have hc : Draw.isBig m i = BitVec.ofBool (decide (bound ≤ x)) := by
    show Ideal.cmp .oge (m i) (Ideal.ofBits .f32 0x3FB504F3#32) = _
    rw [hm, bound_val]
    exact congrArg BitVec.ofBool (decide_eq_decide.mpr EReal.coe_le_coe_iff)
  have hsel : (select (Draw.isBig m) (mulf m (Draw.bcf 0x3F000000#32)) m : FVec Ideal Draw.L16 .f32) i = ((if bound ≤ x then x / 2 else x : ℝ) : EReal) := by
    show Scalar.select (Draw.isBig m i) (m i * Ideal.ofBits .f32 0x3F000000#32) (m i) = _
    rw [select_of hc, hm, half_val, ← EReal.coe_mul]
    split
    · exact congrArg Real.toEReal (by ring)
    · rfl
  have hser := series_real hsel (by split <;> linarith)
  have hint : ∀ j : ℕ, j < 2 ^ 31 → ((BitVec.ofNat 32 j).toInt : ℝ) = j := fun j hj => by
    rw [BitVec.toInt_eq_toNat_of_lt (by rw [BitVec.toNat_ofNat]; omega), BitVec.toNat_ofNat, Nat.mod_eq_of_lt (by omega)]; simp
  have hsel' : (select (Draw.isBig m) (addi e (Draw.bc 1#32)) e : Draw.Words) i = BitVec.ofNat 32 (if bound ≤ x then k + 1 else k) := by
    show Scalar.select (Draw.isBig m i) (e i + 1#32) (e i) = _
    rw [select_of hc, he]
    split
    · rw [BitVec.ofNat_add]
    · rfl
  have e₀ : Draw.combine e m i = (Ideal.ofBits .f32 0x41B80000#32
        - (((select (Draw.isBig m) (addi e (Draw.bc 1#32)) e : Draw.Words) i).toInt : ℝ)) * Ideal.ofBits .f32 0x3F317218#32
      - Draw.series (select (Draw.isBig m) (mulf m (Draw.bcf 0x3F000000#32)) m) i := rfl
  rw [e₀, hser, hsel', hint _ (by split <;> omega), twentythree_val, ln2_val]
  simp only [← EReal.coe_mul, ← EReal.coe_sub]
  apply congrArg Real.toEReal
  split
  · rw [logOf]; push_cast; ring
  · rw [logOf]

/-- The kernel's negated logarithm of a nonzero draw. -/
theorem kernel_log {n : Draw.Words} {i : Draw.L16.Idx} (h₀ : (n i).toNat ≠ 0) (h : (n i).toNat < 2 ^ 23) :
    (Draw.negLog (F := Ideal) n i : EReal) = (drawLog (n i).toNat (Draw.lead n i).toNat : EReal) := by
  obtain ⟨-, k22, -, -⟩ := Draw.fword_nat h₀ h rfl
  have hc : cmpi .eq n (Draw.bc 0#32) i = BitVec.ofBool (decide (n i = 0#32)) := by
    show BitVec.ofBool (n i == 0#32) = _
    rw [beq_eq_decide]
  have : Draw.negLog (F := Ideal) n i = Scalar.select (cmpi .eq n (Draw.bc 0#32) i) (Ideal.ofBits .f32 0x42AEAC50#32)
    (Draw.combine (Draw.expo (Draw.fword n)) (Draw.signif (Draw.fword n)) i) := rfl
  rw [this, select_of hc, if_neg (fun h => h₀ (by rw [h]; rfl)), combine_real (Draw.expo_nat h₀ h rfl) k22 (signif_real h₀ h rfl)]
  · rfl
  · have : (0 : ℝ) < (n i).toNat := by exact_mod_cast Nat.pos_of_ne_zero h₀
    positivity

/-! ## The reference's -/

/-- The reference's draw of a number below `2^23`. -/
theorem unit_real {n : BitVec 32} (h : n.toNat < 2 ^ 23) : Ref.unitOf (F := Ideal) n = (((n.toNat : ℝ) / 2 ^ 23 : ℝ) : EReal) := by
  have hw : n ||| 1065353216#32 = BitVec.ofNat 32 (127 * 2 ^ 23 + n.toNat) := by
    apply BitVec.eq_of_toNat_eq
    rw [BitVec.toNat_or]
    show _ ||| 1065353216 = _
    rw [show 1065353216 = 127 <<< 23 from rfl, Nat.or_comm, ← Nat.shiftLeft_add_eq_or_of_lt h, Nat.shiftLeft_eq, BitVec.toNat_ofNat]
    omega
  have e : Ref.unitOf (F := Ideal) n = max (Ideal.ofBits .f32 0x00000000#32)
    ((Ideal.ofBits .f32 (n ||| 1065353216#32) - Ideal.ofBits .f32 0x3F800000#32) * (Ideal.ofBits .f32 0x3F800000#32 - Ideal.ofBits .f32 0x00000000#32)
      + Ideal.ofBits .f32 0x00000000#32) := rfl
  rw [e, hw, word_val (by decide) (by decide) h, one_val, zero_val]
  simp only [← EReal.coe_mul, ← EReal.coe_sub, ← EReal.coe_add]
  have hv : (val 127 n.toNat - 1) * (1 - 0) + 0 = (n.toNat : ℝ) / 2 ^ 23 := by
    have e2 : (2 : ℝ) ^ (((127 : ℕ) : ℤ) - 150) = ((2 : ℝ) ^ (23 : ℕ))⁻¹ := by
      rw [show ((127 : ℕ) : ℤ) - 150 = -((23 : ℕ) : ℤ) by norm_num, zpow_neg, zpow_natCast]
    rw [val, e2, Nat.cast_add, Nat.cast_pow, Nat.cast_ofNat]
    field_simp
    ring
  rw [hv]
  exact max_eq_right (EReal.coe_le_coe_iff.mpr (by positivity))

/-- A draw compared with the threshold `2^-(t+1)`. -/
theorem below_real {m t : ℕ} (ht : t < 22) : Ref.below (F := Ideal) (((m : ℝ) / 2 ^ 23 : ℝ) : EReal) (BitVec.ofNat 32 ((126 - t) * 2 ^ 23 + 0))
    = if m < 2 ^ (22 - t) then 1#32 else 0#32 := by
  have hc : FloatOps.cmpf (F := Ideal) (φ := .f32) .olt (((m : ℝ) / 2 ^ 23 : ℝ) : EReal) (Ideal.ofBits .f32 (BitVec.ofNat 32 ((126 - t) * 2 ^ 23 + 0)))
      = BitVec.ofBool (decide (m < 2 ^ (22 - t))) := by
    rw [word_val (by omega) (by omega) (by decide)]
    refine congrArg BitVec.ofBool (decide_eq_decide.mpr ?_)
    rw [EReal.coe_lt_coe_iff, val]
    obtain ⟨r, hr⟩ : ∃ r, 22 = t + r := ⟨22 - t, by omega⟩
    have hr' : 22 - t = r := by omega
    have hz : ((126 - t : ℕ) : ℤ) - 150 = (r : ℤ) - ((46 : ℕ) : ℤ) := by omega
    rw [hr', hz, zpow_sub₀ (by norm_num), zpow_natCast, zpow_natCast, div_lt_iff₀ (by positivity)]
    have : (((2 ^ 23 + 0 : ℕ) : ℝ) * (2 ^ r / 2 ^ 46) * 2 ^ 23) = ((2 ^ r : ℕ) : ℝ) := by
      rw [show ((2 ^ 23 + 0 : ℕ) : ℝ) = 2 ^ 23 by norm_num, Nat.cast_pow, Nat.cast_ofNat]
      have : (2 : ℝ) ^ 46 = 2 ^ 23 * 2 ^ 23 := by rw [← pow_add]
      rw [this]; field_simp
    rw [this, Nat.cast_lt]
  show (FloatOps.cmpf (F := Ideal) (φ := .f32) .olt _ _).setWidth 32 = _
  rw [show Ref.fl (F := Ideal) (BitVec.ofNat 32 ((126 - t) * 2 ^ 23 + 0)) = Ideal.ofBits .f32 (BitVec.ofNat 32 ((126 - t) * 2 ^ 23 + 0)) from rfl, hc]
  split <;> simp [*]

/-- The thresholds by their exponents. -/
theorem thresholds_eq : Ref.thresholds = (List.range 22).map fun t => BitVec.ofNat 32 ((126 - t) * 2 ^ 23 + 0) := by decide

/-- The count of thresholds above a draw whose leading bit is its `k`th. -/
theorem count_real {m k : ℕ} (hl : 2 ^ k ≤ m) (hu : m < 2 ^ (k + 1)) :
    Ref.count (F := Ideal) (((m : ℝ) / 2 ^ 23 : ℝ) : EReal) = BitVec.ofNat 32 (22 - k) := by
  have hb : ∀ t, t < 22 → (m < 2 ^ (22 - t) ↔ t < 22 - k) := fun t ht => by
    constructor
    · intro h
      have := (Nat.pow_lt_pow_iff_right (a := 2) (by decide)).mp (lt_of_le_of_lt hl h)
      omega
    · intro h
      exact lt_of_lt_of_le hu (Nat.pow_le_pow_right (by decide) (by omega))
  have main : ∀ q, q ≤ 22 → ((List.range q).map fun t => BitVec.ofNat 32 ((126 - t) * 2 ^ 23 + 0)).foldl
      (fun n b => n + Ref.below (F := Ideal) (((m : ℝ) / 2 ^ 23 : ℝ) : EReal) b) 0#32 = BitVec.ofNat 32 (min q (22 - k)) := by
    intro q
    induction q with
    | zero => intro _; simp
    | succ q ih =>
      intro hq
      rw [List.range_succ, List.map_append, List.foldl_append, ih (by omega)]
      show _ + Ref.below (F := Ideal) _ _ = _
      rw [below_real (by omega)]
      by_cases h : q < 22 - k
      · rw [if_pos ((hb q (by omega)).mpr h), show min q (22 - k) = q by omega, show min (q + 1) (22 - k) = q + 1 by omega, BitVec.ofNat_add]
      · rw [if_neg (fun h' => h ((hb q (by omega)).mp h')), show min (q + 1) (22 - k) = min q (22 - k) by omega]; simp
  rw [Ref.count, thresholds_eq, main 22 le_rfl, show min 22 (22 - k) = 22 - k by omega]

/-- The reference's negated logarithm of a nonzero draw. -/
theorem reference_log {n : BitVec 32} {k : ℕ} (h₀ : n.toNat ≠ 0) (h : n.toNat < 2 ^ 23) (hl : 2 ^ k ≤ n.toNat) (hu : n.toNat < 2 ^ (k + 1)) :
    (Ref.negLog (F := Ideal) (Ref.unitOf n) : EReal) = (drawLog n.toNat k : EReal) := by
  obtain ⟨k22, -, -⟩ := Draw.place h hl hu
  have hn : (0 : ℝ) < n.toNat := by exact_mod_cast Nat.pos_of_ne_zero h₀
  have hint : ∀ j : ℕ, j < 2 ^ 31 → ((BitVec.ofNat 32 j).toInt : ℝ) = j := fun j hj => by
    rw [BitVec.toInt_eq_toNat_of_lt (by rw [BitVec.toNat_ofNat]; omega), BitVec.toNat_ofNat, Nat.mod_eq_of_lt (by omega)]; simp
  have hsh : IntOp.shli .host 1#32 (BitVec.ofNat 32 (22 - k)) = BitVec.ofNat 32 (2 ^ (22 - k)) := by
    have hj : (BitVec.ofNat 32 (22 - k)).toNat = 22 - k := by rw [BitVec.toNat_ofNat]; omega
    rw [show IntOp.shli .host 1#32 (BitVec.ofNat 32 (22 - k)) = 1#32 <<< BitVec.ofNat 32 (22 - k) from if_pos (by rw [hj]; omega)]
    apply BitVec.eq_of_toNat_eq
    rw [BitVec.shiftLeft_eq', BitVec.toNat_shiftLeft, hj, Nat.shiftLeft_eq, BitVec.toNat_ofNat, BitVec.toNat_ofNat]
    norm_num
  have hp : 2 ^ (22 - k) < 2 ^ 31 := Nat.pow_lt_pow_right (by decide) (by omega)
  have hm : (FloatOps.mulf (F := Ideal) (φ := .f32) (((n.toNat : ℝ) / 2 ^ 23 : ℝ) : EReal)
      (FloatOps.sitofp .f32 (BitVec.ofNat 32 (2 ^ (22 - k)))) : EReal) = (((n.toNat : ℝ) / 2 ^ k / 2 : ℝ) : EReal) := by
    show (((n.toNat : ℝ) / 2 ^ 23 : ℝ) : EReal) * (((BitVec.ofNat 32 (2 ^ (22 - k))).toInt : ℝ) : EReal) = _
    rw [hint _ hp, ← EReal.coe_mul]
    apply congrArg Real.toEReal
    obtain ⟨r, hr⟩ : ∃ r, 22 = k + r := ⟨22 - k, by omega⟩
    rw [show 22 - k = r by omega, show 23 = k + r + 1 by omega, pow_succ, pow_add, Nat.cast_pow, Nat.cast_ofNat]
    field_simp
  have hc : FloatOps.cmpf (F := Ideal) (φ := .f32) .olt (((n.toNat : ℝ) / 2 ^ k / 2 : ℝ) : EReal) (Ref.fl 0x3F3504F3#32)
      = BitVec.ofBool (decide (¬ bound ≤ (n.toNat : ℝ) / 2 ^ k)) := by
    show Ideal.cmp .olt _ (Ideal.ofBits .f32 0x3F3504F3#32) = _
    rw [halfBound_val]
    refine congrArg BitVec.ofBool (decide_eq_decide.mpr ?_)
    rw [EReal.coe_lt_coe_iff, not_le]
    constructor <;> intro h <;> linarith
  have hz : FloatOps.cmpf (F := Ideal) (φ := .f32) .oeq (((n.toNat : ℝ) / 2 ^ 23 : ℝ) : EReal) (Ref.fl 0x00000000#32)
      = BitVec.ofBool (decide False) := by
    show Ideal.cmp .oeq _ (Ideal.ofBits .f32 0x00000000#32) = _
    rw [zero_val]
    refine congrArg BitVec.ofBool (decide_eq_decide.mpr ?_)
    rw [EReal.coe_eq_coe_iff, iff_false]
    positivity
  have hq : ∀ x : ℝ, 0 < x → Ref.quot (F := Ideal) (x : EReal) = (((x - 1) / (x + 1) : ℝ) : EReal) := fun x hx => by
    show Ideal.div ((x : EReal) - Ideal.ofBits .f32 0x3F800000#32) ((x : EReal) + Ideal.ofBits .f32 0x3F800000#32) = _
    rw [one_val, ← EReal.coe_sub, ← EReal.coe_add, div_real _ (by linarith)]
  have hx : 0 < (n.toNat : ℝ) / 2 ^ k := by positivity
  rw [unit_real h, Ref.negLog, count_real hl hu]
  simp only [hsh, hm, hc, hz, select_of rfl]
  rw [if_neg id]
  have hadd : BitVec.ofNat 32 (22 - k) + 1#32 = BitVec.ofNat 32 (23 - k) := by
    rw [show 23 - k = 22 - k + 1 by omega, BitVec.ofNat_add]
  rw [hadd]
  have hlast : ∀ (j : ℕ) (x : ℝ), j ≤ 23 → 0 < x → (FloatOps.subf (F := Ideal) (φ := .f32) (FloatOps.mulf (FloatOps.sitofp .f32 (BitVec.ofNat 32 j)) (Ref.fl 0x3F317218#32))
      (Ref.powers (Ref.quot (x : EReal))) : EReal) = (logOf j x : EReal) := fun j x hj hx => by
    show (((BitVec.ofNat 32 j).toInt : ℝ) : EReal) * Ideal.ofBits .f32 0x3F317218#32 - Ref.powers (F := Ideal) (Ref.quot (x : EReal)) = _
    rw [hq x hx, powers_real, hint _ (by omega), ln2_val, ← EReal.coe_mul, ← EReal.coe_sub]; rfl
  rw [drawLog]
  by_cases hb : bound ≤ (n.toNat : ℝ) / 2 ^ k
  · rw [if_neg (not_not.mpr hb), if_neg (not_not.mpr hb), if_pos hb, hlast _ _ (by omega) (by linarith), Nat.cast_sub k22]; rfl
  · rw [if_pos hb, if_pos hb, if_neg hb]
    have h2 : FloatOps.mulf (F := Ideal) (φ := .f32) (Ref.fl 0x40000000#32) (((n.toNat : ℝ) / 2 ^ k / 2 : ℝ) : EReal) = (((n.toNat : ℝ) / 2 ^ k : ℝ) : EReal) := by
      show Ideal.ofBits .f32 0x40000000#32 * _ = _
      rw [two_val, ← EReal.coe_mul]
      exact congrArg Real.toEReal (by ring)
    rw [h2, hlast _ _ (by omega) hx, Nat.cast_sub (by omega)]; rfl

/-- Both logarithms of a draw's bits are equal, -/
theorem negLog_eq {n : Draw.Words} {i : Draw.L16.Idx} (h : (n i).toNat < 2 ^ 23) :
    (Draw.negLog (F := Ideal) n i : EReal) = Ref.negLog (F := Ideal) (Ref.unitOf (n i)) := by
  by_cases h₀ : (n i).toNat = 0
  · have hn : n i = 0#32 := BitVec.eq_of_toNat_eq h₀
    have e₁ : (Draw.negLog (F := Ideal) n i : EReal) = Ideal.ofBits .f32 0x42AEAC50#32 := by
      have hc : cmpi .eq n (Draw.bc 0#32) i = 1 := by
        show BitVec.ofBool (n i == 0#32) = _
        rw [hn]; rfl
      show Scalar.select (cmpi .eq n (Draw.bc 0#32) i) _ _ = _
      rw [hc]; rfl
    have e₂ : (Ref.negLog (F := Ideal) (Ref.unitOf (n i)) : EReal) = Ideal.ofBits .f32 0x42AEAC50#32 := by
      have hc : FloatOps.cmpf (F := Ideal) (φ := .f32) .oeq (Ref.unitOf (n i)) (Ref.fl 0x00000000#32) = 1 := by
        rw [unit_real h, h₀]
        show Ideal.cmp .oeq _ (Ideal.ofBits .f32 0x00000000#32) = _
        rw [zero_val]; simp [Ideal.cmp]
      rw [Ref.negLog, hc]; rfl
    rw [e₁, e₂]
  · obtain ⟨hl, hu⟩ := Draw.lead_spec h₀ h
    rw [kernel_log h₀ h, reference_log h₀ h hl hu]

end Cert.Proof.Log
-- ==== Proof.WeightEq.lean ====
/-
  The kernel's weight of a lane is the reference's weight of the lane's state over the extended reals.
-/
module

public import proofs.«01_k».proof.Proof.LogEq
public import proofs.«01_k».proof.Proof.LaneBits
public import proofs.«01_k».proof.Proof.RefUniform

@[expose] public section

noncomputable section

namespace Cert.Proof.Weight

open Idealize.ShloMosaic Cert.Proof.Draw

/-- The weight of the state in place `j`, from the seed and the logits. -/
def of (seed : BitVec 32) (x : (⟨1, ![1000000]⟩ : Shape).Idx → EReal) (j : (⟨1, ![1000000]⟩ : Shape).Idx) : EReal :=
  Ref.weight (F := Ideal) (Ref.drawn 0 seed j) (x j)

/-- The draw's bits are 23. -/
theorem drawn_lt (k₀ k₁ : BitVec 32) (j : (⟨1, ![1000000]⟩ : Shape).Idx) : (Ref.drawn k₀ k₁ j).toNat < 2 ^ 23 := bits_lt _

/-- The kernel's negation, and the exponential of it. -/
theorem exp_neg (l : EReal) : Ideal.exp (Ideal.ofBits .f32 0#32 - l) = Ideal.exp (-l) := by
  have h : Ideal.ofBits .f32 0#32 = (0 : EReal) := by simp [Ideal.ofBits, Ideal.ieee]
  rw [h, zero_sub]

/-- A lane's weight: its draw's bits are those of its state's number. -/
theorem lane_eq {K : Key} {idx : Words} {i : L16.Idx} {x : FVec Ideal L16 .f32} {seed : BitVec 32}
    {y : (⟨1, ![1000000]⟩ : Shape).Idx → EReal} {j : (⟨1, ![1000000]⟩ : Shape).Idx}
    (hm : mant K idx i = Ref.drawn 0 seed j) (hx : x i = y j) :
    (weight (F := Ideal) K idx x i : EReal) = of seed y j := by
  have h : (weight (F := Ideal) K idx x i : EReal) = (negLog (F := Ideal) (mant K idx) i : EReal) * Ideal.exp (Ideal.ofBits .f32 0#32 - x i) := rfl
  have hb : (mant K idx i).toNat < 2 ^ 23 := by
    rw [hm]
    exact drawn_lt _ _ _
  rw [h, Log.negLog_eq hb, exp_neg, hm, hx]
  rfl

end Cert.Proof.Weight

end
-- ==== Proof.RunningMin.lean ====
/-
  A running minimum over positions `p = 0, 1, 2, …`, each with a weight `w p` in the extended reals and a number `id p`: the
  least weight among the positions seen and the number of the first position that has it. How a pair of this kind steps to a
  later position, how two of them merge, and that the least of many of them is the least over all their states.
-/
module

public import Idealize.ShloMosaic.PureOps.Ideal

@[expose] public section

noncomputable section

namespace Cert.Proof.RunningMin

variable {w : ℕ → EReal} {id : ℕ → BitVec 32}

/-- `a` is the least weight of the positions of `S`, and, where that is finite or `⊥`, `i` is the number of the first
position that has it; where it is infinite, `i` is zero. -/
structure Best (w : ℕ → EReal) (id : ℕ → BitVec 32) (S : ℕ → Prop) (a : EReal) (i : BitVec 32) : Prop where
  le : ∀ p, S p → a ≤ w p
  mem : a < ⊤ → ∃ p, S p ∧ w p = a ∧ id p = i ∧ ∀ q, S q → w q = a → p ≤ q
  top : a = ⊤ → i = 0#32

/-- Of no position: infinite. -/
theorem Best.empty {S : ℕ → Prop} (h : ∀ p, ¬ S p) : Best w id S ⊤ 0#32 :=
  ⟨fun p hp => absurd hp (h p), fun ht => absurd ht (lt_irrefl _), fun _ => rfl⟩

/-- The same positions, said otherwise. -/
theorem Best.congr {S S' : ℕ → Prop} {a : EReal} {i : BitVec 32} (h : Best w id S a i) (e : ∀ p, S' p ↔ S p) : Best w id S' a i :=
  ⟨fun p hp => h.le p ((e p).1 hp), fun ht => by
    obtain ⟨p, hp, hw, hi, hf⟩ := h.mem ht
    exact ⟨p, (e p).2 hp, hw, hi, fun q hq => hf q ((e q).1 hq)⟩, h.top⟩

/-- One later position: it is taken where its weight is smaller. -/
theorem Best.step {S : ℕ → Prop} {a : EReal} {i : BitVec 32} (h : Best w id S a i) (p : ℕ) (hp : ∀ q, S q → q < p) :
    Best w id (fun q => S q ∨ q = p) (if w p < a then w p else a) (if w p < a then id p else i) := by
  by_cases c : w p < a
  · rw [if_pos c, if_pos c]
    refine ⟨?_, fun _ => ⟨p, Or.inr rfl, rfl, rfl, ?_⟩, fun e => absurd (e ▸ c) not_top_lt⟩
    · rintro q (hq | rfl)
      · exact c.le.trans (h.le q hq)
      · exact le_rfl
    · rintro q (hq | rfl) e
      · exact absurd (h.le q hq) (by rw [e]; exact not_le.2 c)
      · exact le_rfl
  · rw [if_neg c, if_neg c]
    refine ⟨?_, fun ht => ?_, h.top⟩
    · rintro q (hq | rfl)
      · exact h.le q hq
      · exact not_lt.1 c
    · obtain ⟨r, hr, hw, hi, hf⟩ := h.mem ht
      refine ⟨r, Or.inl hr, hw, hi, ?_⟩
      rintro q (hq | rfl) e
      · exact hf q hq e
      · exact (hp r hr).le

/-- Two of them merged: the second is taken where it is smaller, or equal with the smaller number. -/
theorem Best.merge {S₁ S₂ : ℕ → Prop} {a₁ a₂ : EReal} {i₁ i₂ : BitVec 32} (h₁ : Best w id S₁ a₁ i₁) (h₂ : Best w id S₂ a₂ i₂)
    (hid : ∀ p q, (S₁ p ∨ S₂ p) → (S₁ q ∨ S₂ q) → ((id p).slt (id q) = true ↔ p < q)) :
    Best w id (fun q => S₁ q ∨ S₂ q) (if a₂ < a₁ ∨ (a₂ = a₁ ∧ i₂.slt i₁ = true) then a₂ else a₁)
      (if a₂ < a₁ ∨ (a₂ = a₁ ∧ i₂.slt i₁ = true) then i₂ else i₁) := by
  by_cases c : a₂ < a₁ ∨ (a₂ = a₁ ∧ i₂.slt i₁ = true)
  · rw [if_pos c, if_pos c]
    have le : a₂ ≤ a₁ := c.elim le_of_lt fun e => e.1.le
    refine ⟨?_, fun ht => ?_, h₂.top⟩
    · rintro q (hq | hq)
      · exact le.trans (h₁.le q hq)
      · exact h₂.le q hq
    · obtain ⟨p, hp, hw, hi, hf⟩ := h₂.mem ht
      refine ⟨p, Or.inr hp, hw, hi, ?_⟩
      rintro q (hq | hq) e
      · obtain c | ⟨ea, c⟩ := c
        · exact absurd (h₁.le q hq) (by rw [e]; exact not_le.2 c)
        · obtain ⟨r, hr, -, hi', hf'⟩ := h₁.mem (ea ▸ ht)
          rw [← hi, ← hi'] at c
          exact (((hid p r (Or.inr hp) (Or.inl hr)).1 c).le).trans (hf' q hq (e.trans ea))
      · exact hf q hq e
  · rw [if_neg c, if_neg c]
    obtain ⟨c₁, c₂⟩ := not_or.1 c
    have le : a₁ ≤ a₂ := not_lt.1 c₁
    refine ⟨?_, fun ht => ?_, h₁.top⟩
    · rintro q (hq | hq)
      · exact h₁.le q hq
      · exact le.trans (h₂.le q hq)
    · obtain ⟨p, hp, hw, hi, hf⟩ := h₁.mem ht
      refine ⟨p, Or.inl hp, hw, hi, ?_⟩
      rintro q (hq | hq) e
      · exact hf q hq e
      · have ea : a₂ = a₁ := le_antisymm (e ▸ h₂.le q hq) le
        obtain ⟨r, hr, -, hi', hf'⟩ := h₂.mem (ea ▸ ht)
        have n : ¬ r < p := fun lt => c₂ ⟨ea, by rw [← hi, ← hi']; exact (hid r p (Or.inr hr) (Or.inl hp)).2 lt⟩
        exact (not_lt.1 n).trans (hf' q hq (e.trans ea.symm))

/-- Many of them, each over its own positions, and all together one minimum over the states `s : σ`: `M` and `v` are what a
reduction over the pairs finds, `R` and `f` what one over the states does. Each position `p` of the pair `e` is the state
`st e p`, whose weight is at most the position's, and each state is at some position with its weight. -/
theorem meet {ε σ : Type} (e₀ : ε) (num : σ → BitVec 32) (ws : σ → EReal) (s₀ : σ) (h₀ : num s₀ = 0#32) (hnum : ∀ s, 0 ≤ (num s).toInt ∧ (num s).toInt < 1000000)
    (N : ε → ℕ) (we : ε → ℕ → EReal) (st : ε → ℕ → σ) (a : ε → EReal) (i : ε → BitVec 32)
    (hb : ∀ e, Best (we e) (fun p => num (st e p)) (· < N e) (a e) (i e))
    (hmono : ∀ e p q, p ≤ q → q < N e → (num (st e p)).toInt ≤ (num (st e q)).toInt)
    (hle : ∀ e p, p < N e → ws (st e p) ≤ we e p) (hcov : ∀ s, ∃ e p, p < N e ∧ st e p = s ∧ we e p = ws s)
    {M R : EReal} {v f : BitVec 32}
    (hM : M = ⊤ ∨ ∃ e, M = a e) (hMle : ∀ e, M ≤ a e) (hR : R = ⊤ ∨ ∃ s, R = ws s) (hRle : ∀ s, R ≤ ws s)
    (hv : v = 2147483647#32 ∨ ∃ e, v = if a e = M then i e else 2147483647#32)
    (hvle : ∀ e, v.toInt ≤ (if a e = M then i e else 2147483647#32).toInt)
    (hf : f = 2147483647#32 ∨ ∃ s, f = if ws s = R then num s else 1000000#32)
    (hfle : ∀ s, f.toInt ≤ (if ws s = R then num s else 1000000#32).toInt) : v = f := by
  have hMws : ∀ s, M ≤ ws s := fun s => by
    obtain ⟨e, p, hp, -, h⟩ := hcov s
    exact (hMle e).trans (((hb e).le p hp).trans_eq h)
  have hRa : ∀ e, R ≤ a e := fun e => by
    by_cases ht : a e < ⊤
    · obtain ⟨p, hp, hw, -, -⟩ := (hb e).mem ht
      exact (hRle _).trans ((hle e p hp).trans_eq hw)
    · exact le_top.trans (not_lt.1 ht)
  have hMR : M = R := by
    refine le_antisymm ?_ ?_
    · obtain rfl | ⟨s, rfl⟩ := hR
      · exact le_top
      · exact hMws s
    · obtain rfl | ⟨e, rfl⟩ := hM
      · exact le_top
      · exact hRa e
  subst hMR
  have big : (2147483647#32 : BitVec 32).toInt = 2147483647 := by decide
  have mil : (1000000#32 : BitVec 32).toInt = 1000000 := by decide
  have zer : (0#32 : BitVec 32).toInt = 0 := by decide
  by_cases ht : M < ⊤
  · have fin : ∃ s, ws s = M := by
      obtain rfl | ⟨s, h⟩ := hR
      · exact absurd ht (lt_irrefl _)
      · exact ⟨s, h.symm⟩
    obtain ⟨s₁, hs₁⟩ := fin
    have hf₁ := hfle s₁
    rw [if_pos hs₁] at hf₁
    have hf₂ : f.toInt < 1000000 := hf₁.trans_lt (hnum s₁).2
    obtain ⟨s, hs, rfl⟩ : ∃ s, ws s = M ∧ f = num s := by
      obtain rfl | ⟨s, rfl⟩ := hf
      · rw [big] at hf₂; omega
      · by_cases c : ws s = M
        · exact ⟨s, c, if_pos c⟩
        · rw [if_neg c, mil] at hf₂; omega
    have hvf : v.toInt ≤ (num s).toInt := by
      obtain ⟨e, p, hp, hst, hw⟩ := hcov s
      have ha : a e = M := le_antisymm (((hb e).le p hp).trans_eq (hw.trans hs)) (hMle e)
      obtain ⟨p', hp', hw', hi', hfst⟩ := (hb e).mem (ha.trans_lt ht)
      have := hvle e
      rw [if_pos ha, ← hi'] at this
      refine this.trans ((hmono e p' p (hfst p hp ?_) hp).trans_eq (by rw [hst]))
      rw [hw, hs, ha]
    refine BitVec.eq_of_toInt_eq (le_antisymm hvf ?_)
    obtain rfl | ⟨e, rfl⟩ := hv
    · rw [big] at hvf ⊢; omega
    · by_cases c : a e = M
      · rw [if_pos c]
        obtain ⟨p, hp, hw, hi, -⟩ := (hb e).mem (c.trans_lt ht)
        have hw₁ : ws (st e p) = M := le_antisymm ((hle e p hp).trans_eq (hw.trans c)) (hRle _)
        have := hfle (st e p)
        rwa [if_pos hw₁, hi] at this
      · rw [if_neg c, big]; omega
  · have hMt : M = ⊤ := top_le_iff.1 (not_lt.1 ht)
    subst hMt
    have ha : ∀ e, a e = ⊤ := fun e => top_le_iff.1 (hMle e)
    have hs : ∀ s, ws s = ⊤ := fun s => top_le_iff.1 (hRle s)
    have v0 : v = 0#32 := by
      have h := hvle e₀
      rw [if_pos (ha e₀), (hb e₀).top (ha e₀), zer] at h
      obtain rfl | ⟨e, rfl⟩ := hv
      · rw [big] at h; omega
      · rw [if_pos (ha e), (hb e).top (ha e)]
    have f0 : f = 0#32 := by
      have h := hfle s₀
      rw [if_pos (hs s₀), h₀, zer] at h
      obtain rfl | ⟨s, rfl⟩ := hf
      · rw [big] at h; omega
      · rw [if_pos (hs s)] at h ⊢
        refine BitVec.eq_of_toInt_eq ?_
        rw [zer]
        exact le_antisymm h (hnum s).1
    rw [v0, f0]

end Cert.Proof.RunningMin

end
-- ==== Proof.Cells.lean ====
/-
  Where the numbers of a tile's lane lie: the last 233472 of the 1000000 states, cut into 32 tiles of 456 vectors of 16 lanes.
-/
module

public import Idealize.ShloMosaic.PureOps.Ideal
public import Idealize.ShloMosaic.Lib.Pointwise.Reduce
public import Idealize.ShloMosaic.Lib.Pointwise.Reshape
public import Idealize.ShloMosaic.Lib.Pipeline.Value

@[expose] public section

noncomputable section

namespace Cert.Proof.Cells

open Idealize.ShloMosaic

variable {α : Type}

/-- The number of the state at position `p` of lane `l` of tile `t`. -/
def state (t : Fin 32) (l : Fin 16) (p : ℕ) : ℕ := 766528 + 7296 * t.val + 16 * (p % 456) + l.val

theorem state_lt (t : Fin 32) (l : Fin 16) (p : ℕ) : state t l p < 1000000 := by
  have := t.isLt
  have := l.isLt
  have : p % 456 < 456 := Nat.mod_lt _ (by decide)
  unfold state
  omega

/-- That state's place in an array over all states. -/
def cell (t : Fin 32) (l : Fin 16) (p : ℕ) : (⟨1, ![1000000]⟩ : Shape).Idx := ix1 ⟨state t l p, state_lt t l p⟩

/-- Its number as a word. -/
def word (t : Fin 32) (l : Fin 16) (p : ℕ) : BitVec 32 := BitVec.ofNat 32 (state t l p)

/-- A small number's word reads as that number. -/
theorem toInt_small {n : ℕ} (h : n < 2 ^ 31) : (BitVec.ofNat 32 n).toInt = n := by
  rw [BitVec.toInt_eq_toNat_cond, BitVec.toNat_ofNat, Nat.mod_eq_of_lt (h.trans (by decide)), if_pos (by omega)]

theorem word_toInt (t : Fin 32) (l : Fin 16) (p : ℕ) : (word t l p).toInt = state t l p :=
  toInt_small ((state_lt t l p).trans (by decide))

end Cert.Proof.Cells

end
-- ==== Proof.PickFold.lean ====
/-
  A reduction whose operation picks one of its two operands, the one not above the other in some order: its result is the
  initial value or one of the reduced elements, and is above none of them.
-/
module

public import Idealize.ShloMosaic.PureOps.Ideal
public import Idealize.ShloMosaic.Lib.Pointwise.Reduce

@[expose] public section

noncomputable section

namespace Cert.Proof.Pick

open Idealize.ShloMosaic

variable {α ι : Type}

/-- An operation that picks the lesser of its operands in the order `R`. -/
structure Picks (R : α → α → Prop) (f : α → α → α) : Prop where
  refl : ∀ a, R a a
  trans : ∀ a b c, R a b → R b c → R a c
  left : ∀ a b, R (f a b) a
  right : ∀ a b, R (f a b) b
  one : ∀ a b, f a b = a ∨ f a b = b

theorem Picks.foldl {R : α → α → Prop} {f : α → α → α} (h : Picks R f) (g : ι → α) (l : List ι) (z : α) :
    ((l.foldl (fun r n => f r (g n)) z = z) ∨ ∃ n, n ∈ l ∧ l.foldl (fun r n => f r (g n)) z = g n) ∧
      R (l.foldl (fun r n => f r (g n)) z) z ∧ ∀ n, n ∈ l → R (l.foldl (fun r n => f r (g n)) z) (g n) := by
  induction l generalizing z with
  | nil => exact ⟨Or.inl rfl, h.refl z, fun n hn => absurd hn List.not_mem_nil⟩
  | cons x l ih =>
    obtain ⟨h₁, h₂, h₃⟩ := ih (f z (g x))
    simp only [List.foldl_cons]
    refine ⟨?_, h.trans _ _ _ h₂ (h.left _ _), fun n hn => ?_⟩
    · obtain e | ⟨n, hn, e⟩ := h₁
      · rw [e]
        exact (h.one z (g x)).imp id fun e => ⟨x, List.mem_cons_self, e⟩
      · exact Or.inr ⟨n, List.mem_cons_of_mem _ hn, e⟩
    · obtain rfl | hn := List.mem_cons.1 hn
      · exact h.trans _ _ _ h₂ (h.right _ _)
      · exact h₃ n hn

/-- A host reduction by such an operation. -/
theorem Picks.reduce {R : α → α → Prop} {f : α → α → α} (h : Picks R f) {s t u : Shape} {axes : List (Fin s.rank)} (x : s.Idx → α)
    (init : u.Idx → α) (hr : s.ReducesTo axes t) (hu : 0 < u.numel) (j : t.Idx) :
    (Host.reduce f x init hr hu j = init (Shape.Idx.first hu) ∨ ∃ i, hr.drop i = j ∧ Host.reduce f x init hr hu j = x i) ∧
      ∀ i, hr.drop i = j → R (Host.reduce f x init hr hu j) (x i) := by
  obtain ⟨h₁, -, h₃⟩ := h.foldl (fun n => x (s.rowMajor.symm n))
    ((List.finRange s.numel).filter fun n => hr.drop (s.rowMajor.symm n) = j) (init (Shape.Idx.first hu))
  refine ⟨h₁.imp id ?_, fun i hi => ?_⟩
  · rintro ⟨n, hn, e⟩
    exact ⟨s.rowMajor.symm n, by simpa using (List.mem_filter.1 hn).2, e⟩
  · have := h₃ (s.rowMajor i) (List.mem_filter.2 ⟨List.mem_finRange _, by simpa using hi⟩)
    rwa [Equiv.symm_apply_apply] at this

/-- A kernel's reduction by such an operation. -/
theorem Picks.reduceFold {R : α → α → Prop} {f : α → α → α} (h : Picks R f) {s t : Shape} {axes : List (Fin s.rank)} (hr : s.Reduces axes t) (a : α)
    (x : s.Idx → α) (j : t.Idx) :
    (Idealize.ShloMosaic.reduceFold hr f a x j = a ∨ ∃ i, hr.drop i = j ∧ Idealize.ShloMosaic.reduceFold hr f a x j = x i) ∧
      ∀ i, hr.drop i = j → R (Idealize.ShloMosaic.reduceFold hr f a x j) (x i) := by
  obtain ⟨h₁, -, h₃⟩ := h.foldl (fun n => x (s.rowMajor.symm n))
    ((List.finRange s.numel).filter fun n => hr.drop (s.rowMajor.symm n) = j) a
  refine ⟨h₁.imp id ?_, fun i hi => ?_⟩
  · rintro ⟨n, hn, e⟩
    exact ⟨s.rowMajor.symm n, by simpa using (List.mem_filter.1 hn).2, e⟩
  · have := h₃ (s.rowMajor i) (List.mem_filter.2 ⟨List.mem_finRange _, by simpa using hi⟩)
    rwa [Equiv.symm_apply_apply] at this

/-- The minimum of extended reals is one, -/
theorem picks_min : Picks (α := EReal) (· ≤ ·) (FloatOps.minimumf (F := Ideal) (φ := .f32)) :=
  ⟨le_refl, fun _ _ _ => le_trans, fun a b => min_le_left a b, fun a b => min_le_right a b, fun a b => min_choice a b⟩

/-- and that of words read as signed. -/
theorem picks_minsi : Picks (α := BitVec 32) (fun a b => a.toInt ≤ b.toInt) IntOp.minsi := by
  refine ⟨fun _ => le_rfl, fun _ _ _ => le_trans, ?_, ?_, ?_⟩ <;> intro a b <;> unfold IntOp.minsi <;> rw [BitVec.slt_eq_decide] <;>
    by_cases c : a.toInt < b.toInt <;> simp only [c, decide_true, decide_false, if_true, if_false, Bool.false_eq_true, le_refl, true_or, or_true]
  · exact not_lt.1 c
  · exact c.le

end Cert.Proof.Pick

end
-- ==== Proof.RefMin.lean ====
/-
  The reference's result: the least number among the states that have the least weight.
-/
module

public import proofs.«01_k».proof.Proof.RefMain
public import proofs.«01_k».proof.Proof.Cells
public import proofs.«01_k».proof.Proof.PickFold
public import proofs.«01_k».proof.Proof.LogEq

@[expose] public section

noncomputable section

namespace Cert.Proof.Ref

open Idealize.ShloMosaic Cert.ReferenceIdeal
open Cert.ReferenceIdeal.Facts₀ Cert.ReferenceIdeal.Facts

/-- Infinity. -/
theorem infinity : Ideal.ofBits .f32 0x7F800000#32 = (⊤ : EReal) := by
  simp [Ideal.ofBits, Ideal.ieee]

theorem least_at (w : FV Ideal) :
    ((least w o : EReal) = ⊤ ∨ ∃ s, (least w o : EReal) = w s) ∧ ∀ s, (least w o : EReal) ≤ w s := by
  obtain ⟨h₁, h₂⟩ := Pick.picks_min.reduce w (constant (F := Ideal) S_ .f32 0x7F800000#32) reducesTo_S1000000_S_d0 h_S_ o
  exact ⟨h₁.imp (fun e => e.trans infinity) fun ⟨s, _, e⟩ => ⟨s, e⟩, fun s => h₂ s (Subsingleton.elim _ _)⟩

theorem candidates_at (w : FV Ideal) (s : S1000000.Idx) :
    candidates w s = if (w s : EReal) = least w o then BitVec.ofNat 32 (s 0).val else 1000000#32 := by
  have hb : broadcastInDim S1000000 ![] bcast_S_S1000000 (least w) s = least w o := congrArg (least w) (Subsingleton.elim _ _)
  unfold candidates
  show Scalar.select (Ideal.cmp .oeq (w s) (broadcastInDim S1000000 ![] bcast_S_S1000000 (least w) s)) (BitVec.ofNat 32 (s 0).val) 1000000#32 = _
  rw [hb]
  exact Log.select_of rfl _ _

theorem first_at (w : FV Ideal) :
    (first w o = 2147483647#32 ∨ ∃ s : S1000000.Idx, first w o = if (w s : EReal) = least w o then BitVec.ofNat 32 (s 0).val else 1000000#32) ∧
      ∀ s : S1000000.Idx, (first w o).toInt ≤ (if (w s : EReal) = least w o then BitVec.ofNat 32 (s 0).val else 1000000#32).toInt := by
  obtain ⟨h₁, h₂⟩ := Pick.picks_minsi.reduce (candidates w) (constantI S_ 32 2147483647#32) reducesTo_S1000000_S_d0 h_S_ o
  exact ⟨h₁.imp (fun e => e) fun ⟨s, _, e⟩ => ⟨s, e.trans (candidates_at w s)⟩, fun s => (h₂ s (Subsingleton.elim _ _)).trans_eq (congrArg _ (candidates_at w s))⟩

end Cert.Proof.Ref

end
-- ==== Proof.Chains.lean ====
/-
  What the four chains of a tile hold after `n` trips, lane by lane: the least weight of the positions `4k + r`, `k < n`, and
  the number of the first state that has it; and so what the tile gives.
-/
module

public import proofs.«01_k».proof.Proof.LaunchI
public import proofs.«01_k».proof.Proof.WeightEq
public import proofs.«01_k».proof.Proof.RunningMin
public import proofs.«01_k».proof.Proof.RefMin

@[expose] public section

noncomputable section

namespace Cert.Proof.TileI

open Cert.KernelIdeal Cert.KernelIdeal.Gen
open Idealize.ShloMosaic Idealize.SL.Sem
open Cert.Proof.Draw Cert.Proof.RunningMin

/-! ## One step and one merge, in a lane -/

/-- The positions of chain `r` after `n` trips. -/
def Seen (r n : ℕ) : ℕ → Prop := fun p => p % 4 = r ∧ p < 4 * n

theorem seen_step {r : ℕ} (hr : r < 4) (n p : ℕ) : Seen r (n + 1) p ↔ (Seen r n p ∨ p = 4 * n + r) := by
  unfold Seen
  omega

variable {w : ℕ → EReal} {id : ℕ → BitVec 32}

theorem chain_step {r n : ℕ} (hr : r < 4) {u w₀ : FV Ideal} {s i₀ : WV} {i : S16.Idx} (h : Best w id (Seen r n) (w₀ i) (i₀ i))
    (hu : (u i : EReal) = w (4 * n + r)) (hs : s i = id (4 * n + r)) :
    Best w id (Seen r (n + 1)) (takeW u w₀ i) (takeI u w₀ s i₀ i) := by
  have e₁ : (takeW u w₀ i : EReal) = if w (4 * n + r) < (w₀ i : EReal) then w (4 * n + r) else w₀ i := by
    rw [← hu]
    exact Log.select_of (c := Ideal.cmp .olt (u i) (w₀ i)) rfl _ _
  have e₂ : takeI u w₀ s i₀ i = if w (4 * n + r) < (w₀ i : EReal) then id (4 * n + r) else i₀ i := by
    rw [← hu, ← hs]
    exact Log.select_of (c := Ideal.cmp .olt (u i) (w₀ i)) rfl _ _
  rw [e₁, e₂]
  exact (h.step (4 * n + r) fun q hq => by unfold Seen at hq; omega).congr fun p => seen_step hr n p

theorem before_at (w₂ w₁ : FV Ideal) (i₂ i₁ : WV) (i : S16.Idx) :
    before w₂ w₁ i₂ i₁ i = BitVec.ofBool (decide ((w₂ i : EReal) < w₁ i ∨ ((w₂ i : EReal) = w₁ i ∧ (i₂ i).slt (i₁ i) = true))) := by
  have h : before w₂ w₁ i₂ i₁ i = BitVec.ofBool (decide ((w₂ i : EReal) < w₁ i)) |||
      (BitVec.ofBool (decide ((w₂ i : EReal) = w₁ i)) &&& BitVec.ofBool ((i₂ i).slt (i₁ i))) := rfl
  rw [h, Bool.decide_or, Bool.decide_and, Bool.decide_eq_true, BitVec.ofBool_or_ofBool.symm, BitVec.ofBool_and_ofBool.symm]

theorem chain_merge {S₁ S₂ : ℕ → Prop} {w₁ w₂ : FV Ideal} {i₁ i₂ : WV} {i : S16.Idx} (h₁ : Best w id S₁ (w₁ i) (i₁ i))
    (h₂ : Best w id S₂ (w₂ i) (i₂ i)) (hid : ∀ p q, (S₁ p ∨ S₂ p) → (S₁ q ∨ S₂ q) → ((id p).slt (id q) = true ↔ p < q)) :
    Best w id (fun q => S₁ q ∨ S₂ q) (mergeW w₁ i₁ w₂ i₂ i) (mergeI w₁ i₁ w₂ i₂ i) := by
  have e₁ := Log.select_of (before_at w₂ w₁ i₂ i₁ i) (w₂ i : EReal) (w₁ i)
  have e₂ := Log.select_of (before_at w₂ w₁ i₂ i₁ i) (i₂ i) (i₁ i)
  have := h₁.merge h₂ hid
  rw [← e₁, ← e₂] at this
  exact this

/-! ## The tile -/

/-- The chains' pairs in a lane. -/
def Holds (w : ℕ → EReal) (id : ℕ → BitVec 32) (i : S16.Idx) (n : ℕ) (a : Acc Ideal) : Prop :=
  Best w id (Seen 0 n) (a.1 i) (a.2.1 i) ∧ Best w id (Seen 1 n) (a.2.2.1 i) (a.2.2.2.1 i) ∧
    Best w id (Seen 2 n) (a.2.2.2.2.1 i) (a.2.2.2.2.2.1 i) ∧ Best w id (Seen 3 n) (a.2.2.2.2.2.2.1 i) (a.2.2.2.2.2.2.2 i)

theorem holds_zero (i : S16.Idx) : Holds w id i 0 acc₀ := by
  have e : (bcf (F := Ideal) 0x7F800000#32 i : EReal) = ⊤ := Ref.infinity
  have h (r : ℕ) : Best w id (Seen r 0) (bcf (F := Ideal) 0x7F800000#32 i) (bc 0#32 i) := by
    rw [e]
    exact Best.empty (fun p hp => by unfold Seen at hp; omega)
  exact ⟨h 0, h 1, h 2, h 3⟩

/-- One trip, where each vector's states and weights in the lane are those of its position. -/
theorem holds_step {K : Key} {g : BitVec 32} {k : Fin k1_t1_loop.trips} {l : Fin 4 → FV Ideal} {i : S16.Idx} {a : Acc Ideal}
    (h : Holds w id i k.val a)
    (hs : ∀ r : Fin 4, states g k (BitVec.ofNat 32 (16 * r.val)) lanes i = id (4 * k.val + r.val))
    (hu : ∀ r : Fin 4, (weight K (states g k (BitVec.ofNat 32 (16 * r.val)) lanes) (l r) i : EReal) = w (4 * k.val + r.val)) :
    Holds w id i (k.val + 1) (stepAll K g lanes k (l 0) (l 1) (l 2) (l 3) a) := by
  have c (r : Fin 4) : shapeCast S16 (l r) shapeCasts_S16_S16 = l r := shapeCast_self _ _
  obtain ⟨w₀, i₀, w₁, i₁, w₂, i₂, w₃, i₃⟩ := a
  obtain ⟨h₀, h₁, h₂, h₃⟩ := h
  unfold stepAll
  rw [c 0, c 1, c 2, c 3]
  exact ⟨chain_step (by decide) h₀ (hu 0) (hs 0), chain_step (by decide) h₁ (hu 1) (hs 1),
    chain_step (by decide) h₂ (hu 2) (hs 2), chain_step (by decide) h₃ (hu 3) (hs 3)⟩

/-- The merged chains, over all positions. -/
theorem merged {a : Acc Ideal} {i : S16.Idx} {n : ℕ} (h : Holds w id i n a)
    (hid : ∀ p q, p < 4 * n → q < 4 * n → ((id p).slt (id q) = true ↔ p < q)) :
    Best w id (· < 4 * n) ((mergeAll a).1 i) ((mergeAll a).2 i) := by
  obtain ⟨w₀, i₀, w₁, i₁, w₂, i₂, w₃, i₃⟩ := a
  obtain ⟨h₀, h₁, h₂, h₃⟩ := h
  have m₁ := chain_merge h₀ h₁ fun p q hp hq => hid p q (by unfold Seen at hp; omega) (by unfold Seen at hq; omega)
  have m₂ := chain_merge m₁ h₂ fun p q hp hq => hid p q (by unfold Seen at hp; omega) (by unfold Seen at hq; omega)
  have m₃ := chain_merge m₂ h₃ fun p q hp hq => hid p q (by unfold Seen at hp; omega) (by unfold Seen at hq; omega)
  exact m₃.congr fun p => by unfold Seen; omega

end Cert.Proof.TileI

end
-- ==== Proof.TileValue.lean ====
/-
  What each lane of each tile gives, from the logits and the seed: the least weight of the lane's states and the number of the
  first state that has it.
-/
module

public import proofs.«01_k».proof.Proof.Chains

@[expose] public section

noncomputable section

namespace Cert.Proof.TileI

open Cert.KernelIdeal Cert.KernelIdeal.Gen
open Idealize.ShloMosaic Idealize.SL.Sem
open Cert.Proof.Draw Cert.Proof.RunningMin Cert.Proof.Cells

/-! ## Positions -/

/-- A lane's number. -/
def lane (i : S16.Idx) : Fin 16 := i 0

/-- The states of vector `r` of trip `k`, in a lane. -/
theorem states_at (L : grid1.Coords) (k : Fin k1_t1_loop.trips) (r : Fin 4) (i : S16.Idx) :
    states (firstState L) k (BitVec.ofNat 32 (16 * r.val)) lanes i = word (wid L) (lane i) (4 * k.val + r.val) := by
  have hk : k.val < 114 := k.isLt
  have hr := r.isLt
  have e : states (firstState L) k (BitVec.ofNat 32 (16 * r.val)) lanes i =
      (BitVec.ofNat 32 766528 + (BitVec.ofNat 32 (L 1).val * BitVec.ofNat 32 2 + BitVec.ofNat 32 (L 0).val) * BitVec.ofNat 32 7296 +
        ((BitVec.ofNat 32 0 + BitVec.ofNat 32 k.val * BitVec.ofNat 32 1) * BitVec.ofNat 32 64 + BitVec.ofNat 32 (16 * r.val))) +
        BitVec.ofNat 32 (0 * 16 + (i 0).val) := rfl
  rw [e]
  simp only [← BitVec.ofNat_add, ← BitVec.ofNat_mul]
  refine congrArg (BitVec.ofNat 32) ?_
  show _ = 766528 + 7296 * (2 * (L 1).val + (L 0).val) + 16 * ((4 * k.val + r.val) % 456) + (i 0).val
  rw [Nat.mod_eq_of_lt (by omega)]
  omega

/-- The vector a load reads, in a lane. -/
theorem vecAt_at {F : FTy → Type} (k : Fin k1_t1_loop.trips) (r : Fin 4) (h : ∀ a, (k1_off2 k (BitVec.ofNat 32 (16 * r.val))) a + S16.size a ≤ S7296.size a)
    (f : Vec F S7296 .f32) (i : S16.Idx) (j : S7296.Idx) (hj : (j 0).val = 64 * k.val + 16 * r.val + (i 0).val) :
    vecAt k (BitVec.ofNat 32 (16 * r.val)) h f i = f j := by
  refine congrArg f (funext fun a => ?_)
  match a with
  | 0 =>
    refine Fin.ext ?_
    show (k1_off2 k (BitVec.ofNat 32 (16 * r.val))) 0 + 1 * (i 0).val = (j 0).val
    rw [k1_off2_eq, hj]
    simp

variable (m : (ℓ : Loc nD τ sig) → Buf (Elt Ideal) ℓ)

/-- The logits on device `d`, -/
abbrev X (d : Dev nD) : (⟨1, ![1000000]⟩ : Shape).Idx → EReal := (m (aLoc d) : Vec Ideal S1000000 .f32)
/-- and the seed. -/
abbrev seed (d : Dev nD) : BitVec 32 := (m (gLoc d) : Vec Ideal S_ .i32) (fun a => a.elim0)

/-- The tile's part of the logits. -/
theorem partX_at (d : Dev nD) (L : grid1.Coords) (j : S7296.Idx) (c : (⟨1, ![1000000]⟩ : Shape).Idx)
    (hc : (c 0).val = 766528 + 7296 * (wid L).val + (j 0).val) : (partX d L (XV m d) j : EReal) = X m d c := by
  refine congrArg (X m d) (funext fun a => ?_)
  match a with
  | 0 =>
    refine Fin.ext ?_
    show 766528 + ((k1_off1 L) 0 + 1 * (j 0).val) = (c 0).val
    rw [k1_off1_eq, hc]
    show 766528 + (14592 * (L 1).val + 7296 * (L 0).val + 1 * (j 0).val) = 766528 + 7296 * (2 * (L 1).val + (L 0).val) + (j 0).val
    omega

theorem logit_at (d : Dev nD) (L : grid1.Coords) (k : Fin k1_t1_loop.trips) (r : Fin 4)
    (h : ∀ a, (k1_off2 k (BitVec.ofNat 32 (16 * r.val))) a + S16.size a ≤ S7296.size a) (i : S16.Idx) :
    (vecAt k (BitVec.ofNat 32 (16 * r.val)) h (partX d L (XV m d)) i : EReal) = X m d (cell (wid L) (lane i) (4 * k.val + r.val)) := by
  have hk : k.val < 114 := k.isLt
  have hr := r.isLt
  have hi : (i 0).val < 16 := (i 0).isLt
  rw [vecAt_at k r h _ i (ix1 ⟨64 * k.val + 16 * r.val + (i 0).val, by omega⟩) rfl]
  refine partX_at m d L _ _ ?_
  show 766528 + 7296 * (wid L).val + 16 * ((4 * k.val + r.val) % 456) + (i 0).val = 766528 + 7296 * (wid L).val + (64 * k.val + 16 * r.val + (i 0).val)
  rw [Nat.mod_eq_of_lt (by omega)]
  omega

/-- The bits a lane draws. -/
theorem mant_at (s : BitVec 32) (v idx : WV) (hv : ∀ i, v i = s) (i : S16.Idx) (j : (⟨1, ![1000000]⟩ : Shape).Idx)
    (h : idx i = BitVec.ofNat 32 (j 0).val) : mant (keyOf v) idx i = Ref.drawn 0 s j := by
  have e : xori (xori (bc 0#32) v) (bc 466688986#32) i = Lane.parity 0 s := by
    show (0#32 ^^^ v i) ^^^ 466688986#32 = _
    rw [hv]
    rfl
  have e₂ := threefry_lane (K := keyOf v) (idx := idx) (i := i) (s := s) (hv i) rfl e (congrArg (· + 1#32) e) rfl
    (congrArg (· + 3#32) (hv i)) (congrArg (· + 4#32) e) rfl
  rw [mant_lane e₂, h]
  rfl

/-! ## The tile's lane -/

/-- The weights of a lane's states, by position. -/
def laneWeight (d : Dev nD) (t : Fin 32) (l : Fin 16) (p : ℕ) : EReal := Weight.of (seed m d) (X m d) (cell t l p)

theorem accAt_holds (d : Dev nD) (L : grid1.Coords) (i : S16.Idx) : ∀ n, n ≤ 114 →
    Holds (laneWeight m d (wid L) (lane i)) (word (wid L) (lane i)) i n (accAt (keyOf (SV m d : Vec Ideal S16 .i32)) (firstState L) (partX d L (XV m d)) n)
  | 0, _ => holds_zero i
  | n + 1, hn => by
    have hk : n < k1_t1_loop.trips := hn
    have ih := accAt_holds d L i n (by omega)
    have e : accAt (keyOf (SV m d : Vec Ideal S16 .i32)) (firstState L) (partX d L (XV m d)) (n + 1) = _ := dif_pos hk
    rw [e]
    refine holds_step (k := ⟨n, hk⟩) (l := fun r => vecAt ⟨n, hk⟩ (BitVec.ofNat 32 (16 * r.val)) (k1_off2_inb _ r) (partX d L (XV m d))) ih
      (fun r => states_at L ⟨n, hk⟩ r i) fun r => ?_
    exact Weight.lane_eq (mant_at (seed m d) _ _ (fun _ => congrArg (m (gLoc d) : Vec Ideal S_ .i32) (funext fun a => a.elim0)) i _ (states_at L ⟨n, hk⟩ r i)) (logit_at m d L ⟨n, hk⟩ r _ i)

theorem word_slt (t : Fin 32) (l : Fin 16) (p q : ℕ) (hp : p < 456) (hq : q < 456) : (word t l p).slt (word t l q) = true ↔ p < q := by
  rw [BitVec.slt_eq_decide, decide_eq_true_iff, word_toInt, word_toInt, Nat.cast_lt]
  unfold state
  rw [Nat.mod_eq_of_lt hp, Nat.mod_eq_of_lt hq]
  omega

/-- What the tile gives in a lane. -/
theorem tile_best (d : Dev nD) (L : grid1.Coords) (i : S16.Idx) :
    Best (laneWeight m d (wid L) (lane i)) (word (wid L) (lane i)) (· < 456)
      ((tileOut d L (XV m d) (SV m d)).1 i) ((tileOut d L (XV m d) (SV m d)).2 i) :=
  merged (n := 114) (accAt_holds m d L i 114 le_rfl) fun p q hp hq => word_slt _ _ p q hp hq

end Cert.Proof.TileI

end
-- ==== Proof.RowsI.lean ====
/-
  The dense kernel's body with its 108 unrolled rows put together: one row loads a block of logits and takes a step of the
  running minimum. Said of the
  idealised program, as Proof/Rows.lean says it of the kernel.
-/
module

public import Idealize.ShloMosaic.Lib.Pipeline.Regions
public import proofs.«01_k».proof.Proof.Gen.KernelIdeal
public import proofs.«01_k».proof.Proof.RowDraw

@[expose] public section

set_option maxRecDepth 16384

noncomputable section

namespace Cert.Proof.RowsI

open Cert.KernelIdeal Cert.KernelIdeal.Gen
open Idealize.ShloMosaic Idealize.SL.Sem
open Cert.Proof.RowDraw

variable {F : FTy → Type} [FloatOps F]

/-- The running minimum: the weights and the states that attain them. -/
abbrev Acc (F : FTy → Type) : Type := FVec F S8x128 .f32 × IVec S8x128 32

/-- The place of an element in its block. -/
def places : IVec S8x128 32 := addi (muli (iota .tc S8x128 32 [0] iota_S8x128_d0_w32) (bc 128#32)) (iota .tc S8x128 32 [1] iota_S8x128_d1_w32)

/-- The states of row `r` of step `i`. -/
def states (i : grid0.Coords) (r : ℕ) : IVec S8x128 32 :=
  addi (broadcast S8x128 (Scalar.muli (Scalar.addi (Scalar.muli (BitVec.ofNat 32 (i 0).val) 108#32) (BitVec.ofNat 32 r)) 1024#32)) places

/-- A step of the running minimum at row `r`, from the row's logits. -/
def step (i : grid0.Coords) (seed : BitVec 32) (r : ℕ) (l : Vec F S1x8x128 .f32) (acc : Acc F) : Acc F :=
  have u : FVec F S8x128 .f32 := weight (keyOf seed) (states i r) (shapeCast S8x128 l shapeCasts_S1x8x128_S8x128)
  (takeW u acc.1, takeI u acc.1 (states i r) acc.2)

theorem row_inb (n : ℕ) : ∀ a, (![107 - n, 0, 0] : Fin 3 → Nat) a + S1x8x128.size a ≤ S108x8x128.size a := by
  intro a
  match a with
  | 0 => show 107 - n + 1 ≤ 108; omega
  | 1 => show 0 + 8 ≤ 8; omega
  | 2 => show 0 + 128 ≤ 128; omega

/-- The last `n` rows of step `i`. -/
def rows (i : grid0.Coords) (arg2 : Memref sig .tc .vmem S108x8x128 .f32) (seed : BitVec 32) (n : ℕ) : Acc F → Prog (TpuEff nD τ sig (Elt F) Λ₀ .tc) (Acc F) :=
  Nat.rec (fun acc => pure acc) (fun n next acc => do
    let l : Vec F S1x8x128 .f32 ← Prog.lift (.load arg2 (Rect.unit (s := S108x8x128) ![107 - n, 0, 0] S1x8x128.size (row_inb n)).toLoadRect (View.loadsAt_vmem h_S1x8x128))
    next (step i seed (107 - n) l acc)) n

/-- The whole of an 8 × 128 buffer. -/
abbrev all8 : Rect S8x128 := Rect.unit (s := S8x128) ![0, 0] S8x128.size inb_S8x128_S8x128_0_0

/-- The running minimum at infinity and state zero. -/
def init (arg5 : Memref sig .tc .vmem S8x128 .f32) (arg6 : Memref sig .tc .vmem S8x128 .i32) : Prog (TpuEff nD τ sig (Elt F) Λ₀ .tc) PUnit := do
  let _ : Vec F S8x128 .f32 ← Prog.lift (.load arg5 all8.toLoadRect (View.loadsAt_vmem h_S8x128))
  Prog.lift (.store arg5 all8 (shapeCast S8x128 (bcf 0x7F800000#32 : FVec F S8x128 .f32) shapeCasts_S8x128_S8x128) Finset.univ (View.stores_vmem_bits_univ h_S8x128 rfl) (.inl rfl))
  let _ : Vec F S8x128 .i32 ← Prog.lift (.load arg6 all8.toLoadRect (View.loadsAt_vmem h_S8x128))
  Prog.lift (.store arg6 all8 (shapeCast S8x128 (bc 0#32 : IVec S8x128 32) shapeCasts_S8x128_S8x128) Finset.univ (View.stores_vmem_bits_univ h_S8x128 rfl) (.inl rfl))
  pure ⟨⟩

/-- The step is the first. -/
def isFirst (i : grid0.Coords) : BitVec 1 := Scalar.cmpi .ne (Scalar.extui (Scalar.cmpi .eq (BitVec.ofNat 32 (i 0).val) 0#32)) 0#32

/-- The first step sets the running minimum. -/
def start (i : grid0.Coords) (arg5 : Memref sig .tc .vmem S8x128 .f32) (arg6 : Memref sig .tc .vmem S8x128 .i32) : Prog (TpuEff nD τ sig (Elt F) Λ₀ .tc) PUnit :=
  if _h : isFirst i = 1#1 then init arg5 arg6 else pure ⟨⟩

/-- The dense kernel, its rows put together. -/
def body (i : grid0.Coords) (arg1 : Memref sig .tc .smem S16 .i32) (arg2 : Memref sig .tc .vmem S108x8x128 .f32) (arg3 : Memref sig .tc .vmem S8x128 .f32)
    (arg4 : Memref sig .tc .vmem S8x128 .i32) (arg5 : Memref sig .tc .vmem S8x128 .f32) (arg6 : Memref sig .tc .vmem S8x128 .i32) :
    Prog (TpuEff nD τ sig (Elt F) Λ₀ .tc) PUnit := do
  start i arg5 arg6
  let seed : Elt F .i32 ← smemLoad arg1 (Rect.unit (s := S16) ![0] S1.size inb_S16_S1_0) numel1_S1 rfl
  let w : Vec F S8x128 .f32 ← Prog.lift (.load arg5 all8.toLoadRect (View.loadsAt_vmem h_S8x128))
  let k : Vec F S8x128 .i32 ← Prog.lift (.load arg6 all8.toLoadRect (View.loadsAt_vmem h_S8x128))
  let acc ← rows i arg2 seed 108 (w, k)
  let _ : Vec F S8x128 .f32 ← Prog.lift (.load arg5 all8.toLoadRect (View.loadsAt_vmem h_S8x128))
  Prog.lift (.store arg5 all8 (shapeCast S8x128 acc.1 shapeCasts_S8x128_S8x128) Finset.univ (View.stores_vmem_bits_univ h_S8x128 rfl) (.inl rfl))
  let _ : Vec F S8x128 .i32 ← Prog.lift (.load arg6 all8.toLoadRect (View.loadsAt_vmem h_S8x128))
  Prog.lift (.store arg6 all8 (shapeCast S8x128 acc.2 shapeCasts_S8x128_S8x128) Finset.univ (View.stores_vmem_bits_univ h_S8x128 rfl) (.inl rfl))
  if _h : k0_cond2 i = 1#1 then do
    let _ : Vec F S8x128 .f32 ← Prog.lift (.load arg3 all8.toLoadRect (View.loadsAt_vmem h_S8x128))
    Prog.lift (.store arg3 all8 acc.1 Finset.univ (View.stores_vmem_bits_univ h_S8x128 rfl) (.inl rfl))
    let _ : Vec F S8x128 .i32 ← Prog.lift (.load arg4 all8.toLoadRect (View.loadsAt_vmem h_S8x128))
    Prog.lift (.store arg4 all8 acc.2 Finset.univ (View.stores_vmem_bits_univ h_S8x128 rfl) (.inl rfl))
    pure ⟨⟩
  else do
    pure ⟨⟩

/-! ## The printed kernel is `body` -/

/-- What follows a branch that may be skipped. -/
theorem branch_bind {α : Type} (c : Prop) [Decidable c] (A : Prog (TpuEff nD τ sig (Elt F) Λ₀ .tc) PUnit) (k : PUnit → Prog (TpuEff nD τ sig (Elt F) Λ₀ .tc) α) :
    (if _h : c then A >>= k else k ⟨⟩) = (if _h : c then A else pure ⟨⟩) >>= k := by
  split <;> rfl

/-- The first of four programs in a row, taken out. -/
theorem pull {α β γ δ : Type} (s : Prog (TpuEff nD τ sig (Elt F) Λ₀ .tc) PUnit) (r : PUnit → Prog (TpuEff nD τ sig (Elt F) Λ₀ .tc) α)
    (f : α → Prog (TpuEff nD τ sig (Elt F) Λ₀ .tc) β) (g : β → Prog (TpuEff nD τ sig (Elt F) Λ₀ .tc) γ) (h : γ → Prog (TpuEff nD τ sig (Elt F) Λ₀ .tc) δ) :
    ((((s >>= r) >>= f) >>= g) >>= h) = s >>= fun x => (((r x >>= f) >>= g) >>= h) := by
  simp only [bind_assoc]

/-- What the body's first window computes after the branch. -/
def head (i : grid0.Coords) (arg1 : Memref sig .tc .smem S16 .i32) (arg5 : Memref sig .tc .vmem S8x128 .f32) (arg6 : Memref sig .tc .vmem S8x128 .i32) :
    Prog (TpuEff nD τ sig (Elt F) Λ₀ .tc) (Σ' (_ : BitVec 32) (_ : IVec S8x128 32) (_ : IVec S8x128 32) (_ : IVec S8x128 32) (_ : IVec S8x128 32) (_ : IVec S8x128 32) (_ : IVec S8x128 32) (_ : IVec S8x128 32) (_ : IVec S8x128 32) (_ : IVec S8x128 32) (_ : Vec F S8x128 .f32) (_ : Vec F S8x128 .i32) (_ : IVec S8x128 32) (_ : IVec S8x128 32), IVec S8x128 32) := do
  let seed : Elt F .i32 ← smemLoad arg1 (Rect.unit (s := S16) ![0] S1.size inb_S16_S1_0) numel1_S1 rfl
  let w : Vec F S8x128 .f32 ← Prog.lift (.load arg5 all8.toLoadRect (View.loadsAt_vmem h_S8x128))
  let k : Vec F S8x128 .i32 ← Prog.lift (.load arg6 all8.toLoadRect (View.loadsAt_vmem h_S8x128))
  have K : Key := keyOf seed
  have x : IVec S8x128 32 := addi (states i 0) K.one
  pure ⟨BitVec.ofNat 32 (i 0).val, K.zero, K.one, K.two, K.two1, K.zero2, K.one3, K.two4, K.zero5, places, w, k, states i 0, addi K.zero x,
    ori (shli x (bc 13#32)) (shrui x (bc 19#32))⟩

theorem part1_eq (i : grid0.Coords) (arg1 : Memref sig .tc .smem S16 .i32) (harg1 : arg1.IsWhole) (arg2 : Memref sig .tc .vmem S108x8x128 .f32) (harg2 : arg2.IsWhole)
    (arg3 : Memref sig .tc .vmem S8x128 .f32) (harg3 : arg3.IsWhole) (arg4 : Memref sig .tc .vmem S8x128 .i32) (harg4 : arg4.IsWhole)
    (arg5 : Memref sig .tc .vmem S8x128 .f32) (harg5 : arg5.IsWhole) (arg6 : Memref sig .tc .vmem S8x128 .i32) (harg6 : arg6.IsWhole) :
    k0_part1 (F := F) i arg1 harg1 arg2 harg2 arg3 harg3 arg4 harg4 arg5 harg5 arg6 harg6 = start i arg5 arg6 >>= fun _ => head i arg1 arg5 arg6 := by
  refine Eq.trans (b := if _h : isFirst i = 1#1 then init arg5 arg6 >>= fun _ => head i arg1 arg5 arg6 else head i arg1 arg5 arg6) ?_
    (branch_bind _ _ fun _ => head i arg1 arg5 arg6)
  chain_rfl

theorem body_eq (i : grid0.Coords) (arg1 : Memref sig .tc .smem S16 .i32) (harg1 : arg1.IsWhole) (arg2 : Memref sig .tc .vmem S108x8x128 .f32) (harg2 : arg2.IsWhole)
    (arg3 : Memref sig .tc .vmem S8x128 .f32) (harg3 : arg3.IsWhole) (arg4 : Memref sig .tc .vmem S8x128 .i32) (harg4 : arg4.IsWhole)
    (arg5 : Memref sig .tc .vmem S8x128 .f32) (harg5 : arg5.IsWhole) (arg6 : Memref sig .tc .vmem S8x128 .i32) (harg6 : arg6.IsWhole) :
    cc0__tc_body (F := F) i arg1 harg1 arg2 harg2 arg3 harg3 arg4 harg4 arg5 harg5 arg6 harg6 = body i arg1 arg2 arg3 arg4 arg5 arg6 := by
  delta cc0__tc_body k0_part422 k0_part416
  rw [part1_eq, pull]
  refine congrArg (start i arg5 arg6 >>= ·) (funext fun _ => ?_)
  chain_rfl

end Cert.Proof.RowsI

end
-- ==== Proof.RowRunI.lean ====
/-
  A run of the dense kernel's body at one step: what the staging buffers and the running minimum hold afterwards. Said of the
  idealised program, as Proof/RowRun.lean says it of the kernel.
-/
module

public import Idealize.ShloMosaic.Lib.Pipeline.Value
public import proofs.«01_k».proof.Proof.Block
public import proofs.«01_k».proof.Proof.RowsI

@[expose] public section

noncomputable section

namespace Cert.Proof.RowsI

open Cert.KernelIdeal Cert.KernelIdeal.Gen
open Cert.Proof.RowDraw

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- Row `r` of a block of logits. -/
def row (X : Vec F S108x8x128 .f32) (n : ℕ) : Vec F S1x8x128 .f32 :=
  fun j => X ((Rect.unit (s := S108x8x128) ![107 - n, 0, 0] S1x8x128.size (row_inb n)).emb j)

/-- The running minimum after the last `n` rows. -/
def rowsV (i : grid0.Coords) (X : Vec F S108x8x128 .f32) (seed : BitVec 32) : ℕ → Acc F → Acc F
  | 0, acc => acc
  | n + 1, acc => rowsV i X seed n (step i seed (107 - n) (row X n) acc)

/-- The running minimum before the first row. -/
def none8 : Acc F := (bcf 0x7F800000#32, bc 0#32)

/-- The running minimum a step finds. -/
def enter (i : grid0.Coords) (acc : Acc F) : Acc F := if isFirst i = 1#1 then none8 else acc

/-- The first of the sixteen words of the seed. -/
def zero16 : S16.Idx := fun a => ⟨0, match a with | 0 => by decide⟩

/-- The running minimum after step `i`. -/
def stepV (i : grid0.Coords) (s : Vec F S16 .i32) (X : Vec F S108x8x128 .f32) (acc : Acc F) : Acc F :=
  rowsV i X (s zero16) 108 (enter i acc)

theorem all8_emb (j : all8.shape.Idx) : (all8.emb j : S8x128.Idx) = j := by
  funext a
  refine Fin.ext ?_
  match a with
  | 0 => show 0 + 1 * (j 0).val = _; omega
  | 1 => show 0 + 1 * (j 1).val = _; omega

theorem all8_read {e : EltTy} (X : Vec F S8x128 e) : (fun j : all8.shape.Idx => X (all8.emb j)) = X :=
  funext fun j => congrArg X (all8_emb j)

variable (c : Dev nD) (E : Set Name)

theorem load8 {e : EltTy} {m : Memref sig .tc .vmem S8x128 e} {hl : m.view.LoadsAt all8.toLoadRect} {α : Type} {Q : α → sProp 𝕄}
    {k : Vec F S8x128 e → Prog (TpuEff nD τ sig (Elt F) Λ₀ .tc) α} {q : PosShare TreeShare} {X : Vec F S8x128 e} :
    (owns (c : Thread nD τ) m q X : sProp 𝕄)
      ⊢ iprop(((owns (c : Thread nD τ) m q X) -∗ wp frame (wpE (defs₀ (F := F)) Variants.none (c : Thread nD τ) none) E (k X) Q)
        -∗ wp frame (wpE (defs₀ (F := F)) Variants.none (c : Thread nD τ) none) E (.op (.load m all8.toLoadRect hl) k) Q) := by
  have h := Block.load (defs₀ (F := F)) Variants.none (c : Thread nD τ) none E (Q := Q) (m := m) (r := all8) (hl := hl) (k := k) (q := q) (X := X)
  rwa [all8_read X] at h

theorem store8 {e : EltTy} {m : Memref sig .tc .vmem S8x128 e} {w : Vec F S8x128 e} {hx : (m.access all8).Stores Finset.univ}
    {hm : Finset.univ = Finset.univ ∨ ∀ a, all8.stride a = 1} {α : Type} {Q : α → sProp 𝕄}
    {k : PUnit → Prog (TpuEff nD τ sig (Elt F) Λ₀ .tc) α} {X : Vec F S8x128 e} :
    (owns (c : Thread nD τ) m fullShare X : sProp 𝕄)
      ⊢ iprop(((owns (c : Thread nD τ) m fullShare w) -∗ wp frame (wpE (defs₀ (F := F)) Variants.none (c : Thread nD τ) none) E (k ⟨⟩) Q)
        -∗ wp frame (wpE (defs₀ (F := F)) Variants.none (c : Thread nD τ) none) E (.op (.store m all8 w Finset.univ hx hm) k) Q) :=
  Block.store (defs₀ (F := F)) Variants.none (c : Thread nD τ) none E (m := m) (r := all8) rfl w (fun j => congrArg w (all8_emb j).symm)
    (fun i => ⟨i, all8_emb i⟩)

theorem cast8 {e : EltTy} (X : Vec F S8x128 e) : shapeCast S8x128 X shapeCasts_S8x128_S8x128 = X := by
  exact shapeCast_self X _

theorem rows_succ (i : grid0.Coords) (a2 : Memref sig .tc .vmem S108x8x128 .f32) (seed : BitVec 32) (n : ℕ) (acc : Acc F) {α : Type}
    (k : Acc F → Prog (TpuEff nD τ sig (Elt F) Λ₀ .tc) α) :
    rows i a2 seed (n + 1) acc >>= k
      = .op (.load a2 (Rect.unit (s := S108x8x128) ![107 - n, 0, 0] S1x8x128.size (row_inb n)).toLoadRect (View.loadsAt_vmem h_S1x8x128))
          fun l => rows i a2 seed n (step i seed (107 - n) l acc) >>= k := rfl

attribute [local irreducible] step rows

theorem rows_run (i : grid0.Coords) {a2 : Memref sig .tc .vmem S108x8x128 .f32} {X : Vec F S108x8x128 .f32} (seed : BitVec 32) {α : Type} {Q : α → sProp 𝕄}
    (k : Acc F → Prog (TpuEff nD τ sig (Elt F) Λ₀ .tc) α) (n : ℕ) : ∀ acc : Acc F,
    (owns (c : Thread nD τ) a2 fullShare X : sProp 𝕄)
      ⊢ iprop(((owns (c : Thread nD τ) a2 fullShare X) -∗ wp frame (wpE (defs₀ (F := F)) Variants.none (c : Thread nD τ) none) E (k (rowsV i X seed n acc)) Q)
        -∗ wp frame (wpE (defs₀ (F := F)) Variants.none (c : Thread nD τ) none) E (rows i a2 seed n acc >>= k) Q) := by
  induction n with
  | zero =>
    intro acc
    rw [show rows i a2 seed 0 acc >>= k = k acc by unfold rows; rfl]
    iintro H Hk
    iapply Hk
    iexact H
  | succ n ih =>
    intro acc
    rw [rows_succ]
    iintro H Hk
    iapply (Block.load (defs₀ (F := F)) Variants.none (c : Thread nD τ) none E (m := a2)
      (r := Rect.unit (s := S108x8x128) ![107 - n, 0, 0] S1x8x128.size (row_inb n))) $$ H
    iintro H
    iapply (ih (step i seed (107 - n) (row X n) acc)) $$ H
    iexact Hk

theorem done {Q : PUnit → sProp 𝕄} : Q ⟨⟩ ⊢ wp frame (wpE (defs₀ (F := F)) Variants.none (c : Thread nD τ) none) E (.ret ⟨⟩) Q := by
  rw [wp_ret]
  iintro H
  imodintro
  iexact H

theorem load_seed {a1 : Memref sig .tc .smem S16 .i32} {α : Type} {Q : α → sProp 𝕄} {k : Elt F .i32 → Prog (TpuEff nD τ sig (Elt F) Λ₀ .tc) α}
    {q : PosShare TreeShare} {s : Vec F S16 .i32} :
    (owns (c : Thread nD τ) a1 q s : sProp 𝕄)
      ⊢ iprop(((owns (c : Thread nD τ) a1 q s) -∗ wp frame (wpE (defs₀ (F := F)) Variants.none (c : Thread nD τ) none) E (k (s zero16)) Q)
        -∗ wp frame (wpE (defs₀ (F := F)) Variants.none (c : Thread nD τ) none) E
          (smemLoad a1 (Rect.unit (s := S16) ![0] S1.size inb_S16_S1_0) numel1_S1 rfl >>= k) Q) := by
  have h := Block.load (defs₀ (F := F)) Variants.none (c : Thread nD τ) none E (Q := Q) (m := a1) (r := Rect.unit (s := S16) ![0] S1.size inb_S16_S1_0)
    (hl := View.loadsAt_rect (View.loads_smem_one rfl numel1_S1)) (k := fun f => k (f (Shape.Idx.first (numel1_S1.symm ▸ Nat.one_pos)))) (q := q) (X := s)
  have e : (Rect.unit (s := S16) ![0] S1.size inb_S16_S1_0).emb (Shape.Idx.first (numel1_S1.symm ▸ Nat.one_pos)) = zero16 := by
    funext a
    match a with
    | 0 => exact Fin.ext rfl
  simp only [e] at h
  exact h

/-- The body after the running minimum is set: `acc` is what it holds. -/
def rest (i : grid0.Coords) (arg1 : Memref sig .tc .smem S16 .i32) (arg2 : Memref sig .tc .vmem S108x8x128 .f32) (arg3 : Memref sig .tc .vmem S8x128 .f32)
    (arg4 : Memref sig .tc .vmem S8x128 .i32) (arg5 : Memref sig .tc .vmem S8x128 .f32) (arg6 : Memref sig .tc .vmem S8x128 .i32) :
    Prog (TpuEff nD τ sig (Elt F) Λ₀ .tc) PUnit := do
  let seed : Elt F .i32 ← smemLoad arg1 (Rect.unit (s := S16) ![0] S1.size inb_S16_S1_0) numel1_S1 rfl
  let w : Vec F S8x128 .f32 ← Prog.lift (.load arg5 all8.toLoadRect (View.loadsAt_vmem h_S8x128))
  let k : Vec F S8x128 .i32 ← Prog.lift (.load arg6 all8.toLoadRect (View.loadsAt_vmem h_S8x128))
  let acc ← rows i arg2 seed 108 (w, k)
  let _ : Vec F S8x128 .f32 ← Prog.lift (.load arg5 all8.toLoadRect (View.loadsAt_vmem h_S8x128))
  Prog.lift (.store arg5 all8 (shapeCast S8x128 acc.1 shapeCasts_S8x128_S8x128) Finset.univ (View.stores_vmem_bits_univ h_S8x128 rfl) (.inl rfl))
  let _ : Vec F S8x128 .i32 ← Prog.lift (.load arg6 all8.toLoadRect (View.loadsAt_vmem h_S8x128))
  Prog.lift (.store arg6 all8 (shapeCast S8x128 acc.2 shapeCasts_S8x128_S8x128) Finset.univ (View.stores_vmem_bits_univ h_S8x128 rfl) (.inl rfl))
  if _h : k0_cond2 i = 1#1 then do
    let _ : Vec F S8x128 .f32 ← Prog.lift (.load arg3 all8.toLoadRect (View.loadsAt_vmem h_S8x128))
    Prog.lift (.store arg3 all8 acc.1 Finset.univ (View.stores_vmem_bits_univ h_S8x128 rfl) (.inl rfl))
    let _ : Vec F S8x128 .i32 ← Prog.lift (.load arg4 all8.toLoadRect (View.loadsAt_vmem h_S8x128))
    Prog.lift (.store arg4 all8 acc.2 Finset.univ (View.stores_vmem_bits_univ h_S8x128 rfl) (.inl rfl))
    pure ⟨⟩
  else do
    pure ⟨⟩

theorem rest_run (i : grid0.Coords) {a1 : Memref sig .tc .smem S16 .i32} {a2 : Memref sig .tc .vmem S108x8x128 .f32} {a3 : Memref sig .tc .vmem S8x128 .f32}
    {a4 : Memref sig .tc .vmem S8x128 .i32} {a5 : Memref sig .tc .vmem S8x128 .f32} {a6 : Memref sig .tc .vmem S8x128 .i32}
    (s : Vec F S16 .i32) (X : Vec F S108x8x128 .f32) (o3 : Vec F S8x128 .f32) (o4 : Vec F S8x128 .i32) (acc : Acc F) (Q : PUnit → sProp 𝕄) :
    iprop(owns (c : Thread nD τ) a1 fullShare s ∗ owns (c : Thread nD τ) a2 fullShare X ∗ owns (c : Thread nD τ) a3 fullShare o3 ∗ owns (c : Thread nD τ) a4 fullShare o4
        ∗ owns (c : Thread nD τ) a5 fullShare acc.1 ∗ owns (c : Thread nD τ) a6 fullShare acc.2
        ∗ ((owns (c : Thread nD τ) a1 fullShare s ∗ owns (c : Thread nD τ) a2 fullShare X
            ∗ owns (c : Thread nD τ) a3 fullShare (if k0_cond2 i = 1#1 then (rowsV i X (s zero16) 108 acc).1 else o3)
            ∗ owns (c : Thread nD τ) a4 fullShare (if k0_cond2 i = 1#1 then (rowsV i X (s zero16) 108 acc).2 else o4)
            ∗ owns (c : Thread nD τ) a5 fullShare (rowsV i X (s zero16) 108 acc).1 ∗ owns (c : Thread nD τ) a6 fullShare (rowsV i X (s zero16) 108 acc).2) -∗ Q ⟨⟩))
      ⊢ wp frame (wpE (defs₀ (F := F)) Variants.none (c : Thread nD τ) none) E (rest i a1 a2 a3 a4 a5 a6) Q := by
  unfold rest
  iintro ⟨H1, H2, H3, H4, H5, H6, HQ⟩
  iapply (load_seed c E) $$ H1
  iintro H1
  iapply (load8 c E) $$ H5
  iintro H5
  iapply (load8 c E) $$ H6
  iintro H6
  iapply (rows_run c E i (s zero16) _ 108 (acc.1, acc.2)) $$ H2
  iintro H2
  generalize rowsV i X (s zero16) 108 (acc.1, acc.2) = out
  rw [show shapeCast S8x128 out.1 shapeCasts_S8x128_S8x128 = out.1 from cast8 (e := .f32) _,
    show shapeCast S8x128 out.2 shapeCasts_S8x128_S8x128 = out.2 from cast8 (F := F) (e := .i32) _]
  iapply (load8 c E) $$ H5
  iintro H5
  iapply (store8 c E) $$ H5
  iintro H5
  iapply (load8 c E) $$ H6
  iintro H6
  iapply (store8 c E) $$ H6
  iintro H6
  by_cases h : k0_cond2 i = 1#1
  · simp only [h, dif_pos, if_pos]
    iapply (load8 c E) $$ H3
    iintro H3
    iapply (store8 c E) $$ H3
    iintro H3
    iapply (load8 c E) $$ H4
    iintro H4
    iapply (store8 c E) $$ H4
    iintro H4
    iapply (done c E)
    iapply HQ
    isplitl [H1]; · iexact H1
    isplitl [H2]; · iexact H2
    isplitl [H3]; · iexact H3
    isplitl [H4]; · iexact H4
    isplitl [H5]; · iexact H5
    iexact H6
  · simp only [h, dif_neg, if_neg, not_false_eq_true]
    iapply (done c E)
    iapply HQ
    isplitl [H1]; · iexact H1
    isplitl [H2]; · iexact H2
    isplitl [H3]; · iexact H3
    isplitl [H4]; · iexact H4
    isplitl [H5]; · iexact H5
    iexact H6

/-- The dense kernel's body at one step. -/
theorem body_run (i : grid0.Coords) {a1 : Memref sig .tc .smem S16 .i32} {a2 : Memref sig .tc .vmem S108x8x128 .f32} {a3 : Memref sig .tc .vmem S8x128 .f32}
    {a4 : Memref sig .tc .vmem S8x128 .i32} {a5 : Memref sig .tc .vmem S8x128 .f32} {a6 : Memref sig .tc .vmem S8x128 .i32}
    (s : Vec F S16 .i32) (X : Vec F S108x8x128 .f32) (o3 : Vec F S8x128 .f32) (o4 : Vec F S8x128 .i32) (acc : Acc F) (Q : PUnit → sProp 𝕄) :
    iprop(owns (c : Thread nD τ) a1 fullShare s ∗ owns (c : Thread nD τ) a2 fullShare X ∗ owns (c : Thread nD τ) a3 fullShare o3 ∗ owns (c : Thread nD τ) a4 fullShare o4
        ∗ owns (c : Thread nD τ) a5 fullShare acc.1 ∗ owns (c : Thread nD τ) a6 fullShare acc.2
        ∗ ((owns (c : Thread nD τ) a1 fullShare s ∗ owns (c : Thread nD τ) a2 fullShare X
            ∗ owns (c : Thread nD τ) a3 fullShare (if k0_cond2 i = 1#1 then (stepV i s X acc).1 else o3)
            ∗ owns (c : Thread nD τ) a4 fullShare (if k0_cond2 i = 1#1 then (stepV i s X acc).2 else o4)
            ∗ owns (c : Thread nD τ) a5 fullShare (stepV i s X acc).1 ∗ owns (c : Thread nD τ) a6 fullShare (stepV i s X acc).2) -∗ Q ⟨⟩))
      ⊢ wp frame (wpE (defs₀ (F := F)) Variants.none (c : Thread nD τ) none) E (body i a1 a2 a3 a4 a5 a6) Q := by
  show _ ⊢ wp frame _ E (start i a5 a6 >>= fun _ => rest i a1 a2 a3 a4 a5 a6) Q
  unfold stepV enter start
  by_cases h : isFirst i = 1#1
  · simp only [h, dif_pos, if_pos]
    unfold init
    rw [show shapeCast S8x128 (bcf 0x7F800000#32 : FVec F S8x128 .f32) shapeCasts_S8x128_S8x128 = (none8 (F := F)).1 from cast8 (e := .f32) _,
      show shapeCast S8x128 (bc 0#32 : IVec S8x128 32) shapeCasts_S8x128_S8x128 = (none8 (F := F)).2 from cast8 (F := F) (e := .i32) _]
    iintro ⟨H1, H2, H3, H4, H5, H6, HQ⟩
    iapply (load8 c E) $$ H5
    iintro H5
    iapply (store8 c E) $$ H5
    iintro H5
    iapply (load8 c E) $$ H6
    iintro H6
    iapply (store8 c E) $$ H6
    iintro H6
    iapply (rest_run c E i s X o3 o4 none8 Q)
    isplitl [H1]; · iexact H1
    isplitl [H2]; · iexact H2
    isplitl [H3]; · iexact H3
    isplitl [H4]; · iexact H4
    isplitl [H5]; · iexact H5
    isplitl [H6]; · iexact H6
    iexact HQ
  · simp only [h, dif_neg, if_neg, not_false_eq_true]
    exact rest_run c E i s X o3 o4 acc Q

end Cert.Proof.RowsI

end
-- ==== Proof.RowBits.lean ====
/-
  The dense kernel's draw and weight at one element: its Threefry is the tile kernel's, lane for lane, so its 23 bits are those of
  the state's number, and its weight is the reference's with the logarithm itself.
-/
module

public import proofs.«01_k».proof.Proof.RowDraw
public import proofs.«01_k».proof.Proof.LaneBits
public import proofs.«01_k».proof.Proof.LogEq
public import proofs.«01_k».proof.Proof.RefUniform

@[expose] public section

noncomputable section

namespace Cert.Proof.RowDraw

open Idealize.ShloMosaic
open Cert.Proof.Draw (L16)

/-- A group on an element is a group on a lane. -/
theorem group_same {r₁ s₁ r₂ s₂ r₃ s₃ r₄ s₄ : BitVec 32} {k l : Words} {x : Words × Words} {k' l' : Draw.Words} {x' : Draw.Words × Draw.Words}
    {j : B.Idx} {i : L16.Idx} (hk : k j = k' i) (hl : l j = l' i) (hx : (x.1 j, x.2 j) = (x'.1 i, x'.2 i)) :
    ((group r₁ s₁ r₂ s₂ r₃ s₃ r₄ s₄ k l x).1 j, (group r₁ s₁ r₂ s₂ r₃ s₃ r₄ s₄ k l x).2 j)
      = ((Draw.group r₁ s₁ r₂ s₂ r₃ s₃ r₄ s₄ k' l' x').1 i, (Draw.group r₁ s₁ r₂ s₂ r₃ s₃ r₄ s₄ k' l' x').2 i) := by
  obtain ⟨h₁, h₂⟩ := Prod.mk.inj hx
  have e : ((group r₁ s₁ r₂ s₂ r₃ s₃ r₄ s₄ k l x).1 j, (group r₁ s₁ r₂ s₂ r₃ s₃ r₄ s₄ k l x).2 j)
      = ((Draw.group r₁ s₁ r₂ s₂ r₃ s₃ r₄ s₄ (fun _ => k j) (fun _ => l j) (fun _ => x.1 j, fun _ => x.2 j)).1 i,
        (Draw.group r₁ s₁ r₂ s₂ r₃ s₃ r₄ s₄ (fun _ => k j) (fun _ => l j) (fun _ => x.1 j, fun _ => x.2 j)).2 i) := rfl
  rw [e, hk, hl, h₁, h₂]
  rfl

/-- The draw's bits on an element, for a state's number, are the reference's. -/
theorem mant_at (s : BitVec 32) (idx : Words) (j : B.Idx) (c : (⟨1, ![1000000]⟩ : Shape).Idx) (h : idx j = BitVec.ofNat 32 (c 0).val) :
    mant (keyOf s) idx j = Ref.drawn 0 s c := by
  let i : L16.Idx := fun a => ⟨0, match a with | 0 => by decide⟩
  let v : Draw.Words := fun _ => s
  let K : Draw.Key := ⟨v, Draw.bc 0#32, xori (xori (Draw.bc 0#32) v) (Draw.bc 466688986#32), addi (xori (xori (Draw.bc 0#32) v) (Draw.bc 466688986#32)) (Draw.bc 1#32),
    addi (Draw.bc 0#32) (Draw.bc 2#32), addi v (Draw.bc 3#32), addi (xori (xori (Draw.bc 0#32) v) (Draw.bc 466688986#32)) (Draw.bc 4#32), addi (Draw.bc 0#32) (Draw.bc 5#32)⟩
  let idx' : Draw.Words := fun _ => idx j
  have e : ((threefry (keyOf s) idx).1 j, (threefry (keyOf s) idx).2 j) = ((Draw.threefry K idx').1 i, (Draw.threefry K idx').2 i) :=
    group_same rfl rfl (group_same rfl rfl (group_same rfl rfl (group_same rfl rfl (group_same rfl rfl rfl))))
  obtain ⟨e₁, e₂⟩ := Prod.mk.inj e
  have m : mant (keyOf s) idx j = Draw.mant K idx' i := by
    show IntOp.shrui .vector ((threefry (keyOf s) idx).1 j ^^^ (threefry (keyOf s) idx).2 j) 9#32
      = IntOp.shrui .vector ((Draw.threefry K idx').1 i ^^^ (Draw.threefry K idx').2 i) 9#32
    rw [e₁, e₂]
  rw [m, Draw.mant_lane (Draw.threefry_lane (K := K) (idx := idx') (i := i) (s := s) rfl rfl rfl rfl rfl rfl rfl rfl)]
  show ((Lane.threefry 0 s 0 (idx j)).1 ^^^ (Lane.threefry 0 s 0 (idx j)).2) >>> 9#32 = _
  rw [h]
  rfl

/-- The float made of the draw's bits, less one, is the reference's draw. -/
theorem unit_eq {n : BitVec 32} (h : n.toNat < 2 ^ 23) :
    (Ideal.ofBits .f32 (n ||| 1065353216#32) - Ideal.ofBits .f32 0x3F800000#32 : EReal) = Ref.unitOf (F := Ideal) n := by
  have e : Ref.unitOf (F := Ideal) n = max (Ideal.ofBits .f32 0x00000000#32)
    ((Ideal.ofBits .f32 (n ||| 1065353216#32) - Ideal.ofBits .f32 0x3F800000#32) * (Ideal.ofBits .f32 0x3F800000#32 - Ideal.ofBits .f32 0x00000000#32)
      + Ideal.ofBits .f32 0x00000000#32) := rfl
  have hw : n ||| 1065353216#32 = BitVec.ofNat 32 (127 * 2 ^ 23 + n.toNat) := by
    apply BitVec.eq_of_toNat_eq
    rw [BitVec.toNat_or]
    show _ ||| 1065353216 = _
    rw [show 1065353216 = 127 <<< 23 from rfl, Nat.or_comm, ← Nat.shiftLeft_add_eq_or_of_lt h, Nat.shiftLeft_eq, BitVec.toNat_ofNat]
    omega
  rw [Log.unit_real h, hw, Log.word_val (by decide) (by decide) h, Log.one_val, ← EReal.coe_sub]
  apply congrArg Real.toEReal
  have e2 : (2 : ℝ) ^ (((127 : ℕ) : ℤ) - 150) = ((2 : ℝ) ^ (23 : ℕ))⁻¹ := by
    rw [show ((127 : ℕ) : ℤ) - 150 = -((23 : ℕ) : ℤ) by norm_num, zpow_neg, zpow_natCast]
  rw [Log.val, e2, Nat.cast_add, Nat.cast_pow, Nat.cast_ofNat]
  field_simp
  ring

/-- The weight on an element, for a state's number and its logit. -/
theorem weight_at {s : BitVec 32} {idx : Words} {l : FVec Ideal B .f32} {j : B.Idx} {c : (⟨1, ![1000000]⟩ : Shape).Idx} {x : EReal}
    (h : idx j = BitVec.ofNat 32 (c 0).val) (hl : (l j : EReal) = x) :
    (weight (F := Ideal) (keyOf s) idx l j : EReal) = Ref.logWeight (F := Ideal) (Ref.drawn 0 s c) x := by
  have e : (weight (F := Ideal) (keyOf s) idx l j : EReal)
      = (Ideal.ofBits .f32 0#32 - Ideal.log (max (Ideal.ofBits .f32 (mant (keyOf s) idx j ||| 1065353216#32) - Ideal.ofBits .f32 0x3F800000#32)
          (Ideal.ofBits .f32 0x00800000#32))) * Ideal.exp (Ideal.ofBits .f32 0#32 - l j) := rfl
  rw [e, mant_at s idx j c h, unit_eq (n := Ref.drawn 0 s c) (Draw.bits_lt _), hl, Log.zero_val, EReal.coe_zero, zero_sub, zero_sub]
  rfl

end Cert.Proof.RowDraw

end
-- ==== Proof.RowCells.lean ====
/-
  What each element of the dense kernel's running minimum holds after each row: the least weight of the element's states so
  far and the number of the first state that has it.
-/
module

public import proofs.«01_k».proof.Proof.RowRunI
public import proofs.«01_k».proof.Proof.RowBits
public import proofs.«01_k».proof.Proof.RunningMin
public import proofs.«01_k».proof.Proof.RefMin

@[expose] public section

noncomputable section

namespace Cert.Proof.RowsI

open Cert.KernelIdeal Cert.KernelIdeal.Gen
open Idealize.ShloMosaic Idealize.SL.Sem
open Cert.Proof.RowDraw Cert.Proof.RunningMin

/-- An element's place in its row. -/
def place (j : S8x128.Idx) : ℕ := (j 0).val * 128 + (j 1).val

theorem place_lt (j : S8x128.Idx) : place j < 1024 := by
  have h₀ : (j 0).val < 8 := (j 0).isLt
  have h₁ : (j 1).val < 128 := (j 1).isLt
  unfold place
  omega

/-- The state at place `q` of row `p`, of the 756 rows. -/
def cell (q p : ℕ) : (⟨1, ![1000000]⟩ : Shape).Idx := ix1 ⟨(p * 1024 + q) % 1000000, Nat.mod_lt _ (by decide)⟩

theorem cell_val {q p : ℕ} (hq : q < 1024) (hp : p < 756) : ((cell q p) 0).val = p * 1024 + q :=
  Nat.mod_eq_of_lt (by omega)

/-- Its number as a word. -/
def word (q p : ℕ) : BitVec 32 := BitVec.ofNat 32 ((cell q p) 0).val

/-- Its weight. -/
def cellWeight (s : BitVec 32) (X : (⟨1, ![1000000]⟩ : Shape).Idx → EReal) (q p : ℕ) : EReal :=
  Ref.logWeight (F := Ideal) (Ref.drawn 0 s (cell q p)) (X (cell q p))

theorem states_at (i : grid0.Coords) (r : ℕ) (hr : r < 108) (j : S8x128.Idx) :
    states i r j = word (place j) (108 * (i 0).val + r) := by
  have hi : (i 0).val < 7 := (i 0).isLt
  have e : states i r j = (BitVec.ofNat 32 (i 0).val * BitVec.ofNat 32 108 + BitVec.ofNat 32 r) * BitVec.ofNat 32 1024
      + (BitVec.ofNat 32 (0 * 8 + (j 0).val) * BitVec.ofNat 32 128 + BitVec.ofNat 32 (0 * 128 + (j 1).val)) := rfl
  rw [e]
  simp only [← BitVec.ofNat_add, ← BitVec.ofNat_mul]
  unfold word
  rw [cell_val (place_lt j) (by omega)]
  refine congrArg (BitVec.ofNat 32) ?_
  unfold place
  omega

/-- A row's logits. -/
theorem row_at (X : Vec Ideal S108x8x128 .f32) (n : ℕ) (hn : n < 108) (j : S8x128.Idx) :
    shapeCast S8x128 (row X n) shapeCasts_S1x8x128_S8x128 j = X (ix3 ⟨107 - n, by omega⟩ (j 0) (j 1)) := by
  rw [shapeCast_apply (row X n) _ j (ix3 0 (j 0) (j 1)) (by rw [rowMajor_val2 _ 128 rfl, rowMajor_val3 _ 1024 128 rfl rfl]; show 0 * 1024 + (j 0).val * 128 + (j 1).val = _; omega)]
  refine congrArg X (funext fun a => Fin.ext ?_)
  match a with
  | 0 => show 107 - n + 1 * 0 = 107 - n; omega
  | 1 => show 0 + 1 * (j 0).val = (j 0).val; omega
  | 2 => show 0 + 1 * (j 1).val = (j 1).val; omega

/-- The running minimum at element `j` is that of the states of the first `n` rows. -/
def Holds (s : BitVec 32) (X : (⟨1, ![1000000]⟩ : Shape).Idx → EReal) (j : S8x128.Idx) (n : ℕ) (acc : Acc Ideal) : Prop :=
  Best (cellWeight s X (place j)) (word (place j)) (· < n) (acc.1 j) (acc.2 j)

variable {s : BitVec 32} {X : (⟨1, ![1000000]⟩ : Shape).Idx → EReal} {j : S8x128.Idx}

theorem holds_none : Holds s X j 0 none8 := by
  have e : ((none8 (F := Ideal)).1 j : EReal) = ⊤ := Ref.infinity
  unfold Holds
  rw [e]
  exact Best.empty fun p hp => absurd hp (Nat.not_lt_zero p)

theorem holds_step {i : grid0.Coords} {r : ℕ} (hr : r < 108) {l : Vec Ideal S1x8x128 .f32} {acc : Acc Ideal}
    (hl : (shapeCast S8x128 l shapeCasts_S1x8x128_S8x128 j : EReal) = X (cell (place j) (108 * (i 0).val + r)))
    (h : Holds s X j (108 * (i 0).val + r) acc) : Holds s X j (108 * (i 0).val + r + 1) (step i s r l acc) := by
  have hu := weight_at (s := s) (j := j) (states_at i r hr j) hl
  have e₁ : ((step i s r l acc).1 j : EReal) = if cellWeight s X (place j) (108 * (i 0).val + r) < (acc.1 j : EReal)
      then cellWeight s X (place j) (108 * (i 0).val + r) else acc.1 j := by
    unfold cellWeight
    rw [← hu]
    exact Log.select_of (c := Ideal.cmp .olt _ (acc.1 j)) rfl _ _
  have e₂ : (step i s r l acc).2 j = if cellWeight s X (place j) (108 * (i 0).val + r) < (acc.1 j : EReal)
      then word (place j) (108 * (i 0).val + r) else acc.2 j := by
    unfold cellWeight
    rw [← hu, ← states_at i r hr j]
    exact Log.select_of (c := Ideal.cmp .olt _ (acc.1 j)) rfl _ _
  unfold Holds
  rw [e₁, e₂]
  exact (Best.step h (108 * (i 0).val + r) fun q hq => hq).congr fun p => by omega

/-- The last `n` rows of a step. -/
theorem holds_rows {i : grid0.Coords} {B : Vec Ideal S108x8x128 .f32}
    (hB : ∀ (r : Fin 108), (B (ix3 r (j 0) (j 1)) : EReal) = X (cell (place j) (108 * (i 0).val + r.val))) :
    ∀ (n : ℕ) (_ : n ≤ 108) (acc : Acc Ideal), Holds s X j (108 * (i 0).val + (108 - n)) acc → Holds s X j (108 * ((i 0).val + 1)) (rowsV i B s n acc)
  | 0, _, _, h => h
  | n + 1, hn, acc, h => by
    have hs := holds_step (i := i) (s := s) (X := X) (j := j) (r := 107 - n) (by omega) (l := row B n) (acc := acc)
      ((row_at B n (by omega) j).trans (hB ⟨107 - n, by omega⟩)) (by rwa [show 107 - n = 108 - (n + 1) by omega])
    refine holds_rows hB n (by omega) (step i s (107 - n) (row B n) acc) ?_
    rwa [show 108 * (i 0).val + (108 - n) = 108 * (i 0).val + (107 - n) + 1 by omega]

theorem first_zero (i : grid0.Coords) (h : isFirst i = 1#1) : (i 0).val = 0 := by
  have hi : (i 0).val < 7 := (i 0).isLt
  revert h
  unfold isFirst
  generalize (i 0).val = n at hi
  interval_cases n <;> decide

/-- A whole step. -/
theorem holds_stepV {i : grid0.Coords} {B : Vec Ideal S108x8x128 .f32} {v : Vec Ideal S16 .i32} (hv : v zero16 = s)
    (hB : ∀ (r : Fin 108), (B (ix3 r (j 0) (j 1)) : EReal) = X (cell (place j) (108 * (i 0).val + r.val))) {acc : Acc Ideal}
    (h : Holds s X j (108 * (i 0).val) acc) : Holds s X j (108 * ((i 0).val + 1)) (stepV i v B acc) := by
  unfold stepV
  rw [hv]
  refine holds_rows hB 108 le_rfl _ ?_
  show Holds s X j (108 * (i 0).val) (enter i acc)
  unfold enter
  split
  · next hf =>
    rw [first_zero i hf]
    exact holds_none
  · exact h

end Cert.Proof.RowsI

end
-- ==== Proof.MergeI.lean ====
/-
  The merging kernel: of the least weights of the two earlier calls the least, and the least state that attains it. Said of the
  idealised program, as Proof/Merge.lean says it of the kernel.
-/
module

public import proofs.«01_k».proof.Proof.RowRunI

@[expose] public section

noncomputable section

namespace Cert.Proof.MergeI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The twelve rows of weights, -/
def weights (w : Vec F S4x128 .f32) (v : Vec F S8x128 .f32) : FVec F S12x128 .f32 :=
  concatenate S12x128 0 [⟨S4x128, w⟩, ⟨S8x128, v⟩] concatenates_S4x128_S8x128_S12x128_d0
/-- of states. -/
def states (k : Vec F S4x128 .i32) (l : Vec F S8x128 .i32) : IVec S12x128 32 :=
  concatenate S12x128 0 [⟨S4x128, k⟩, ⟨S8x128, l⟩] concatenates_S4x128_S8x128_S12x128_d0
/-- The least weight. -/
def least (w : FVec F S12x128 .f32) : F .f32 :=
  extractAt ![0, 0, 0] (shapeCast S1x1x1 (multiReduction .minimumf [1, 2] S1 (shapeCast S1x12x128 w shapeCasts_S12x128_S1x12x128) 0x7F800000#32 reduces_S1x12x128_S1 (.inl rfl) rfl)
    shapeCasts_S1_S1x1x1) inpos_S1x1x1_p0_0_0
/-- The least state whose weight is the least. -/
def pick (w : FVec F S12x128 .f32) (k : IVec S12x128 32) : BitVec 32 :=
  extractAt ![0, 0, 0] (shapeCast S1x1x1 (multiReductionI .minsi [1, 2] S1
    (shapeCast S1x12x128 (select (cmpf .oeq w (broadcast S12x128 (least w))) k (broadcast S12x128 2147483647#32)) shapeCasts_S12x128_S1x12x128) 2147483647#32 reduces_S1x12x128_S1 rfl)
    shapeCasts_S1_S1x1x1) inpos_S1x1x1_p0_0_0
/-- What the merging kernel stores. -/
def out (w : Vec F S4x128 .f32) (k : Vec F S4x128 .i32) (v : Vec F S8x128 .f32) (l : Vec F S8x128 .i32) : BitVec 32 :=
  pick (weights w v) (states (F := F) k l)

/-- All of a 4 × 128 buffer, -/
abbrev all4 : Rect S4x128 := Rect.unit (s := S4x128) ![0, 0] S4x128.size inb_S4x128_S4x128_0_0
/-- of the result's. -/
abbrev all1 : Rect S1x1 := Rect.unit (s := S1x1) ![0, 0] S1x1.size inb_S1x1_S1x1_0_0

theorem all4_emb (j : all4.shape.Idx) : (all4.emb j : S4x128.Idx) = j := by
  funext a
  refine Fin.ext ?_
  match a with
  | 0 => show 0 + 1 * (j 0).val = _; omega
  | 1 => show 0 + 1 * (j 1).val = _; omega

theorem all1_emb (j : all1.shape.Idx) : (all1.emb j : S1x1.Idx) = j := by
  funext a
  refine Fin.ext ?_
  match a with
  | 0 => show 0 + 1 * (j 0).val = _; omega
  | 1 => show 0 + 1 * (j 1).val = _; omega

theorem all4_read {e : EltTy} (X : Vec F S4x128 e) : (fun j : all4.shape.Idx => X (all4.emb j)) = X :=
  funext fun j => congrArg X (all4_emb j)

variable (c : Dev nD) (E : Set Name)

theorem load4 {e : EltTy} {m : Memref sig .tc .vmem S4x128 e} {hl : m.view.LoadsAt all4.toLoadRect} {α : Type} {Q : α → sProp 𝕄}
    {k : Vec F S4x128 e → Prog (TpuEff nD τ sig (Elt F) Λ₀ .tc) α} {q : PosShare TreeShare} {X : Vec F S4x128 e} :
    (owns (c : Thread nD τ) m q X : sProp 𝕄)
      ⊢ iprop(((owns (c : Thread nD τ) m q X) -∗ wp frame (wpE (defs₀ (F := F)) Variants.none (c : Thread nD τ) none) E (k X) Q)
        -∗ wp frame (wpE (defs₀ (F := F)) Variants.none (c : Thread nD τ) none) E (.op (.load m all4.toLoadRect hl) k) Q) := by
  have h := Block.load (defs₀ (F := F)) Variants.none (c : Thread nD τ) none E (Q := Q) (m := m) (r := all4) (hl := hl) (k := k) (q := q) (X := X)
  rwa [all4_read X] at h

theorem cast4 {e : EltTy} (X : Vec F S4x128 e) : shapeCast S4x128 X shapeCasts_S4x128_S4x128 = X := shapeCast_self X _

/-- The merging kernel's body. -/
theorem body_run {a0 : Memref sig .tc .vmem S4x128 .f32} {h0 : a0.IsWhole} {a1 : Memref sig .tc .vmem S4x128 .i32} {h1 : a1.IsWhole}
    {a2 : Memref sig .tc .vmem S8x128 .f32} {h2 : a2.IsWhole} {a3 : Memref sig .tc .vmem S8x128 .i32} {h3 : a3.IsWhole}
    {a4 : Memref sig .tc .smem S1x1 .i32} {h4 : a4.IsWhole}
    (w : Vec F S4x128 .f32) (k : Vec F S4x128 .i32) (v : Vec F S8x128 .f32) (l : Vec F S8x128 .i32) (o : Vec F S1x1 .i32) (Q : PUnit → sProp 𝕄) :
    iprop(owns (c : Thread nD τ) a0 fullShare w ∗ owns (c : Thread nD τ) a1 fullShare k ∗ owns (c : Thread nD τ) a2 fullShare v ∗ owns (c : Thread nD τ) a3 fullShare l
        ∗ owns (c : Thread nD τ) a4 fullShare o
        ∗ ((owns (c : Thread nD τ) a0 fullShare w ∗ owns (c : Thread nD τ) a1 fullShare k ∗ owns (c : Thread nD τ) a2 fullShare v ∗ owns (c : Thread nD τ) a3 fullShare l
            ∗ owns (c : Thread nD τ) a4 fullShare (fun _ => out (F := F) w k v l : Vec F S1x1 .i32)) -∗ Q ⟨⟩))
      ⊢ wp frame (wpE (defs₀ (F := F)) Variants.none (c : Thread nD τ) none) E (cc2__merge_body a0 h0 a1 h1 a2 h2 a3 h3 a4 h4) Q := by
  unfold cc2__merge_body
  iintro ⟨H0, H1, H2, H3, H4, HQ⟩
  iapply (load4 c E) $$ H0
  iintro H0
  iapply (RowsI.load8 c E) $$ H2
  iintro H2
  iapply (load4 c E) $$ H1
  iintro H1
  iapply (RowsI.load8 c E) $$ H3
  iintro H3
  iapply (Block.load (defs₀ (F := F)) Variants.none (c : Thread nD τ) none E (m := a4) (r := all1)) $$ H4
  iintro H4
  iapply (Block.store (defs₀ (F := F)) Variants.none (c : Thread nD τ) none E (m := a4) (r := all1) rfl _
    (Y := (fun _ => out (F := F) w k v l : Vec F S1x1 .i32)) (fun j => ?_) (fun i => ⟨i, all1_emb i⟩)) $$ H4
  · show pick (weights (shapeCast S4x128 w shapeCasts_S4x128_S4x128) (shapeCast S8x128 v shapeCasts_S8x128_S8x128))
      (states (F := F) (shapeCast S4x128 k shapeCasts_S4x128_S4x128) (shapeCast S8x128 l shapeCasts_S8x128_S8x128)) = out (F := F) w k v l
    rw [cast4 w, cast4 (F := F) k, RowsI.cast8 v, RowsI.cast8 (F := F) l]
    rfl
  iintro H4
  iapply (RowsI.done c E)
  iapply HQ
  isplitl [H0]; · iexact H0
  isplitl [H1]; · iexact H1
  isplitl [H2]; · iexact H2
  isplitl [H3]; · iexact H3
  iexact H4

end Cert.Proof.MergeI

end
-- ==== Proof.MergeMin.lean ====
/-
  The merging call's number over the extended reals: the least weight of the twelve rows, and the least state whose weight
  it is.
-/
module

public import Idealize.ShloMosaic.PureOps.Reduce
public import proofs.«01_k».proof.Proof.MergeI
public import proofs.«01_k».proof.Proof.RefMin

@[expose] public section

noncomputable section

namespace Cert.Proof.MergeI

open Cert.KernelIdeal Cert.KernelIdeal.Gen
open Idealize.ShloMosaic Idealize.SL.Sem

/-- An entry of the twelve rows, in the array the reductions run over. -/
theorem entry {α : Type} (x : S12x128.Idx → α) (j : S1x12x128.Idx) :
    shapeCast S1x12x128 x shapeCasts_S12x128_S1x12x128 j = x (ix2 (j 1) (j 2)) := by
  have h₀ : (j 0).val < 1 := (j 0).isLt
  refine shapeCast_apply x _ j _ ?_
  rw [rowMajor_val2 _ 128 rfl, rowMajor_val3 _ 1536 128 rfl rfl]
  show (j 1).val * 128 + (j 2).val = (j 0).val * 1536 + (j 1).val * 128 + (j 2).val
  omega

theorem entry_back {α : Type} (x : S12x128.Idx → α) (e : S12x128.Idx) :
    shapeCast S1x12x128 x shapeCasts_S12x128_S1x12x128 (ix3 0 (e 0) (e 1)) = x e := by
  rw [entry]
  refine congrArg x (funext fun a => ?_)
  match a with
  | 0 => rfl
  | 1 => rfl

instance : Subsingleton S1.Idx := ⟨fun a b => funext fun x => by
  match x with
  | 0 => exact Subsingleton.elim (α := Fin 1) _ _⟩

/-- A reduction of all twelve rows that picks one of two, by an order: one of the entries or what it began with, and none of
them is less. -/
theorem reduce_all {α : Type} {f : α → α → α} {le : α → α → Prop} (h : Pick.Picks le f) (x : S12x128.Idx → α) (a : α) (j : S1.Idx) :
    (reduceFold reduces_S1x12x128_S1 f a (shapeCast S1x12x128 x shapeCasts_S12x128_S1x12x128) j = a ∨
        ∃ e, reduceFold reduces_S1x12x128_S1 f a (shapeCast S1x12x128 x shapeCasts_S12x128_S1x12x128) j = x e) ∧
      ∀ e, le (reduceFold reduces_S1x12x128_S1 f a (shapeCast S1x12x128 x shapeCasts_S12x128_S1x12x128) j) (x e) := by
  obtain ⟨h₁, h₂⟩ := h.reduceFold reduces_S1x12x128_S1 a (shapeCast S1x12x128 x shapeCasts_S12x128_S1x12x128) j
  refine ⟨h₁.imp_right fun ⟨i, _, hi⟩ => ⟨_, hi.trans (entry x i)⟩, fun e => ?_⟩
  have := h₂ (ix3 0 (e 0) (e 1)) (Subsingleton.elim _ _)
  rwa [entry_back] at this

/-- The one entry of a reduction. -/
theorem only {α : Type} (v : S1.Idx → α) : extractAt ![0, 0, 0] (shapeCast S1x1x1 v shapeCasts_S1_S1x1x1) inpos_S1x1x1_p0_0_0 = v (ix1 0) :=
  congrArg v (Subsingleton.elim _ _)

theorem least_at (w : FVec Ideal S12x128 .f32) :
    ((least w : EReal) = ⊤ ∨ ∃ e, (least w : EReal) = w e) ∧ ∀ e, (least w : EReal) ≤ w e := by
  have e : least w = extractAt ![0, 0, 0] (shapeCast S1x1x1 (reduceFold reduces_S1x12x128_S1 (FloatOps.minimumf (F := Ideal) (φ := .f32))
    (FloatOps.ofBits (F := Ideal) .f32 0x7F800000#32) (shapeCast S1x12x128 w shapeCasts_S12x128_S1x12x128)) shapeCasts_S1_S1x1x1) inpos_S1x1x1_p0_0_0 := rfl
  rw [e, only]
  obtain ⟨h₁, h₂⟩ := reduce_all Pick.picks_min w (FloatOps.ofBits (F := Ideal) .f32 0x7F800000#32) (ix1 0)
  exact ⟨h₁.imp_left fun e => e.trans Ref.infinity, h₂⟩

theorem pick_at (w : FVec Ideal S12x128 .f32) (k : IVec S12x128 32) :
    (pick w k = 2147483647#32 ∨ ∃ e, pick w k = if (w e : EReal) = least w then k e else 2147483647#32) ∧
      ∀ e, (pick w k).toInt ≤ (if (w e : EReal) = least w then k e else 2147483647#32).toInt := by
  have e : pick w k = extractAt ![0, 0, 0] (shapeCast S1x1x1 (reduceFold reduces_S1x12x128_S1 IntOp.minsi 2147483647#32
    (shapeCast S1x12x128 (select (cmpf .oeq w (broadcast S12x128 (least w))) k (broadcast S12x128 2147483647#32)) shapeCasts_S12x128_S1x12x128))
      shapeCasts_S1_S1x1x1) inpos_S1x1x1_p0_0_0 := rfl
  rw [e, only]
  generalize least w = a
  have c (e : S12x128.Idx) : select (cmpf .oeq w (broadcast S12x128 a)) k (broadcast S12x128 2147483647#32) e
      = if (w e : EReal) = a then k e else 2147483647#32 := Log.select_of (c := Ideal.cmp .oeq (w e) a) rfl _ _
  generalize select (cmpf .oeq w (broadcast S12x128 a)) k (broadcast S12x128 2147483647#32) = v at c ⊢
  obtain ⟨h₁, h₂⟩ := reduce_all Pick.picks_minsi v 2147483647#32 (ix1 0)
  exact ⟨h₁.imp_right fun ⟨e, h⟩ => ⟨e, h.trans (c e)⟩, fun e => (h₂ e).trans_eq (congrArg _ (c e))⟩

/-- The first four rows are the SparseCore call's, -/
theorem top_rows {α : Type} (x : S4x128.Idx → α) (y : S8x128.Idx → α) (e : S12x128.Idx) (r : Fin 4) (h : (e 0).val = r.val) :
    concatenate S12x128 0 [⟨S4x128, x⟩, ⟨S8x128, y⟩] concatenates_S4x128_S8x128_S12x128_d0 e = x (ix2 r (e 1)) :=
  concatenate_pair_apply_left 0 x y _ e rfl _ fun b => by
    match b with
    | 0 => exact h.symm
    | 1 => rfl

/-- and the last eight the dense call's. -/
theorem low_rows {α : Type} (x : S4x128.Idx → α) (y : S8x128.Idx → α) (e : S12x128.Idx) (r : Fin 8) (h : (e 0).val = r.val + 4) :
    concatenate S12x128 0 [⟨S4x128, x⟩, ⟨S8x128, y⟩] concatenates_S4x128_S8x128_S12x128_d0 e = y (ix2 r (e 1)) :=
  concatenate_pair_apply_right 0 x y _ e rfl rfl _ (fun b hb => by
    match b with
    | 0 => exact absurd rfl hb
    | 1 => rfl) h.symm

end Cert.Proof.MergeI

end
-- ==== Proof.DatsI.lean ====
/-
  The two TensorCore regions' proof data: the dense call's accumulators from point to point, and the merging call. Said of the
  idealised program, as Proof/Dats.lean says it of the kernel.
-/
module

public import proofs.«01_k».proof.Proof.TileRunI
public import proofs.«01_k».proof.Proof.RowRunI
public import proofs.«01_k».proof.Proof.MergeI
public import proofs.«01_k».proof.Proof.Region

@[expose] public section

noncomputable section

namespace Cert.Proof.DatsI

open Cert.KernelIdeal Cert.KernelIdeal.Gen
open Cert.Proof.TileI hiding Acc
open Cert.Proof.RowsI (Acc stepV none8)

open Idealize.ShloMosaic
open Idealize.ShloMosaic.TcCoe
open Idealize.ShloMosaic.Pipeline (Dat Cfg Window BodyObligation BodyObligationLoose cellOf)
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The dense call -/

variable (c : Dev nD) (W : Valuation τ sig (Elt F))

/-- The seed's vector -/
def seed (W : Valuation τ sig (Elt F)) : Vec F S16 .i32 := W (Proc.devRef .tc main_v0)
/-- and a point's block of logits, -/
def block (t : Fin cfg0.N) : Vec F S108x8x128 .f32 := (win0_1.blk t).view.read (Elt F) (W (Proc.devRef .tc main_v2))
/-- and what is accumulated before a point. -/
def accAt (W : Valuation τ sig (Elt F)) : ℕ → Acc F
  | 0 => none8
  | n + 1 => if h : n < cfg0.N then stepV (grid0.coords ⟨n, h⟩) (seed W) (block W ⟨n, h⟩) (accAt W n) else accAt W n

theorem accAt_succ (t : Fin cfg0.N) : accAt W (t.val + 1) = stepV (grid0.coords t) (seed W) (block W t) (accAt W t.val) := by
  show (if h : t.val < cfg0.N then _ else _) = _
  rw [dif_pos t.isLt]

/-- The first point resets what is accumulated: whatever was there. -/
theorem stepV_first (t : Fin cfg0.N) (ht : t.val = 0) (s : Vec F S16 .i32) (X : Vec F S108x8x128 .f32) (acc acc' : Acc F) :
    stepV (grid0.coords t) s X acc = stepV (grid0.coords t) s X acc' := by
  obtain rfl : t = (⟨0, by decide⟩ : Fin cfg0.N) := Fin.ext ht
  have h : RowsI.isFirst (grid0.coords (⟨0, by decide⟩ : Fin cfg0.N)) = 1#1 := by decide
  unfold stepV RowsI.enter
  rw [if_pos h, if_pos h]

/-- Between points: the accumulators, of known value after the first, and the remaining scratch. -/
def Φ0 (t : Fin (cfg0.N + 1)) : sProp 𝕄 :=
  iprop(∃ acc : Acc F, ⌜0 < t.val → acc = accAt W t.val⌝ ∗ owns (c : Thread nD τ) (Memref.whole cc0_scratch0) fullShare acc.1
    ∗ owns (c : Thread nD τ) (Memref.whole cc0_scratch1) fullShare acc.2
    ∗ Pipeline.scopedRestBut (Ix := HIx 1) (Name := ℕ) (U := UU) (Lvl := ℕ) (Val := Elt F) spec0 c [cc0_scratch0, cc0_scratch1])

/-- The waits a TensorCore at its `n`-th call may have on record. -/
abbrev rec (c : Dev nD) (n : Fin 2) : Set (SemLoc sig × HIx 1) := {p | (K (F := F)).lev (T c, p.1) p.2 ≤ 8 * n.val}

set_option backward.isDefEq.respectTransparency.types false in
def dat0 : Dat τ (Elt F) (HIx 1) ℕ UU ℕ cfg0 c where
  A w := W (Proc.devRef .tc (Pipeline.arrRef spec0 w))
  after w t := match w with
    | ⟨0, _⟩ => seed W
    | ⟨1, _⟩ => block W t
    | ⟨2, _⟩ => (accAt W (t.val + 1)).1
    | ⟨3, _⟩ => (accAt W (t.val + 1)).2
  Φ t := Φ0 c W t
  q _ := fullShare
  owed _ := (K (F := F)).Otc c 0
  recorded _ := rec (F := F) c 0

/-! ## The merging call -/

set_option backward.isDefEq.respectTransparency.types false in
def dat1 : Dat τ (Elt F) (HIx 1) ℕ UU ℕ cfg2 c where
  A w := W (Proc.devRef .tc (Pipeline.arrRef spec2 w))
  after w _ := match w with
    | ⟨0, _⟩ => W (Proc.devRef .tc main_v6)
    | ⟨1, _⟩ => W (Proc.devRef .tc main_v7)
    | ⟨2, _⟩ => W (Proc.devRef .tc main_v3_0)
    | ⟨3, _⟩ => W (Proc.devRef .tc main_v3_1)
    | ⟨4, _⟩ => fun _ => MergeI.out (F := F) (W (Proc.devRef .tc main_v6)) (W (Proc.devRef .tc main_v7)) (W (Proc.devRef .tc main_v3_0)) (W (Proc.devRef .tc main_v3_1))
  Φ _ := Pipeline.scopedRest (Ix := HIx 1) (Name := ℕ) (U := UU) (Lvl := ℕ) (Val := Elt F) spec2 c
  q _ := fullShare
  owed _ := (K (F := F)).Otc c 1
  recorded _ := rec (F := F) c 1

/-! ## The bodies' obligations -/

/-- The seed's block is the seed's vector. -/
theorem seed_read (t : Fin cfg0.N) : (win0_0.blk t).view.read (Elt F) (W (Proc.devRef .tc main_v0)) = seed W := by
  funext j
  refine congrArg (W (Proc.devRef .tc main_v0)) (funext fun a => Fin.ext ?_)
  match a with
  | 0 => show 0 + 1 * (j 0).val = (j 0).val; omega

theorem before0 (t : Fin cfg0.N) (d) : (dat0 c W).before 0 t d = seed W := by
  rw [(dat0 c W).before_in_eq_fetched 0 rfl (fun _ => rfl) (fun _ _ _ => rfl) (fun t => (seed_read W t).symm) t d]
  exact seed_read W t

theorem before1 (t : Fin cfg0.N) (d) : (dat0 c W).before 1 t d = block W t := by
  rw [(dat0 c W).before_in_eq_fetched 1 rfl (fun _ => rfl) (fun _ _ _ => rfl) (fun t => rfl) t d]
  unfold Dat.fetched Dat.blockOf
  rfl

theorem cond_iff : ∀ t : Fin cfg0.N, k0_cond2 (grid0.coords t) = 1#1 ↔ t.val = 6 := by decide
theorem flush_iff2 : ∀ t : Fin cfg0.N, (cfg0.win 2).flush t = decide (t.val = 6) := by decide
theorem flush_iff3 : ∀ t : Fin cfg0.N, (cfg0.win 3).flush t = decide (t.val = 6) := by decide
theorem idle_iff2 : ∀ t : Fin cfg0.N, cfg0.idle 2 (cfg0.grid.coords t) = decide (t.val ≠ 6) := by decide
theorem idle_iff3 : ∀ t : Fin cfg0.N, cfg0.idle 3 (cfg0.grid.coords t) = decide (t.val ≠ 6) := by decide

/-- A result's staging buffer after a point: the last one's value at the last point, else as found. -/
def left (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dat0 c W).before w t d))
    | true => owns (c : Thread nD τ) ((cfg0.win w).stage (cfg0.slots t w)) fullShare ((dat0 c W).after w t)
  | false => owns (c : Thread nD τ) ((cfg0.win w).stage (cfg0.slots t w)) fullShare ((dat0 c W).after w t)

theorem left_last (w : Fin cfg0.W) (t : Fin cfg0.N) (h : cfg0.idle w (cfg0.grid.coords t) = false) :
    left c W w t = owns (c : Thread nD τ) ((cfg0.win w).stage (cfg0.slots t w)) fullShare ((dat0 c W).after w t) := by
  unfold left
  rw [h]

theorem left_idle (w : Fin cfg0.W) (t : Fin cfg0.N) (h : cfg0.idle w (cfg0.grid.coords t) = true) (hf : (cfg0.win w).flush t = false) :
    left c W w t = iprop(∃ d, owns (c : Thread nD τ) ((cfg0.win w).stage (cfg0.slots t w)) fullShare ((dat0 c W).before w t d)) := by
  unfold left
  rw [h, hf]

theorem body0 : BodyObligation (dat0 c W) (defs₀ (F := F)) 𝒱₀ none Set.univ := fun t => by
  rw [show (Finset.univ : Finset (Fin cfg0.W)) = {0, 1, 2, 3} by decide]
  rw [bigSep_insert (by decide), bigSep_insert (by decide), bigSep_insert (by decide), bigSep_singleton]
  rw [bigSep_insert (by decide), bigSep_insert (by decide), bigSep_insert (by decide), bigSep_singleton]
  show iprop(Φ0 c W t.castSucc ∗ (dat0 c W).owesAt none t.castSucc
      ∗ (∃ d, owns (c : Thread nD τ) ((cfg0.win 0).stage (cfg0.slots t 0)) fullShare ((dat0 c W).before 0 t d))
      ∗ (∃ d, owns (c : Thread nD τ) ((cfg0.win 1).stage (cfg0.slots t 1)) fullShare ((dat0 c W).before 1 t d))
      ∗ (∃ d, owns (c : Thread nD τ) ((cfg0.win 2).stage (cfg0.slots t 2)) fullShare ((dat0 c W).before 2 t d))
      ∗ (∃ d, owns (c : Thread nD τ) ((cfg0.win 3).stage (cfg0.slots t 3)) fullShare ((dat0 c W).before 3 t d)))
    ⊢ wp frame (wpE (defs₀ (F := F)) 𝒱₀ (c : Thread nD τ) none) Set.univ (cc0__tc_body (grid0.coords t) _ _ _ _ _ _ _ _ _ _ _ _) fun _ =>
      iprop(Φ0 c W t.succ ∗ (dat0 c W).owesAt none t.castSucc
        ∗ owns (c : Thread nD τ) ((cfg0.win 0).stage (cfg0.slots t 0)) fullShare (seed W)
        ∗ owns (c : Thread nD τ) ((cfg0.win 1).stage (cfg0.slots t 1)) fullShare (block W t)
        ∗ left c W 2 t ∗ left c W 3 t)
  unfold Φ0
  rw [RowsI.body_eq]
  iintro ⟨⟨%acc, %hacc, H5, H6, Hr⟩, HO, ⟨%d0, H1⟩, ⟨%d1, H2⟩, ⟨%d2, H3⟩, ⟨%d3, H4⟩⟩
  rw [before0, before1]
  have hstep : stepV (grid0.coords t) (seed W) (block W t) acc = accAt W (t.val + 1) := by
    rw [accAt_succ]
    by_cases h : t.val = 0
    · exact stepV_first t h _ _ _ _
    · rw [hacc (Nat.pos_of_ne_zero h)]; rfl
  iapply (RowsI.body_run c Set.univ (grid0.coords t) (seed W) (block W t) ((dat0 c W).before 2 t d2) ((dat0 c W).before 3 t d3) acc)
  rw [hstep]
  isplitl [H1]; · iexact H1
  isplitl [H2]; · iexact H2
  isplitl [H3]; · iexact H3
  isplitl [H4]; · iexact H4
  isplitl [H5]; · iexact H5
  isplitl [H6]; · iexact H6
  by_cases hl : t.val = 6
  · rw [if_pos ((cond_iff t).mpr hl), if_pos ((cond_iff t).mpr hl), left_last c W 2 t (by rw [idle_iff2, hl]; rfl), left_last c W 3 t (by rw [idle_iff3, hl]; rfl)]
    iintro ⟨H1, H2, H3, H4, H5, H6⟩
    isplitl [H5 H6 Hr]
    · iexists (accAt W (t.val + 1))
      isplitr; · ipureintro; exact fun _ => rfl
      isplitl [H5]; · iexact H5
      isplitl [H6]; · iexact H6
      iexact Hr
    isplitl [HO]; · iexact HO
    isplitl [H1]; · iexact H1
    isplitl [H2]; · iexact H2
    isplitl [H3]; · iexact H3
    iexact H4
  · have hc : ¬k0_cond2 (grid0.coords t) = 1#1 := fun h => hl ((cond_iff t).mp h)
    rw [if_neg hc, if_neg hc, left_idle c W 2 t (by rw [idle_iff2]; exact decide_eq_true hl) (by rw [flush_iff2]; exact decide_eq_false hl),
      left_idle c W 3 t (by rw [idle_iff3]; exact decide_eq_true hl) (by rw [flush_iff3]; exact decide_eq_false hl)]
    iintro ⟨H1, H2, H3, H4, H5, H6⟩
    isplitl [H5 H6 Hr]
    · iexists (accAt W (t.val + 1))
      isplitr; · ipureintro; exact fun _ => rfl
      isplitl [H5]; · iexact H5
      isplitl [H6]; · iexact H6
      iexact Hr
    isplitl [HO]; · iexact HO
    isplitl [H1]; · iexact H1
    isplitl [H2]; · iexact H2
    isplitl [H3]; · iexists d2; iexact H3
    iexists d3; iexact H4

theorem only2 (t : Fin cfg2.N) : t = (⟨0, by decide⟩ : Fin cfg2.N) :=
  Fin.ext (Nat.lt_one_iff.mp (lt_of_lt_of_eq t.isLt (by decide : cfg2.N = 1)))

theorem merge0 (t : Fin cfg2.N) (d) : (dat1 c W).before 0 t d = W (Proc.devRef .tc main_v6) := by
  rw [only2 t, (dat1 c W).before_fetched 0 _ (by decide)]
  funext j
  refine congrArg (W (Proc.devRef .tc main_v6)) (funext fun a => Fin.ext ?_)
  match a with
  | 0 => show 0 + 1 * (j 0).val = (j 0).val; omega
  | 1 => show 0 + 1 * (j 1).val = (j 1).val; omega

theorem merge1 (t : Fin cfg2.N) (d) : (dat1 c W).before 1 t d = W (Proc.devRef .tc main_v7) := by
  rw [only2 t, (dat1 c W).before_fetched 1 _ (by decide)]
  funext j
  refine congrArg (W (Proc.devRef .tc main_v7)) (funext fun a => Fin.ext ?_)
  match a with
  | 0 => show 0 + 1 * (j 0).val = (j 0).val; omega
  | 1 => show 0 + 1 * (j 1).val = (j 1).val; omega

theorem merge2 (t : Fin cfg2.N) (d) : (dat1 c W).before 2 t d = W (Proc.devRef .tc main_v3_0) := by
  rw [only2 t, (dat1 c W).before_fetched 2 _ (by decide)]
  funext j
  refine congrArg (W (Proc.devRef .tc main_v3_0)) (funext fun a => Fin.ext ?_)
  match a with
  | 0 => show 0 + 1 * (j 0).val = (j 0).val; omega
  | 1 => show 0 + 1 * (j 1).val = (j 1).val; omega

theorem merge3 (t : Fin cfg2.N) (d) : (dat1 c W).before 3 t d = W (Proc.devRef .tc main_v3_1) := by
  rw [only2 t, (dat1 c W).before_fetched 3 _ (by decide)]
  funext j
  refine congrArg (W (Proc.devRef .tc main_v3_1)) (funext fun a => Fin.ext ?_)
  match a with
  | 0 => show 0 + 1 * (j 0).val = (j 0).val; omega
  | 1 => show 0 + 1 * (j 1).val = (j 1).val; omega

/-- What the merging call writes. -/
abbrev merged (W : Valuation τ sig (Elt F)) : BitVec 32 :=
  MergeI.out (F := F) (W (Proc.devRef .tc main_v6)) (W (Proc.devRef .tc main_v7)) (W (Proc.devRef .tc main_v3_0)) (W (Proc.devRef .tc main_v3_1))

theorem body1 : BodyObligation (dat1 c W) (defs₀ (F := F)) 𝒱₀ none Set.univ := fun t => by
  rw [show (Finset.univ : Finset (Fin cfg2.W)) = {0, 1, 2, 3, 4} by decide]
  rw [bigSep_insert (by decide), bigSep_insert (by decide), bigSep_insert (by decide), bigSep_insert (by decide), bigSep_singleton]
  rw [bigSep_insert (by decide), bigSep_insert (by decide), bigSep_insert (by decide), bigSep_insert (by decide), bigSep_singleton]
  show iprop((dat1 c W).Φ t.castSucc ∗ (dat1 c W).owesAt none t.castSucc
      ∗ (∃ d, owns (c : Thread nD τ) ((cfg2.win 0).stage (cfg2.slots t 0)) fullShare ((dat1 c W).before 0 t d))
      ∗ (∃ d, owns (c : Thread nD τ) ((cfg2.win 1).stage (cfg2.slots t 1)) fullShare ((dat1 c W).before 1 t d))
      ∗ (∃ d, owns (c : Thread nD τ) ((cfg2.win 2).stage (cfg2.slots t 2)) fullShare ((dat1 c W).before 2 t d))
      ∗ (∃ d, owns (c : Thread nD τ) ((cfg2.win 3).stage (cfg2.slots t 3)) fullShare ((dat1 c W).before 3 t d))
      ∗ (∃ d, owns (c : Thread nD τ) ((cfg2.win 4).stage (cfg2.slots t 4)) fullShare ((dat1 c W).before 4 t d)))
    ⊢ wp frame (wpE (defs₀ (F := F)) 𝒱₀ (c : Thread nD τ) none) Set.univ (cc2__merge_body (win2_0.stage (cfg2.slots t 0)) (hstage2_0 0) (win2_1.stage (cfg2.slots t 1)) (hstage2_1 0)
        (win2_2.stage (cfg2.slots t 2)) (hstage2_2 0) (win2_3.stage (cfg2.slots t 3)) (hstage2_3 0) (win2_4.stage (cfg2.slots t 4)) (hstage2_4 0)) fun _ =>
      iprop((dat1 c W).Φ t.castSucc ∗ (dat1 c W).owesAt none t.castSucc
        ∗ owns (c : Thread nD τ) ((cfg2.win 0).stage (cfg2.slots t 0)) fullShare (W (Proc.devRef .tc main_v6))
        ∗ owns (c : Thread nD τ) ((cfg2.win 1).stage (cfg2.slots t 1)) fullShare (W (Proc.devRef .tc main_v7))
        ∗ owns (c : Thread nD τ) ((cfg2.win 2).stage (cfg2.slots t 2)) fullShare (W (Proc.devRef .tc main_v3_0))
        ∗ owns (c : Thread nD τ) ((cfg2.win 3).stage (cfg2.slots t 3)) fullShare (W (Proc.devRef .tc main_v3_1))
        ∗ owns (c : Thread nD τ) ((cfg2.win 4).stage (cfg2.slots t 4)) fullShare (fun _ => merged W))
  iintro ⟨HΦ, HO, ⟨%d0, H0⟩, ⟨%d1, H1⟩, ⟨%d2, H2⟩, ⟨%d3, H3⟩, ⟨%d4, H4⟩⟩
  rw [merge0, merge1, merge2, merge3]
  iapply (MergeI.body_run c Set.univ (W (Proc.devRef .tc main_v6)) (W (Proc.devRef .tc main_v7)) (W (Proc.devRef .tc main_v3_0)) (W (Proc.devRef .tc main_v3_1))
    ((dat1 c W).before 4 t d4))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-! ## The regions -/

abbrev adm : (p : Fin 2) → (pcfgs (F := F) p).Adm := fun p => (cfgs p).toPCfg_adm

/-- Both pipelines' proof data, the buffers at entry `W₀` and `W₁`. -/
def dats (W₀ W₁ : Valuation τ sig (Elt F)) : (p : Fin 2) → (c : Dev nD) → Dat τ (Elt F) (HIx 1) ℕ UU ℕ (Pipeline.pin (pcfgs (F := F)) adm p) c
  | ⟨0, _⟩ => fun c => dat0 c W₀
  | ⟨1, _⟩ => fun c => dat1 c W₁

/-- The dense call's scratch: its two accumulators and the rest. -/
theorem scratch_eq : Pipeline.scopedRest (Ix := HIx 1) (Name := ℕ) (U := UU) (Lvl := ℕ) (Val := Elt F) spec0 c
    = iprop(((∃ f : Buf (Elt F) ((c : Thread nD τ).loc cc0_scratch0), ((c : Thread nD τ).loc cc0_scratch0 ↦{fullShare} f : sProp 𝕄))
        ∗ (∃ f : Buf (Elt F) ((c : Thread nD τ).loc cc0_scratch1), ((c : Thread nD τ).loc cc0_scratch1 ↦{fullShare} f : sProp 𝕄)))
      ∗ Pipeline.scopedRestBut (Ix := HIx 1) (Name := ℕ) (U := UU) (Lvl := ℕ) (Val := Elt F) spec0 c [cc0_scratch0, cc0_scratch1]) :=
  Pipeline.scopedRest_split_of_list spec0 c [cc0_scratch0, cc0_scratch1] (by decide) (by decide)

theorem hin0 : Pipeline.scopedRest (Ix := HIx 1) (Name := ℕ) (U := UU) (Lvl := ℕ) (Val := Elt F) spec0 c ⊢ Φ0 c W 0 := by
  rw [scratch_eq]
  iintro ⟨⟨⟨%f, Hf⟩, ⟨%g, Hg⟩⟩, Hr⟩
  unfold Φ0
  simp only [owns_whole_eq]
  iexists ((f, g) : Acc F)
  isplitr; · ipureintro; exact fun h => absurd h (lt_irrefl 0)
  isplitl [Hf]
  · iexists f
    isplitr; · ipureintro; rfl
    iexact Hf
  isplitl [Hg]
  · iexists g
    isplitr; · ipureintro; rfl
    iexact Hg
  iexact Hr

theorem hout0 : Φ0 c W (Fin.last cfg0.N) ⊢ Pipeline.scopedRest (Ix := HIx 1) (Name := ℕ) (U := UU) (Lvl := ℕ) (Val := Elt F) spec0 c := by
  rw [scratch_eq]
  unfold Φ0
  simp only [owns_whole_eq]
  iintro ⟨%acc, -, ⟨%f, -, Hf⟩, ⟨%g, -, Hg⟩, Hr⟩
  isplitl [Hf Hg]
  · isplitl [Hf]
    · iexists f; iexact Hf
    iexists g; iexact Hg
  iexact Hr

/-- The two pipelines' staging semaphores. -/
def table : Fin 2 → List (DmaSem sig)
  | ⟨0, _⟩ => [0, 1, 2, 3, 4]
  | ⟨1, _⟩ => [9, 10, 11, 12, 13]

theorem cells_inj : Function.Injective (cellOf (nD := nD) (τ := τ) cfgs) :=
  Pipeline.cellOf_injective_of_table cfgs table (by decide) (by decide) (by decide)

theorem kit0 : Pipeline.LaunchFacts (nD := nD) (τ := τ) cfgs 0 :=
  ⟨cells_inj, by decide, by decide,
    fun w => match w with | 0 | 1 | 2 | 3 => Memref.isWhole_whole _,
    fun w => match w with | 0 => fun s => hstage0_0 s | 1 => fun s => hstage0_1 s | 2 => fun s => hstage0_2 s | 3 => fun s => hstage0_3 s⟩
theorem kit1 : Pipeline.LaunchFacts (nD := nD) (τ := τ) cfgs 1 :=
  ⟨cells_inj, by decide, by decide,
    fun w => match w with | 0 | 1 | 2 | 3 | 4 => Memref.isWhole_whole _,
    fun w => match w with | 0 => fun _ => hstage2_0 0 | 1 => fun _ => hstage2_1 0 | 2 => fun _ => hstage2_2 0 | 3 => fun _ => hstage2_3 0 | 4 => fun _ => hstage2_4 0⟩

abbrev LL : GSem nD τ sig → Finset (HIx 1) := (K (F := F)).L
abbrev lv : GSem nD τ sig → HIx 1 → ℕ := (K (F := F)).lev

theorem cut (p : Fin 2) (n : ℕ) : Pipeline.LevelCut (pcfgs (F := F)) adm none (LL (F := F)) (lv (F := F)) p
    (fun c => (K (F := F)).Otc c n) (fun _ => 0) where
  hι _ _ _ := Finset.mem_univ _
  hιb _ _ _ := le_rfl
  hD _ _ _ h := ⟨Finset.mem_univ _, lt_of_lt_of_le (Nat.succ_pos _) (SparseCore.Cfg.lev_of_Otc_pos (K := K (F := F)) h)⟩

/-- The TensorCore's unscoped references. -/
def refs : Finset (DevRef τ sig) := (StableHlo.tcRefs τ sig).filter fun b => ¬ b.isScoped

theorem mem_refs (r : Ref sig .tc) (h : r.isScoped = false) : Proc.devRef .tc r ∈ refs := by
  unfold refs StableHlo.tcRefs
  rw [Finset.mem_filter]
  exact ⟨Finset.mem_map_of_mem _ (Finset.mem_univ _), by rw [Bool.not_eq_true]; exact h⟩

theorem sub0 : Pipeline.arrRefs (pcfgs (F := F) 0).spec ⊆ refs := by
  intro b hb
  obtain ⟨r, hr, rfl⟩ := Finset.mem_map.mp hb
  obtain ⟨w, -, rfl⟩ := Finset.mem_image.mp hr
  exact mem_refs _ ((by decide : ∀ w : Fin 4, (Pipeline.arrRef spec0 w).isScoped = false) w)
/-- Those the merging call may touch: not the slice nor the seed's vector the SparseCore call took. -/
def refs1 : Finset (DevRef τ sig) := refs \ {Proc.devRef .tc (main_v4 : Ref sig .tc), Proc.devRef .tc (main_v0 : Ref sig .tc)}

theorem mem_refs1 (r : Ref sig .tc) (h : r.isScoped = false) (h4 : r ≠ main_v4) (h0 : r ≠ main_v0) : Proc.devRef .tc r ∈ refs1 := by
  unfold refs1
  rw [Finset.mem_sdiff, Finset.mem_insert, Finset.mem_singleton]
  exact ⟨mem_refs r h, fun h => h.elim (fun h => h4 (Proc.devRef_injective _ h)) (fun h => h0 (Proc.devRef_injective _ h))⟩

theorem sub1 : Pipeline.arrRefs (pcfgs (F := F) 1).spec ⊆ refs1 := by
  intro b hb
  obtain ⟨r, hr, rfl⟩ := Finset.mem_map.mp hb
  obtain ⟨w, -, rfl⟩ := Finset.mem_image.mp hr
  have h := (by decide : ∀ w : Fin 5, (Pipeline.arrRef spec2 w).isScoped = false ∧ Pipeline.arrRef spec2 w ≠ main_v4 ∧ Pipeline.arrRef spec2 w ≠ main_v0) w
  exact mem_refs1 _ h.1 h.2.1 h.2.2

/-- The pipelines' own waits are at the lowest level. -/
theorem bound_rec (p : Fin 2) (n : Fin 2) : rec (F := F) c n ∪ (Pipeline.pin (pcfgs (F := F)) adm p).waitPairs none = rec (F := F) c n := by
  refine Set.union_eq_left.mpr ?_
  rintro _ ⟨w, s, rfl⟩
  exact Nat.zero_le _

variable (W₀ W₁ : Valuation τ sig (Elt F))

theorem share0 (w : Fin cfg0.W) : (dat0 c W).share w = fullShare := by
  unfold Dat.share
  split <;> rfl
theorem share1 (w : Fin cfg2.W) : (dat1 c W).share w = fullShare := by
  unfold Dat.share
  split <;> rfl

theorem hin1 (t : Fin (cfg2.N + 1)) : Pipeline.scopedRest (Ix := HIx 1) (Name := ℕ) (U := UU) (Lvl := ℕ) (Val := Elt F) spec2 c ⊢ (dat1 c W).Φ t := .rfl
theorem hout1 (t : Fin (cfg2.N + 1)) : (dat1 c W).Φ t ⊢ Pipeline.scopedRest (Ix := HIx 1) (Name := ℕ) (U := UU) (Lvl := ℕ) (Val := Elt F) spec2 c := .rfl

/-- The dense call's region. -/
def reg0 : Pipeline.RegionSeg (pcfgs (F := F)) adm (dats W₀ W₁) none defs₀ 𝒱₀ (LL (F := F)) (lv (F := F)) 0 :=
  Region.ofBuffers (pcfgs (F := F)) adm (dats W₀ W₁) none defs₀ 𝒱₀ (LL (F := F)) (lv (F := F)) 0 (fun c => (K (F := F)).Otc c 0)
    refs sub0 kit0.toP rfl (fun c => (body0 c W₀).loose) (fun _ _ => rfl) (fun c => rec (F := F) c 0) (fun c => bound_rec c 0 0) (fun c => bound_rec c 0 0)
    (fun c w => share0 c W₀ w) (fun c => hin0 c W₀) (fun c => hout0 c W₀) (fun _ => 0) (cut 0 0) (fun _ => W₀) (fun _ _ => rfl)

/-- The merging call's region. -/
def reg1 : Pipeline.RegionSeg (pcfgs (F := F)) adm (dats W₀ W₁) none defs₀ 𝒱₀ (LL (F := F)) (lv (F := F)) 1 :=
  Region.ofBuffers (pcfgs (F := F)) adm (dats W₀ W₁) none defs₀ 𝒱₀ (LL (F := F)) (lv (F := F)) 1 (fun c => (K (F := F)).Otc c 1)
    refs1 sub1 kit1.toP rfl (fun c => (body1 c W₁).loose) (fun _ _ => rfl) (fun c => rec (F := F) c 1) (fun c => bound_rec c 1 1) (fun c => bound_rec c 1 1)
    (fun c w => share1 c W₁ w) (fun c => hin1 c W₁ 0) (fun c => hout1 c W₁ _) (fun _ => 0) (cut 1 1) (fun _ => W₁) (fun _ _ => rfl)

end Cert.Proof.DatsI

end
-- ==== Proof.MainI.lean ====
/-
  @main on the TensorCore: the host operations, the dense call's region, the SparseCore call and the merging call's
  region; and the program's runs. Said of the
  idealised program, as Proof/Main.lean says it of the kernel.
-/
module

public import proofs.«01_k».proof.Proof.LaunchI
public import proofs.«01_k».proof.Proof.DatsI

@[expose] public section

noncomputable section

namespace Cert.Proof.TileI

open Cert.KernelIdeal Cert.KernelIdeal.Gen
open Cert.Proof.DatsI (dats dat0 dat1 reg0 reg1 refs refs1 rec LL lv adm cells_inj)

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Pipeline (cellsGhost toksInit afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

def u₀ : UU := (initOf (K (F := F)).hsCells (K (F := F)).hsToks, (initOf (Pipeline.cells cfgs cells_inj) (Pipeline.launchToks cfgs cells_inj), 1))

/-- What the launch gives a device for its pipelines. -/
abbrev GG (d : Dev nD) : sProp 𝕄 :=
  iprop((bigSep Finset.univ fun p : Fin 2 => cellsGhost (Pipeline.pin (pcfgs (F := F)) adm) (EP (F := F)) p d)
    ∗ bigSep Finset.univ fun p : Fin 2 => toksInit (Pipeline.pin (pcfgs (F := F)) adm) (EP (F := F)) p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells cfgs cells_inj) (Pipeline.launchToks cfgs cells_inj), 1) : UP × Counters)) $$ Hu
  icases H with ⟨HH, HP⟩
  ihave HP := (show (BI.own (embR ((initOf (Pipeline.cells cfgs cells_inj) (Pipeline.launchToks cfgs cells_inj), 1) : UP × Counters)) : sProp 𝕄)
    ⊢ BI.own (EP (F := F) (initOf (Pipeline.cells (Pipeline.pin (pcfgs (F := F)) adm) cells_inj) (Pipeline.launchToks (Pipeline.pin (pcfgs (F := F)) adm) cells_inj))) from .rfl) $$ HP
  imod (Pipeline.fund_ghost (Pipeline.pin (pcfgs (F := F)) adm) (EP (F := F)) cells_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The regions in @main -/

variable [∀ e, Nonempty (Elt F e)]

omit [∀ e, Nonempty (Elt F e)] in
theorem reg0_pre (d : Dev nD) (W₀ W₁ : Valuation τ sig (Elt F)) :
    (reg0 W₀ W₁).pre d = iprop(held (T d) refs W₀ ∗ Region.owesIn d ((K (F := F)).Otc d 0) (rec (F := F) d 0)) := rfl
omit [∀ e, Nonempty (Elt F e)] in
theorem reg0_post (d : Dev nD) (W₀ W₁ : Valuation τ sig (Elt F)) :
    (reg0 W₀ W₁).post d = iprop(held (T d) refs (afterRegion (dat0 d W₀) W₀) ∗ Region.owesIn d ((K (F := F)).Otc d 0) (rec (F := F) d 0)) := rfl

theorem wp_dense (d : Dev nD) (W₀ W₁ : Valuation τ sig (Elt F)) (Q : PUnit → sProp 𝕄) :
    iprop((iprop(boundary (T d) ∗ held (T d) refs (afterRegion (dat0 d W₀) W₀) ∗ Region.owesIn d ((K (F := F)).Otc d 0) (rec (F := F) d 0)) -∗ Q ⟨⟩)
        ∗ boundary (T d) ∗ (held (T d) refs W₀ ∗ Region.owesIn d ((K (F := F)).Otc d 0) (rec (F := F) d 0)) ∗ levAts (LL (F := F)) (lv (F := F))
        ∗ cellsGhost (Pipeline.pin (pcfgs (F := F)) adm) (EP (F := F)) 0 d ∗ toksInit (Pipeline.pin (pcfgs (F := F)) adm) (EP (F := F)) 0 d)
      ⊢ wp frame (wpE ((K (F := F)).defs (D (F := F))) 𝒱 (T d) none) Set.univ
          (Prog.lift (.customCall (SparseCore.inner (Pipeline.entry (0 : Fin 2))) ())) Q := by
  have h₀ := (K (F := F)).wp_liftProg (D (F := F)) 𝒱 (SparseCore.T d) Set.univ none
    (.op (.customCall (Pipeline.entry (0 : Fin 2)) ()) fun _ => .ret ⟨⟩ : Prog (TpuEff nD τ sig (Elt F) (ΛP (F := F)) .tc) PUnit) Q
  have h := Pipeline.RegionSeg.wp (pcfgs (F := F)) adm (dats W₀ W₁) none cells_inj (EP (F := F)) defs₀ 𝒱₀ (LL (F := F)) (lv (F := F))
    (reg0 W₀ W₁) d none (fun u hu => by cases hu) (fun _ => (.ret ⟨⟩ : Prog (TpuEff nD τ sig (Elt F) (ΛP (F := F)) .tc) PUnit)) Q
  rw [reg0_pre, reg0_post] at h
  refine BIBase.Entails.trans ?_ h₀
  refine BIBase.Entails.trans ?_ h
  iintro ⟨HQ, Hb, Hp, Hl, Hg, Ht⟩
  isplitl [HQ]
  · iintro ⟨Hb, Hp⟩
    rw [wp_ret]
    imodintro
    iapply HQ
    isplitl [Hb]; · iexact Hb
    iexact Hp
  isplitl [Hb]; · iexact Hb
  isplitl [Hp]; · iexact Hp
  isplitl [Hl]; · iexact Hl
  isplitl [Hg]; · iexact Hg
  iexact Ht

omit [∀ e, Nonempty (Elt F e)] in
theorem reg1_pre (d : Dev nD) (W₀ W₁ : Valuation τ sig (Elt F)) :
    (reg1 W₀ W₁).pre d = iprop(held (T d) refs1 W₁ ∗ Region.owesIn d ((K (F := F)).Otc d 1) (rec (F := F) d 1)) := rfl
omit [∀ e, Nonempty (Elt F e)] in
theorem reg1_post (d : Dev nD) (W₀ W₁ : Valuation τ sig (Elt F)) :
    (reg1 W₀ W₁).post d = iprop(held (T d) refs1 (afterRegion (dat1 d W₁) W₁) ∗ Region.owesIn d ((K (F := F)).Otc d 1) (rec (F := F) d 1)) := rfl

theorem wp_merge (d : Dev nD) (W₀ W₁ : Valuation τ sig (Elt F)) (Q : PUnit → sProp 𝕄) :
    iprop((iprop(boundary (T d) ∗ held (T d) refs1 (afterRegion (dat1 d W₁) W₁) ∗ Region.owesIn d ((K (F := F)).Otc d 1) (rec (F := F) d 1)) -∗ Q ⟨⟩)
        ∗ boundary (T d) ∗ (held (T d) refs1 W₁ ∗ Region.owesIn d ((K (F := F)).Otc d 1) (rec (F := F) d 1)) ∗ levAts (LL (F := F)) (lv (F := F))
        ∗ cellsGhost (Pipeline.pin (pcfgs (F := F)) adm) (EP (F := F)) 1 d ∗ toksInit (Pipeline.pin (pcfgs (F := F)) adm) (EP (F := F)) 1 d)
      ⊢ wp frame (wpE ((K (F := F)).defs (D (F := F))) 𝒱 (T d) none) Set.univ
          (Prog.lift (.customCall (SparseCore.inner (Pipeline.entry (1 : Fin 2))) ())) Q := by
  have h₀ := (K (F := F)).wp_liftProg (D (F := F)) 𝒱 (SparseCore.T d) Set.univ none
    (.op (.customCall (Pipeline.entry (1 : Fin 2)) ()) fun _ => .ret ⟨⟩ : Prog (TpuEff nD τ sig (Elt F) (ΛP (F := F)) .tc) PUnit) Q
  have h := Pipeline.RegionSeg.wp (pcfgs (F := F)) adm (dats W₀ W₁) none cells_inj (EP (F := F)) defs₀ 𝒱₀ (LL (F := F)) (lv (F := F))
    (reg1 W₀ W₁) d none (fun u hu => by cases hu) (fun _ => (.ret ⟨⟩ : Prog (TpuEff nD τ sig (Elt F) (ΛP (F := F)) .tc) PUnit)) Q
  rw [reg1_pre, reg1_post] at h
  refine BIBase.Entails.trans ?_ h₀
  refine BIBase.Entails.trans ?_ h
  iintro ⟨HQ, Hb, Hp, Hl, Hg, Ht⟩
  isplitl [HQ]
  · iintro ⟨Hb, Hp⟩
    rw [wp_ret]
    imodintro
    iapply HQ
    isplitl [Hb]; · iexact Hb
    iexact Hp
  isplitl [Hb]; · iexact Hb
  isplitl [Hp]; · iexact Hp
  isplitl [Hl]; · iexact Hl
  isplitl [Hg]; · iexact Hg
  iexact Ht

/-! ## @main on the TensorCore -/

abbrev a' : DevRef τ sig := Proc.devRef .tc (main_arg0 : Ref sig .tc)
abbrev g' : DevRef τ sig := Proc.devRef .tc (main_arg1 : Ref sig .tc)
abbrev s' : DevRef τ sig := Proc.devRef .tc (main_v0 : Ref sig .tc)
abbrev x' : DevRef τ sig := Proc.devRef .tc (main_v4 : Ref sig .tc)
abbrev w' : DevRef τ sig := Proc.devRef .tc (main_v5_0 : Ref sig .tc)
abbrev i' : DevRef τ sig := Proc.devRef .tc (main_v5_1 : Ref sig .tc)
abbrev o' : DevRef τ sig := Proc.devRef .tc (main_v9 : Ref sig .tc)

/-! The host operations. -/

abbrev op0 : HloOp τ sig (Elt F) :=
  StableHlo.unary main_arg1 main_v0 (broadcastInDim S16 ![] bcast_S_S16 : (⟨S_, .i32⟩ : BufTy).Contents (Elt F) → (⟨S16, .i32⟩ : BufTy).Contents (Elt F))
abbrev op1 : HloOp τ sig (Elt F) :=
  StableHlo.unary main_arg0 main_v1 ((extractStridedSlice S774144 ![0] · slices_S1000000_S774144_0) :
    (⟨S1000000, .f32⟩ : BufTy).Contents (Elt F) → (⟨S774144, .f32⟩ : BufTy).Contents (Elt F))
abbrev op2 : HloOp τ sig (Elt F) := StableHlo.reshape main_v1 main_v2 (rfl : (.f32 : EltTy) = .f32) shapeCasts_S774144_S756x8x128
abbrev op4 : HloOp τ sig (Elt F) :=
  StableHlo.unary main_arg0 main_v4 ((extractStridedSlice S233472 ![766528] · slices_S1000000_S233472_766528) :
    (⟨S1000000, .f32⟩ : BufTy).Contents (Elt F) → (⟨S233472, .f32⟩ : BufTy).Contents (Elt F))
abbrev op6 : HloOp τ sig (Elt F) := StableHlo.reshape main_v5_0 main_v6 (rfl : (.f32 : EltTy) = .f32) shapeCasts_S512_S4x128
abbrev op7 : HloOp τ sig (Elt F) := StableHlo.reshape main_v5_1 main_v7 (rfl : (.i32 : EltTy) = .i32) shapeCasts_S512_S4x128
abbrev op9 : HloOp τ sig (Elt F) := StableHlo.reshape main_v8 main_v9 (rfl : (.i32 : EltTy) = .i32) shapeCasts_S1x1_S_

/-- The buffers at launch, before the dense call, -/
def V0 (d : Dev nD) : Valuation τ sig (Elt F) := fun b => m (d, b)
def V2 (d : Dev nD) : Valuation τ sig (Elt F) := (op2 (F := F)).result ((op1 (F := F)).result ((op0 (F := F)).result (V0 m d)))
/-- after it, before the SparseCore call, -/
def V3 (d : Dev nD) : Valuation τ sig (Elt F) := afterRegion (dat0 d (V2 m d)) (V2 m d)
def V4 (d : Dev nD) : Valuation τ sig (Elt F) := (op4 (F := F)).result (V3 m d)
/-- after it, before the merging call, -/
def V5 (d : Dev nD) : Valuation τ sig (Elt F) := Function.update (Function.update (V4 m d) w' (WOut m d)) i' (IOut m d)
def V7 (d : Dev nD) : Valuation τ sig (Elt F) := (op7 (F := F)).result ((op6 (F := F)).result (V5 m d))
/-- after it, and at the end. -/
def V8 (d : Dev nD) : Valuation τ sig (Elt F) := afterRegion (dat1 d (V7 m d)) (V7 m d)
def V9 (d : Dev nD) : Valuation τ sig (Elt F) := (op9 (F := F)).result (V8 m d)

omit [∀ e, Nonempty (Elt F e)] in
theorem unscoped_held (d : Dev nD) : (unscopedBufs d (fun b => m ((SparseCore.T d).loc b)) : sProp 𝕄) = held (T d) refs (V0 m d) := by
  unfold unscopedBufs held refs StableHlo.tcRefs
  rw [Finset.filter_map, bigSep_map]
  rfl

/-- A unary host operation's buffers are among the unscoped ones. -/
theorem sub_refs (a b : Ref sig .tc) (ha : a.isScoped = false) (hb : b.isScoped = false) :
    ({Proc.devRef .tc a, Proc.devRef .tc b} : Finset (DevRef τ sig)) ⊆ refs := by
  intro r hr
  rw [Finset.mem_insert, Finset.mem_singleton] at hr
  rcases hr with rfl | rfl
  · exact DatsI.mem_refs _ ha
  · exact DatsI.mem_refs _ hb

theorem sub_refs1 (a b : Ref sig .tc) (ha : a.isScoped = false ∧ a ≠ main_v4 ∧ a ≠ main_v0) (hb : b.isScoped = false ∧ b ≠ main_v4 ∧ b ≠ main_v0) :
    ({Proc.devRef .tc a, Proc.devRef .tc b} : Finset (DevRef τ sig)) ⊆ refs1 := by
  intro r hr
  rw [Finset.mem_insert, Finset.mem_singleton] at hr
  rcases hr with rfl | rfl
  · exact DatsI.mem_refs1 _ ha.1 ha.2.1 ha.2.2
  · exact DatsI.mem_refs1 _ hb.1 hb.2.1 hb.2.2

omit [∀ e, Nonempty (Elt F e)] in
/-- What the TensorCore owes, taken out of its state between calls and put back. -/
theorem tcSt_open (d : Dev nD) (n : Fin 2) :
    (K (F := F)).tcSt (EH (F := F)) d n.val ⊢ iprop(Region.owesIn d ((K (F := F)).Otc d n.val) (rec (F := F) d n)
      ∗ (Region.owesIn d ((K (F := F)).Otc d n.val) (rec (F := F) d n) -∗ (K (F := F)).tcSt (EH (F := F)) d n.val)) := by
  unfold SparseCore.Cfg.tcSt
  iintro ⟨⟨%W, %hW, HO⟩, Hr⟩
  isplitl [HO]
  · iexists W
    isplitr; · ipureintro; exact fun p hp => hW p hp
    iexact HO
  iintro ⟨%W, %hW, HO⟩
  isplitl [HO]
  · iexists W
    isplitr; · ipureintro; exact fun p hp => hW hp
    iexact HO
  iexact Hr

omit [∀ e, Nonempty (Elt F e)] in
theorem tcSt_open0 (d : Dev nD) :
    (K (F := F)).tcSt (EH (F := F)) d 0 ⊢ iprop(Region.owesIn d ((K (F := F)).Otc d 0) (rec (F := F) d 0)
      ∗ (Region.owesIn d ((K (F := F)).Otc d 0) (rec (F := F) d 0) -∗ (K (F := F)).tcSt (EH (F := F)) d 0)) := tcSt_open d 0
omit [∀ e, Nonempty (Elt F e)] in
theorem tcSt_open1 (d : Dev nD) :
    (K (F := F)).tcSt (EH (F := F)) d 1 ⊢ iprop(Region.owesIn d ((K (F := F)).Otc d 1) (rec (F := F) d 1)
      ∗ (Region.owesIn d ((K (F := F)).Otc d 1) (rec (F := F) d 1) -∗ (K (F := F)).tcSt (EH (F := F)) d 1)) := tcSt_open d 1

omit [∀ e, Nonempty (Elt F e)] in
theorem V2_keep (d : Dev nD) {r : Ref sig .tc} (h₀ : r ≠ main_v0) (h₁ : r ≠ main_v1) (h₂ : r ≠ main_v2) :
    V2 m d (Proc.devRef .tc r) = m (d, Proc.devRef .tc r) := by
  unfold V2
  rw [StableHlo.reshape_result_ne _ _ _ _ _ _ _ h₂, StableHlo.unary_result_ne _ _ _ _ _ _ h₁, StableHlo.unary_result_ne _ _ _ _ _ _ h₀]; rfl

omit [∀ e, Nonempty (Elt F e)] in
theorem V2_s (d : Dev nD) : V2 m d s' = SV m d := by
  unfold V2
  rw [StableHlo.reshape_result_ne _ _ _ _ _ _ _ (show main_v0 ≠ main_v2 by decide), StableHlo.unary_result_ne _ _ _ _ _ _ (show main_v0 ≠ main_v1 by decide)]
  exact StableHlo.unary_result _ _ _ _ _ _

omit [∀ e, Nonempty (Elt F e)] in
/-- The dense call writes its two results only. -/
theorem V3_keep (d : Dev nD) (r : Ref sig .tc) (h : ∀ w, Pipeline.arrRef cfg0.spec w = r → (cfg0.win w).isOut = false) :
    V3 m d (Proc.devRef .tc r) = V2 m d (Proc.devRef .tc r) :=
  Pipeline.afterRegion_keeps (dat0 d (V2 m d)) (V2 m d) (DatsI.kit0.win.arr_inj) (fun _ => rfl) r h

omit [∀ e, Nonempty (Elt F e)] in
theorem V4_keep (d : Dev nD) {r : Ref sig .tc} (h₀ : r ≠ main_v4) : V4 m d (Proc.devRef .tc r) = V3 m d (Proc.devRef .tc r) := by
  unfold V4
  rw [StableHlo.unary_result_ne _ _ _ _ _ _ h₀]

omit [∀ e, Nonempty (Elt F e)] in
theorem V4_x (d : Dev nD) : V4 m d x' = XV m d := by
  unfold V4
  refine (StableHlo.unary_result _ _ _ _ _ _).trans ?_
  rw [V3_keep m d main_arg0 (by decide), V2_keep m d (by decide) (by decide) (by decide)]; rfl

omit [∀ e, Nonempty (Elt F e)] in
theorem V4_s (d : Dev nD) : V4 m d s' = SV m d := by
  rw [V4_keep m d (by decide), V3_keep m d main_v0 (by decide), V2_s]

omit [∀ e, Nonempty (Elt F e)] in
theorem V4_w (d : Dev nD) : V4 m d w' = m (wLoc d) := by
  rw [V4_keep m d (by decide), V3_keep m d main_v5_0 (by decide), V2_keep m d (by decide) (by decide) (by decide)]
omit [∀ e, Nonempty (Elt F e)] in
theorem V4_i (d : Dev nD) : V4 m d i' = m (iLoc d) := by
  rw [V4_keep m d (by decide), V3_keep m d main_v5_1 (by decide), V2_keep m d (by decide) (by decide) (by decide)]

/-- The arrays the SparseCore call takes, -/
abbrev taken : Finset (DevRef τ sig) := {x', s', w', i'}
/-- and those it fills. -/
abbrev filled : Finset (DevRef τ sig) := {w', i'}

theorem taken_sub : taken ⊆ refs := by
  intro r hr
  simp only [taken, Finset.mem_insert, Finset.mem_singleton] at hr
  rcases hr with rfl | rfl | rfl | rfl <;> exact DatsI.mem_refs _ (by decide)

theorem filled_sub : filled ⊆ refs1 := sub_refs1 main_v5_0 main_v5_1 (by decide) (by decide)

theorem rest_eq : refs1 \ filled = refs \ taken := by
  unfold refs1
  ext r
  simp only [Finset.mem_sdiff, Finset.mem_insert, Finset.mem_singleton, taken, filled]
  tauto

omit [∀ e, Nonempty (Elt F e)] in
/-- The buffers before the SparseCore call: those it takes, and the rest. -/
theorem held_V4 (d : Dev nD) :
    (held (T d) refs (V4 m d) : sProp 𝕄)
      = iprop(((xLoc d ↦{fullShare} XV m d) ∗ (sLoc d ↦{fullShare} SV m d) ∗ (wLoc d ↦{fullShare} m (wLoc d)) ∗ iLoc d ↦{fullShare} m (iLoc d))
          ∗ held (T d) (refs \ taken) (V4 m d)) := by
  rw [StableHlo.held_sub_split (T d) taken_sub (V4 m d)]
  congr 1
  unfold held taken
  rw [SparseCore.bigSep_insert' (by decide), SparseCore.bigSep_insert' (by decide), SparseCore.bigSep_insert' (by decide), bigSep_singleton,
    V4_x, V4_s, V4_w, V4_i]

omit [∀ e, Nonempty (Elt F e)] in
theorem V5_w (d : Dev nD) : V5 m d w' = WOut m d := by
  unfold V5
  rw [Function.update_of_ne (by decide), Function.update_self]
omit [∀ e, Nonempty (Elt F e)] in
theorem V5_i (d : Dev nD) : V5 m d i' = IOut m d := by
  unfold V5
  rw [Function.update_self]
omit [∀ e, Nonempty (Elt F e)] in
theorem V5_keep (d : Dev nD) (r : DevRef τ sig) (hw : r ≠ w') (hi : r ≠ i') : V5 m d r = V4 m d r := by
  unfold V5
  rw [Function.update_of_ne hi, Function.update_of_ne hw]

omit [∀ e, Nonempty (Elt F e)] in
/-- The buffers after it. -/
theorem held_V5 (d : Dev nD) :
    (held (T d) refs1 (V5 m d) : sProp 𝕄)
      = iprop(((wLoc d ↦{fullShare} WOut m d) ∗ iLoc d ↦{fullShare} IOut m d) ∗ held (T d) (refs \ taken) (V4 m d)) := by
  rw [StableHlo.held_sub_split (T d) filled_sub (V5 m d), rest_eq,
    StableHlo.held_congr (T d) (S := refs \ taken) (V := V5 m d) (V' := V4 m d) fun r hr => V5_keep m d r
      (fun h => (Finset.mem_sdiff.mp hr).2 (by subst h; decide)) (fun h => (Finset.mem_sdiff.mp hr).2 (by subst h; decide))]
  congr 1
  unfold held filled
  rw [SparseCore.bigSep_insert' (by decide), bigSep_singleton, V5_w, V5_i]

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ held (T d) refs1 (V9 m d) ∗ (K (F := F)).tcEnd d) := by
  unfold SparseCore.Cfg.tcRes SparseCore.Cfg.tcEnd GG
  rw [unscoped_held]
  simp only [main, wp_bind, wp_pure]
  rw [show (Finset.univ : Finset (Fin 2)) = {0, 1} by decide, SparseCore.bigSep_insert' (by decide), SparseCore.bigSep_insert' (by decide), bigSep_singleton, bigSep_singleton]
  iintro ⟨#Hctx, Hst, ⟨Hb, Hheld, Hts, -⟩, ⟨Hg0, Hg1⟩, ⟨Ht0, Ht1⟩⟩
  iapply (wp_hlo_within 𝒱 (SparseCore.T d) none Set.univ (op := op0) (S := refs) (sub_refs main_arg1 main_v0 (by decide) (by decide)) (V := V0 m d)) $$ [Hb Hheld]
  · isplitl [Hb] <;> iassumption
  iintro ⟨Hb, Hheld⟩
  rw [wp_ret]; imodintro
  iapply (wp_hlo_within 𝒱 (SparseCore.T d) none Set.univ (op := op1) (S := refs) (sub_refs main_arg0 main_v1 (by decide) (by decide)) (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := refs) (sub_refs main_v1 main_v2 (by decide) (by decide)) (V := (op1 (F := F)).result ((op0 (F := F)).result (V0 m d)))) $$ [Hb Hheld]
  · isplitl [Hb] <;> iassumption
  iintro ⟨Hb, Hheld⟩
  rw [wp_ret]; imodintro
  ihave Ho := (tcSt_open0 (F := F) d) $$ Hst
  icases Ho with ⟨HO, Hst⟩
  ihave Hl := ((K (F := F)).ctx_levAts (EH := EH) (P := P m) κ) $$ Hctx
  iapply (wp_dense d (V2 m d) (V2 m d))
  isplitr [Hb Hheld HO Hl Hg0 Ht0]
  rotate_left
  · isplitl [Hb]; · iexact Hb
    isplitl [Hheld HO]
    · isplitl [Hheld]; · iexact Hheld
      iexact HO
    isplitl [Hl]; · iexact Hl
    isplitl [Hg0]; · iexact Hg0
    iexact Ht0
  iintro ⟨Hb, Hheld, HO⟩
  ihave Hst := Hst $$ HO
  iapply (wp_hlo_within 𝒱 (SparseCore.T d) none Set.univ (op := op4) (S := refs) (sub_refs main_arg0 main_v4 (by decide) (by decide)) (V := V3 m d)) $$ [Hb Hheld]
  · isplitl [Hb]; · iassumption
    iexact Hheld
  iintro ⟨Hb, Hheld⟩
  rw [wp_ret]; imodintro
  ihave Hh := (show held (SparseCore.T d) refs ((op4 (F := F)).result (V3 m d)) ⊢ _ from Entails.of_eq (held_V4 (F := F) m d)) $$ Hheld
  icases Hh with ⟨⟨Hx, Hs, Hw, Hi⟩, Hrest⟩
  ihave Hs' := (Transfers.pointsTo_toks_split (ℓ := sLoc d) fullShare 32) $$ Hs
  icases Hs' with ⟨-, Hs⟩
  iapply ((K (F := F)).wp_run (D (F := F)) 𝒱 (EH := EH) (P := P m) κ d 0) $$ [Hst Hx Hs Hw Hi Hrest Hg1 Ht1 Hb Hts]
  isplitr; · iexact Hctx
  isplitl [Hst]; · iexact Hst
  isplitl [Hx Hs Hw Hi]
  · rw [st0_eq]
    isplitl [Hx]; · iexact Hx
    isplitl [Hs]; · iexact Hs
    isplitl [Hw]; · iexact Hw
    iexact Hi
  iintro ⟨Hst, Hdn⟩
  ihave Hdn' := (Entails.of_eq (dn0_eq m d)) $$ Hdn
  icases Hdn' with ⟨-, -, Hw, Hi⟩
  ihave Hheld := (Entails.of_eq (held_V5 (F := F) m d).symm) $$ [Hw Hi Hrest]
  · isplitl [Hw Hi]
    · isplitl [Hw]; · iexact Hw
      iexact Hi
    iexact Hrest
  iapply (wp_hlo_within 𝒱 (SparseCore.T d) none Set.univ (op := op6) (S := refs1) (sub_refs1 main_v5_0 main_v6 (by decide) (by decide)) (V := V5 m d)) $$ [Hb Hheld]
  · isplitl [Hb] <;> iassumption
  iintro ⟨Hb, Hheld⟩
  rw [wp_ret]; imodintro
  iapply (wp_hlo_within 𝒱 (SparseCore.T d) none Set.univ (op := op7) (S := refs1) (sub_refs1 main_v5_1 main_v7 (by decide) (by decide)) (V := (op6 (F := F)).result (V5 m d))) $$ [Hb Hheld]
  · isplitl [Hb] <;> iassumption
  iintro ⟨Hb, Hheld⟩
  rw [wp_ret]; imodintro
  ihave Ho := (show (K (F := F)).tcSt (EH (F := F)) d ((0 : Fin 1).val + 1) ⊢ _ from tcSt_open1 (F := F) d) $$ Hst
  icases Ho with ⟨HO, Hst⟩
  ihave Hl := ((K (F := F)).ctx_levAts (EH := EH) (P := P m) κ) $$ Hctx
  iapply (wp_merge d (V7 m d) (V7 m d))
  isplitr [Hb Hheld HO Hl Hg1 Ht1]
  rotate_left
  · isplitl [Hb]; · iexact Hb
    isplitl [Hheld HO]
    · isplitl [Hheld]; · iexact Hheld
      iexact HO
    isplitl [Hl]; · iexact Hl
    isplitl [Hg1]; · iexact Hg1
    iexact Ht1
  iintro ⟨Hb, Hheld, HO⟩
  ihave Hst := Hst $$ HO
  iapply (wp_hlo_within 𝒱 (SparseCore.T d) none Set.univ (op := op9) (S := refs1) (sub_refs1 main_v8 main_v9 (by decide) (by decide)) (V := V8 m d)) $$ [Hb Hheld]
  · isplitl [Hb]; · iassumption
    iexact Hheld
  iintro ⟨Hb, Hheld⟩
  rw [wp_ret]; imodintro
  imodintro
  isplitl [Hst]; · iexact Hst
  isplitl [Hheld]; · iexact Hheld
  isplitl [Hb] <;> iassumption

/-! ## The launch -/

omit [∀ e, Nonempty (Elt F e)] in
theorem mem_V9 {r : Ref sig .tc} (hs : r.isScoped = false) (h4 : r ≠ main_v4) (h0 : r ≠ main_v0) :
    Proc.devRef .tc r ∈ refs1 := DatsI.mem_refs1 _ hs h4 h0

/-- What the end states: the arguments are as they were, and the buffers hold what the last step left. -/
def Ends (d : Dev nD) (M : (ℓ : Loc nD τ sig) → Buf (Elt F) ℓ) : Prop :=
  ∀ r ∈ refs1, M (d, r) = V9 m d r

omit [∀ e, Nonempty (Elt F e)] in
theorem hfin_at (d : Dev nD) (σ : Phys nD τ sig (Elt F)) (r : DevRef τ sig) (hr : r ∈ refs1) :
    iprop(held (T d) refs1 (V9 m d) ∗ SI σ) ⊢ (⌜σ.mem.mem (d, r) = V9 m d r⌝ : sProp 𝕄) := by
  rw [StableHlo.held_sub_split (T d) (Finset.singleton_subset_iff.mpr hr) (V9 m d)]
  unfold held
  rw [bigSep_singleton]
  iintro ⟨⟨Ha, -⟩, HSI⟩
  ihave H := (SI_pointsTo_agree (st := σ) (ℓ := ((d, r) : Loc nD τ sig)) (I := Finset.univ) (q := fullShare) (f := V9 m d r)) $$ [HSI Ha]
  · isplitl [HSI] <;> iassumption
  icases H with %h
  ipureintro
  exact funext fun i => h i (Finset.mem_univ i)

omit [∀ e, Nonempty (Elt F e)] in
theorem hfin (d : Dev nD) (σ : Phys nD τ sig (Elt F)) :
    iprop(held (T d) refs1 (V9 m d) ∗ SI σ) ⊢ (⌜Ends m d σ.mem.mem⌝ : sProp 𝕄) := by
  intro x hx
  exact fun r hr => hfin_at m d σ r hr x hx

/-- A buffer no operation writes is at the end as it was. -/
theorem V9_keep (d : Dev nD) (r : Ref sig .tc) (h₀ : r ≠ main_v0) (h₁ : r ≠ main_v1) (h₂ : r ≠ main_v2) (h₃ : ∀ w, Pipeline.arrRef cfg0.spec w = r → (cfg0.win w).isOut = false)
    (h₄ : r ≠ main_v4) (hw : Proc.devRef .tc r ≠ w') (hi : Proc.devRef .tc r ≠ i') (h₆ : r ≠ main_v6) (h₇ : r ≠ main_v7)
    (h₈ : ∀ w, Pipeline.arrRef cfg2.spec w = r → (cfg2.win w).isOut = false) (h₉ : r ≠ main_v9) :
    V9 m d (Proc.devRef .tc r) = m (d, Proc.devRef .tc r) := by
  unfold V9
  rw [StableHlo.reshape_result_ne _ _ _ _ _ _ _ h₉]
  refine (Pipeline.afterRegion_keeps (dat1 d (V7 m d)) (V7 m d) (DatsI.kit1.win.arr_inj) (fun _ => rfl) r h₈).trans ?_
  unfold V7
  rw [StableHlo.reshape_result_ne _ _ _ _ _ _ _ h₇, StableHlo.reshape_result_ne _ _ _ _ _ _ _ h₆, V5_keep m d _ hw hi,
    V4_keep m d h₄, V3_keep m d r h₃, V2_keep m d h₀ h₁ h₂]

/-- The arguments, at the end. -/
theorem Ends.args {d : Dev nD} {M : (ℓ : Loc nD τ sig) → Buf (Elt F) ℓ} (h : Ends m d M) : M (aLoc d) = m (aLoc d) ∧ M (gLoc d) = m (gLoc d) :=
  ⟨(h a' (mem_V9 (r := main_arg0) (by decide) (by decide) (by decide))).trans (V9_keep m d main_arg0 (by decide) (by decide) (by decide) (by decide) (by decide) (by decide) (by decide) (by decide) (by decide) (by decide) (by decide)),
    (h g' (mem_V9 (r := main_arg1) (by decide) (by decide) (by decide))).trans (V9_keep m d main_arg1 (by decide) (by decide) (by decide) (by decide) (by decide) (by decide) (by decide) (by decide) (by decide) (by decide) (by decide))⟩

/-- The result, at the end. -/
theorem Ends.result {d : Dev nD} {M : (ℓ : Loc nD τ sig) → Buf (Elt F) ℓ} (h : Ends m d M) : M (d, o') = V9 m d o' :=
  h o' (mem_V9 (r := main_v9) (by decide) (by decide) (by decide))

theorem run_main : θ_run (Cert.KernelIdeal.defs (F := F)) (Cert.KernelIdeal.threads (F := F)) ⟨m, fun _ => 0, ρ⟩
    (fun r => (∀ d : Dev nD, Ends m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main GG (fun d => held (T d) refs1 (V9 m d)) (u₀ (F := F)) (sep_elim_left.trans (hu₀ m)) (hmain m ρ) (fun d σ => Ends m d σ.mem.mem) (hfin m)
    (fun r => (∀ d : Dev nD, Ends m d r.2.mem) ∧ r.2.sem = fun _ => 0) (fun _ h hz => ⟨h, hz⟩)

end Cert.Proof.TileI

end
-- ==== Proof.Final.lean ====
/-
  What the three calls of the kernel hand to each other, and its result: the merging call's number, from the SparseCore call's
  two results and the dense call's two.
-/
module

public import Idealize.ShloMosaic.Lib.Pipeline.ValueKit.Geometry
public import proofs.«01_k».proof.Proof.MainI
public import proofs.«01_k».proof.Proof.Cells

@[expose] public section

noncomputable section

namespace Cert.Proof.TileI

open Cert.KernelIdeal Cert.KernelIdeal.Gen
open Idealize.ShloMosaic Idealize.ShloMosaic.TcCoe Idealize.SL.Sem
open Idealize.ShloMosaic.Pipeline (afterRegion afterRegion_arr)
open Cert.Proof.DatsI (dat0 dat1)

variable {F : FTy → Type} [FloatOps F] [∀ e, Nonempty (Elt F e)]
variable (m : (ℓ : Loc nD τ sig) → Buf (Elt F) ℓ) (d : Dev nD)

/-- The dense call's running minimum, at its end. -/
abbrev dense : RowsI.Acc F := DatsI.accAt (V2 m d) 7

omit [∀ e, Nonempty (Elt F e)] in
set_option backward.isDefEq.respectTransparency.types false in
theorem V3_w : V3 m d (Proc.devRef .tc main_v3_0) = (dense m d).1 := by
  refine (afterRegion_arr (dat0 d (V2 m d)) (V2 m d) DatsI.kit0.win.arr_inj 2).trans ?_
  refine (dat0 d (V2 m d)).arrAt_eq_of_covers 2 _ (by decide +kernel) fun t ht y => ?_
  have h6 : t.val = 6 := by rw [DatsI.flush_iff2 t] at ht; exact of_decide_eq_true ht
  obtain rfl : t = (⟨6, by decide⟩ : Fin cfg0.N) := Fin.ext h6
  refine congrArg (dense m d).1 (funext fun a => Fin.ext ?_)
  match a with
  | 0 => show (y 0).val = 0 + 1 * (y 0).val; omega
  | 1 => show (y 1).val = 0 + 1 * (y 1).val; omega

omit [∀ e, Nonempty (Elt F e)] in
set_option backward.isDefEq.respectTransparency.types false in
theorem V3_i : V3 m d (Proc.devRef .tc main_v3_1) = (dense m d).2 := by
  refine (afterRegion_arr (dat0 d (V2 m d)) (V2 m d) DatsI.kit0.win.arr_inj 3).trans ?_
  refine (dat0 d (V2 m d)).arrAt_eq_of_covers 3 _ (by decide +kernel) fun t ht y => ?_
  have h6 : t.val = 6 := by rw [DatsI.flush_iff3 t] at ht; exact of_decide_eq_true ht
  obtain rfl : t = (⟨6, by decide⟩ : Fin cfg0.N) := Fin.ext h6
  refine congrArg (dense m d).2 (funext fun a => Fin.ext ?_)
  match a with
  | 0 => show (y 0).val = 0 + 1 * (y 0).val; omega
  | 1 => show (y 1).val = 0 + 1 * (y 1).val; omega

omit [∀ e, Nonempty (Elt F e)] in
/-- The two reshapes write the merging call's first two arguments only. -/
theorem V7_keep (r : Ref sig .tc) (h₆ : r ≠ main_v6) (h₇ : r ≠ main_v7) (hw : (Proc.devRef .tc r : DevRef τ sig) ≠ w') (hi : (Proc.devRef .tc r : DevRef τ sig) ≠ i')
    (h₄ : r ≠ main_v4) : V7 m d (Proc.devRef .tc r) = V3 m d (Proc.devRef .tc r) := by
  unfold V7
  rw [StableHlo.reshape_result_ne _ _ _ _ _ _ _ h₇, StableHlo.reshape_result_ne _ _ _ _ _ _ _ h₆, V5_keep m d _ hw hi, V4_keep m d h₄]

omit [∀ e, Nonempty (Elt F e)] in
theorem V7_w : V7 m d (Proc.devRef .tc main_v6) = shapeCast S4x128 (WOut m d : Vec F S512 .f32) shapeCasts_S512_S4x128 := by
  unfold V7
  rw [StableHlo.reshape_result_ne _ _ _ _ _ _ _ (show main_v6 ≠ main_v7 by decide)]
  refine (StableHlo.reshape_result _ _ _ _ _ _ _).trans ?_
  rw [show V5 m d (Proc.devRef .tc main_v5_0) = WOut m d from V5_w m d]
  rfl

omit [∀ e, Nonempty (Elt F e)] in
theorem V7_i : V7 m d (Proc.devRef .tc main_v7) = shapeCast S4x128 (IOut m d : Vec F S512 .i32) shapeCasts_S512_S4x128 := by
  unfold V7
  refine (StableHlo.reshape_result _ _ _ _ _ _ _).trans ?_
  rw [StableHlo.reshape_result_ne _ _ _ _ _ _ _ (show main_v5_1 ≠ main_v6 by decide),
    show V5 m d (Proc.devRef .tc main_v5_1) = IOut m d from V5_i m d]
  rfl

/-- The kernel's number. -/
abbrev number : BitVec 32 :=
  MergeI.out (F := F) (shapeCast S4x128 (WOut m d : Vec F S512 .f32) shapeCasts_S512_S4x128) (shapeCast S4x128 (IOut m d : Vec F S512 .i32) shapeCasts_S512_S4x128)
    (dense m d).1 (dense m d).2

omit [∀ e, Nonempty (Elt F e)] in
set_option backward.isDefEq.respectTransparency.types false in
theorem V8_n : V8 m d (Proc.devRef .tc main_v8) = (fun _ => number m d : Vec F S1x1 .i32) := by
  refine (afterRegion_arr (dat1 d (V7 m d)) (V7 m d) DatsI.kit1.win.arr_inj 4).trans ?_
  refine (dat1 d (V7 m d)).arrAt_eq_of_covers 4 _ (by decide +kernel) fun t _ y => ?_
  show MergeI.out (F := F) (V7 m d (Proc.devRef .tc main_v6)) (V7 m d (Proc.devRef .tc main_v7)) (V7 m d (Proc.devRef .tc main_v3_0)) (V7 m d (Proc.devRef .tc main_v3_1)) = number m d
  rw [V7_w, V7_i, V7_keep m d main_v3_0 (by decide) (by decide) (by decide) (by decide) (by decide), V3_w,
    V7_keep m d main_v3_1 (by decide) (by decide) (by decide) (by decide) (by decide), V3_i]

omit [∀ e, Nonempty (Elt F e)] in
/-- The kernel's result. -/
theorem V9_o : V9 m d (Proc.devRef .tc main_v9) = (fun _ => number m d : Vec F S_ .i32) := by
  unfold V9
  refine (StableHlo.reshape_result _ _ _ _ _ _ _).trans ?_
  rw [V8_n]
  rfl

omit [∀ e, Nonempty (Elt F e)] in
/-- The logits the dense call takes: the first 774144, in rows. -/
theorem V2_x (p : Fin 756) (a : Fin 8) (b : Fin 128) (j : S1000000.Idx) (hj : (j 0).val = p.val * 1024 + (a.val * 128 + b.val)) :
    (V2 m d (Proc.devRef .tc main_v2) : Vec F S756x8x128 .f32) (ix3 p a b) = (m (aLoc d) : Vec F S1000000 .f32) j := by
  have e : V2 m d (Proc.devRef .tc main_v2) = shapeCast S756x8x128 (extractStridedSlice S774144 ![0] (m (aLoc d) : Vec F S1000000 .f32) slices_S1000000_S774144_0)
      shapeCasts_S774144_S756x8x128 := by
    unfold V2
    refine (StableHlo.reshape_result _ _ _ _ _ _ _).trans ?_
    rw [show (op1 (F := F)).result ((op0 (F := F)).result (V0 m d)) (Proc.devRef .tc main_v1)
      = extractStridedSlice S774144 ![0] (m (aLoc d) : Vec F S1000000 .f32) slices_S1000000_S774144_0 from
        (StableHlo.unary_result _ _ _ _ _ _).trans (by rw [StableHlo.unary_result_ne _ _ _ _ _ _ (show main_arg0 ≠ main_v0 by decide)]; rfl)]
    rfl
  rw [e]
  have hp := p.isLt
  have ha := a.isLt
  have hb := b.isLt
  rw [shapeCast_apply _ _ (ix3 p a b) (ix1 ⟨p.val * 1024 + (a.val * 128 + b.val), by omega⟩)
    (by rw [rowMajor_val1, rowMajor_val3 _ 1024 128 rfl rfl]; show p.val * 1024 + (a.val * 128 + b.val) = p.val * 1024 + a.val * 128 + b.val; omega)]
  refine congrArg (m (aLoc d) : Vec F S1000000 .f32) (funext fun x => Fin.ext ?_)
  match x with
  | 0 => show 0 + (p.val * 1024 + (a.val * 128 + b.val)) = (j 0).val; omega

theorem block_index : ∀ t : Fin cfg0.N, win0_1.index t 0 = t.val ∧ win0_1.index t 1 = 0 ∧ win0_1.index t 2 = 0 := by decide

omit [∀ e, Nonempty (Elt F e)] in
/-- A step's block of logits. -/
theorem block_at (t : Fin cfg0.N) (r : Fin 108) (a : Fin 8) (b : Fin 128) (j : S1000000.Idx)
    (hj : (j 0).val = (108 * t.val + r.val) * 1024 + (a.val * 128 + b.val)) :
    DatsI.block (V2 m d) t (ix3 r a b) = (m (aLoc d) : Vec F S1000000 .f32) j := by
  have ht : t.val < 7 := t.isLt
  have hr := r.isLt
  rw [← V2_x m d ⟨108 * t.val + r.val, by omega⟩ a b j hj]
  refine congrArg (V2 m d (Proc.devRef .tc main_v2) : Vec F S756x8x128 .f32) (funext fun x => Fin.ext ?_)
  obtain ⟨h₀, h₁, h₂⟩ := block_index t
  match x with
  | 0 => show win0_1.index t 0 * 108 + 1 * r.val = 108 * t.val + r.val; omega
  | 1 => show win0_1.index t 1 * 8 + 1 * a.val = a.val; omega
  | 2 => show win0_1.index t 2 * 128 + 1 * b.val = b.val; omega

end Cert.Proof.TileI

end
-- ==== Proof.Results.lean ====
/-
  The kernel's number is the reference's: the 1536 entries the merging call reduces are least weights over sets of states that
  together hold every state, each with its weight or a greater one.
-/
module

public import proofs.«01_k».proof.Proof.TileValue
public import proofs.«01_k».proof.Proof.RowCells
public import proofs.«01_k».proof.Proof.MergeMin
public import proofs.«01_k».proof.Proof.Final

@[expose] public section

noncomputable section

namespace Cert.Proof.TileI

open Cert.KernelIdeal Cert.KernelIdeal.Gen
open Idealize.ShloMosaic Idealize.SL.Sem
open Cert.Proof.Cells Cert.Proof.RunningMin

variable (m : (ℓ : Loc nD τ sig) → Buf (Elt Ideal) ℓ) (d : Dev nD)

/-! ## The weight of a state, by its range -/

/-- A state's weight from the two logarithms. -/
theorem stateWeight_at {s : ℕ} (hs : s < 1000000) (n : BitVec 32) (l : EReal) :
    (Ref.stateWeight (F := Ideal) (BitVec.ofNat 32 s) n l : EReal) = if s < 766528 then Ref.logWeight (F := Ideal) n l
      else if s < 774144 then min (Ref.weight (F := Ideal) n l) (Ref.logWeight (F := Ideal) n l) else Ref.weight (F := Ideal) n l := by
  have c (k : ℕ) (hk : k < 1000000) : IntOp.cmpi .slt (BitVec.ofNat 32 s) (BitVec.ofNat 32 k) = BitVec.ofBool (decide (s < k)) := by
    show BitVec.ofBool ((BitVec.ofNat 32 s).slt (BitVec.ofNat 32 k)) = _
    rw [BitVec.slt_eq_decide, toInt_small (by omega), toInt_small (by omega)]
    exact congrArg _ (decide_eq_decide.2 Nat.cast_lt)
  unfold Ref.stateWeight
  rw [Log.select_of (c 766528 (by decide)) _ _, Log.select_of (c 774144 (by decide)) _ _]
  rfl

/-! ## The entries -/

/-- Element `n` of the SparseCore call's results lies in tile `n / 16`. -/
theorem wid_tileOf (n : ℕ) (h : n < 512) : wid (tileOf n) = ⟨n / 16, by omega⟩ := by
  refine Fin.ext ?_
  show 2 * (n / 32 % 16) + n / 16 % 2 = n / 16
  omega

/-- The tile and the lane an entry of the first four rows is of, -/
abbrev entryTile (e : S12x128.Idx) : Fin 32 := wid (tileOf ((e 0).val * 128 + (e 1).val))
abbrev entryLane (e : S12x128.Idx) : Fin 16 := lane (laneOf ((e 0).val * 128 + (e 1).val))
/-- and the element of the dense call's results one of the last eight rows is. -/
abbrev entryElem (e : S12x128.Idx) : S8x128.Idx := ix2 ⟨(e 0).val - 4, by have : (e 0).val < 12 := (e 0).isLt; omega⟩ (e 1)

/-- The number of states of an entry, -/
def entryN (e : S12x128.Idx) : ℕ := if (e 0).val < 4 then 456 else 756
/-- its states -/
def entryState (e : S12x128.Idx) (p : ℕ) : (⟨1, ![1000000]⟩ : Shape).Idx :=
  if (e 0).val < 4 then cell (entryTile e) (entryLane e) p else RowsI.cell (RowsI.place (entryElem e)) p
/-- and their weights there. -/
def entryWeight (e : S12x128.Idx) (p : ℕ) : EReal :=
  if (e 0).val < 4 then laneWeight m d (entryTile e) (entryLane e) p else RowsI.cellWeight (seed m d) (X m d) (RowsI.place (entryElem e)) p

/-- The number of a state as a word. -/
abbrev num (s : (⟨1, ![1000000]⟩ : Shape).Idx) : BitVec 32 := BitVec.ofNat 32 (s 0).val

theorem num_toInt (s : (⟨1, ![1000000]⟩ : Shape).Idx) : (num s).toInt = (s 0).val :=
  toInt_small ((show (s 0).val < 1000000 from (s 0).isLt).trans (by decide))

/-- The dense call's running minimum after its steps. -/
theorem dense_holds (j : S8x128.Idx) : ∀ n, n ≤ 7 → RowsI.Holds (seed m d) (X m d) j (108 * n) (DatsI.accAt (V2 m d) n)
  | 0, _ => RowsI.holds_none
  | n + 1, hn => by
    have ih := dense_holds j n (by omega)
    have ht : n < cfg0.N := hn
    have ec : ∀ t : Fin cfg0.N, (grid0.coords t 0).val = t.val := by decide
    have e := DatsI.accAt_succ (V2 m d) ⟨n, ht⟩
    have h := RowsI.holds_stepV (s := seed m d) (X := X m d) (j := j) (i := grid0.coords ⟨n, ht⟩) (v := DatsI.seed (V2 m d))
      (B := DatsI.block (V2 m d) ⟨n, ht⟩) (acc := DatsI.accAt (V2 m d) n)
      (by
        show V2 m d (Proc.devRef .tc main_v0) RowsI.zero16 = _
        rw [show V2 m d (Proc.devRef .tc main_v0) = SV m d from V2_s m d]
        exact congrArg (m (gLoc d) : Vec Ideal S_ .i32) (funext fun a => a.elim0))
      (fun r => block_at m d ⟨n, ht⟩ r (j 0) (j 1) _ (by
        have hr := r.isLt
        rw [ec, RowsI.cell_val (RowsI.place_lt j) (by show 108 * n + r.val < 756; omega)]
        rfl))
      (by rw [ec]; exact ih)
    rw [ec] at h
    rw [← e] at h
    exact h

/-- What the merging call takes: the weights, -/
abbrev ws : FVec Ideal S12x128 .f32 := MergeI.weights (shapeCast S4x128 (WOut m d : Vec Ideal S512 .f32) shapeCasts_S512_S4x128) (dense m d).1
/-- and the states. -/
abbrev ks : IVec S12x128 32 := MergeI.states (F := Ideal) (shapeCast S4x128 (IOut m d : Vec Ideal S512 .i32) shapeCasts_S512_S4x128) (dense m d).2

/-- An entry of the SparseCore call's results. -/
theorem top_cast {α : Type} (x : S512.Idx → α) (e : S12x128.Idx) (h : (e 0).val < 4) :
    shapeCast S4x128 x shapeCasts_S512_S4x128 (ix2 ⟨(e 0).val, h⟩ (e 1)) =
      x (ix1 ⟨(e 0).val * 128 + (e 1).val, by have : (e 1).val < 128 := (e 1).isLt; omega⟩) := by
  refine shapeCast_apply x _ _ _ ?_
  rw [rowMajor_val1, rowMajor_val2 _ 128 rfl]
  rfl

theorem entry_best (e : S12x128.Idx) : Best (entryWeight m d e) (fun p => num (entryState e p)) (· < entryN e) (ws m d e) (ks m d e) := by
  have he : (e 0).val < 12 := (e 0).isLt
  by_cases h : (e 0).val < 4
  · have e₁ : ws m d e = _ := MergeI.top_rows _ _ e ⟨(e 0).val, h⟩ rfl
    have e₂ : ks m d e = _ := MergeI.top_rows _ _ e ⟨(e 0).val, h⟩ rfl
    rw [e₁, e₂, top_cast _ e h, top_cast _ e h]
    have t := tile_best m d (tileOf ((e 0).val * 128 + (e 1).val)) (laneOf ((e 0).val * 128 + (e 1).val))
    unfold entryWeight entryState entryN
    simp only [if_pos h]
    exact t
  · have e₁ : ws m d e = _ := MergeI.low_rows _ _ e ⟨(e 0).val - 4, by omega⟩ (by show _ = (e 0).val - 4 + 4; omega)
    have e₂ : ks m d e = _ := MergeI.low_rows _ _ e ⟨(e 0).val - 4, by omega⟩ (by show _ = (e 0).val - 4 + 4; omega)
    rw [e₁, e₂]
    have t := dense_holds m d (entryElem e) 7 le_rfl
    unfold entryWeight entryState entryN
    simp only [if_neg h]
    exact t

/-! ## The states of the entries -/

theorem entryState_top {e : S12x128.Idx} (h : (e 0).val < 4) {p : ℕ} (hp : p < 456) :
    ((entryState e p) 0).val = 766528 + 7296 * (((e 0).val * 128 + (e 1).val) / 16) + 16 * p + ((e 0).val * 128 + (e 1).val) % 16 := by
  have h₁ : (e 1).val < 128 := (e 1).isLt
  unfold entryState
  rw [if_pos h]
  show 766528 + 7296 * (entryTile e).val + 16 * (p % 456) + ((e 0).val * 128 + (e 1).val) % 16 = _
  rw [show entryTile e = _ from wid_tileOf _ (by omega), Nat.mod_eq_of_lt hp]

theorem entryState_low {e : S12x128.Idx} (h : ¬ (e 0).val < 4) {p : ℕ} (hp : p < 756) :
    ((entryState e p) 0).val = p * 1024 + (((e 0).val - 4) * 128 + (e 1).val) := by
  unfold entryState
  rw [if_neg h]
  exact RowsI.cell_val (RowsI.place_lt _) hp

variable (w : Ref.FV Ideal) (hw : ∀ j, (w j : EReal) = Ref.stateWeight (F := Ideal) (BitVec.ofNat 32 (j 0).val) (Ref.drawn 0 (seed m d) j) (X m d j))

/-- A state's number and its two weights. -/
theorem weight_top {e : S12x128.Idx} (h : (e 0).val < 4) (p : ℕ) :
    entryWeight m d e p = Ref.weight (F := Ideal) (Ref.drawn 0 (seed m d) (entryState e p)) (X m d (entryState e p)) := by
  unfold entryWeight entryState
  simp only [if_pos h]
  rfl

theorem weight_low {e : S12x128.Idx} (h : ¬ (e 0).val < 4) (p : ℕ) :
    entryWeight m d e p = Ref.logWeight (F := Ideal) (Ref.drawn 0 (seed m d) (entryState e p)) (X m d (entryState e p)) := by
  unfold entryWeight entryState
  simp only [if_neg h]
  rfl

/-- The first states are in the dense call's entries, -/
theorem find_low (s : (⟨1, ![1000000]⟩ : Shape).Idx) (hs : (s 0).val < 774144) : ∃ e p, p < entryN e ∧ entryState e p = s ∧ ¬ (e 0).val < 4 := by
  refine ⟨ix2 ⟨4 + (s 0).val % 1024 / 128, by omega⟩ ⟨(s 0).val % 128, by omega⟩, (s 0).val / 1024, ?_, ?_, ?_⟩
  · unfold entryN
    rw [if_neg (by show ¬ 4 + (s 0).val % 1024 / 128 < 4; omega)]
    omega
  · refine funext fun a => ?_
    match a with
    | 0 =>
      refine Fin.ext ((entryState_low (by show ¬ 4 + (s 0).val % 1024 / 128 < 4; omega) (by omega)).trans ?_)
      show (s 0).val / 1024 * 1024 + ((4 + (s 0).val % 1024 / 128 - 4) * 128 + (s 0).val % 128) = (s 0).val
      omega
  · show ¬ 4 + (s 0).val % 1024 / 128 < 4
    omega

/-- and the last states in the SparseCore call's. -/
theorem find_top (s : (⟨1, ![1000000]⟩ : Shape).Idx) (hs : 766528 ≤ (s 0).val) : ∃ e p, p < entryN e ∧ entryState e p = s ∧ (e 0).val < 4 := by
  have h : (s 0).val < 1000000 := (s 0).isLt
  obtain ⟨t, l, p, ht, hl, hp, e⟩ : ∃ t l p, t < 32 ∧ l < 16 ∧ p < 456 ∧ (s 0).val = 766528 + 7296 * t + 16 * p + l :=
    ⟨((s 0).val - 766528) / 7296, ((s 0).val - 766528) % 7296 % 16, ((s 0).val - 766528) % 7296 / 16, by omega, by omega, by omega, by omega⟩
  refine ⟨ix2 ⟨(16 * t + l) / 128, by omega⟩ ⟨(16 * t + l) % 128, by omega⟩, p, ?_, ?_, ?_⟩
  · unfold entryN
    rw [if_pos (by show (16 * t + l) / 128 < 4; omega)]
    exact hp
  · refine funext fun a => ?_
    match a with
    | 0 =>
      refine Fin.ext ((entryState_top (by show (16 * t + l) / 128 < 4; omega) hp).trans ?_)
      show 766528 + 7296 * (((16 * t + l) / 128 * 128 + (16 * t + l) % 128) / 16) + 16 * p + ((16 * t + l) / 128 * 128 + (16 * t + l) % 128) % 16 = (s 0).val
      rw [show (16 * t + l) / 128 * 128 + (16 * t + l) % 128 = 16 * t + l by omega, e]
      omega
  · show (16 * t + l) / 128 < 4
    omega

include hw in
theorem weight_le (e : S12x128.Idx) (p : ℕ) (hp : p < entryN e) : (w (entryState e p) : EReal) ≤ entryWeight m d e p := by
  have hs : ((entryState e p) 0).val < 1000000 := ((entryState e p) 0).isLt
  rw [hw, stateWeight_at hs]
  by_cases h : (e 0).val < 4
  · have hp' : p < 456 := by unfold entryN at hp; rwa [if_pos h] at hp
    have hn := entryState_top h hp'
    rw [weight_top m d h, if_neg (by omega)]
    split
    · exact min_le_left _ _
    · exact le_rfl
  · have hp' : p < 756 := by unfold entryN at hp; rwa [if_neg h] at hp
    have he : (e 0).val < 12 := (e 0).isLt
    have he₁ : (e 1).val < 128 := (e 1).isLt
    have hn := entryState_low h hp'
    rw [weight_low m d h]
    split
    · exact le_rfl
    · rw [if_pos (by omega)]
      exact min_le_right _ _

include hw in
theorem weight_found (s : (⟨1, ![1000000]⟩ : Shape).Idx) : ∃ e p, p < entryN e ∧ entryState e p = s ∧ entryWeight m d e p = w s := by
  have hs : (s 0).val < 1000000 := (s 0).isLt
  rw [hw, stateWeight_at hs]
  have top (h : 766528 ≤ (s 0).val) : ∃ e p, p < entryN e ∧ entryState e p = s ∧ entryWeight m d e p = Ref.weight (F := Ideal) (Ref.drawn 0 (seed m d) s) (X m d s) := by
    obtain ⟨e, p, hp, hst, ht⟩ := find_top s h
    exact ⟨e, p, hp, hst, by rw [weight_top m d ht, hst]⟩
  have low (h : (s 0).val < 774144) : ∃ e p, p < entryN e ∧ entryState e p = s ∧ entryWeight m d e p = Ref.logWeight (F := Ideal) (Ref.drawn 0 (seed m d) s) (X m d s) := by
    obtain ⟨e, p, hp, hst, ht⟩ := find_low s h
    exact ⟨e, p, hp, hst, by rw [weight_low m d ht, hst]⟩
  split
  · exact low (by omega)
  · split
    · obtain h | h := min_choice (Ref.weight (F := Ideal) (Ref.drawn 0 (seed m d) s) (X m d s) : EReal) (Ref.logWeight (F := Ideal) (Ref.drawn 0 (seed m d) s) (X m d s))
      · rw [h]; exact top (by omega)
      · rw [h]; exact low (by omega)
    · exact top (by omega)

theorem entry_mono (e : S12x128.Idx) (p q : ℕ) (hpq : p ≤ q) (hq : q < entryN e) : (num (entryState e p)).toInt ≤ (num (entryState e q)).toInt := by
  rw [num_toInt, num_toInt, Nat.cast_le]
  unfold entryN at hq
  by_cases h : (e 0).val < 4
  · rw [if_pos h] at hq
    rw [entryState_top h hq, entryState_top h (by omega)]
    omega
  · rw [if_neg h] at hq
    rw [entryState_low h hq, entryState_low h (by omega)]
    omega

include hw in
/-- The kernel's number is the reference's. -/
theorem number_eq : number m d = Ref.first w Ref.o := by
  obtain ⟨hM, hMle⟩ := MergeI.least_at (ws m d)
  obtain ⟨hv, hvle⟩ := MergeI.pick_at (ws m d) (ks m d)
  obtain ⟨hR, hRle⟩ := Ref.least_at w
  obtain ⟨hf, hfle⟩ := Ref.first_at w
  exact meet (ε := S12x128.Idx) (σ := (⟨1, ![1000000]⟩ : Shape).Idx) (ix2 0 0) num (fun s => (w s : EReal)) (ix1 0) rfl
    (fun s => by rw [num_toInt]; have : (s 0).val < 1000000 := (s 0).isLt; omega)
    entryN (entryWeight m d) entryState (fun e => ws m d e) (fun e => ks m d e) (entry_best m d) entry_mono (weight_le m d w hw) (weight_found m d w hw)
    hM hMle hR hRle hv hvle hf hfle

end Cert.Proof.TileI

end
-- ==== Proof.lean ====
/-
  The proof of the claim: the three programs' frames from their runs, and the kernel's result equal to the reference's.
-/
module

public import proofs.«01_k».proof.Defs
public import proofs.«01_k».proof.Proof.Gen.Kernel
public import proofs.«01_k».proof.Proof.Gen.KernelIdeal
public import proofs.«01_k».proof.Proof.Main
public import proofs.«01_k».proof.Proof.RefRun
public import proofs.«01_k».proof.Proof.Results

@[expose] public section

noncomputable section

namespace Cert.Proof

open Idealize.ShloMosaic Idealize.SL.Sem

/-- Every float and every word is there to be read. -/
theorem bits_inhabited (e : EltTy) : Nonempty (Elt Bits e) := ⟨default⟩
theorem ideal_inhabited (e : EltTy) : Nonempty (Elt Ideal e) := ⟨default⟩

/-- The kernel's frame, -/
theorem kernel_frame : Cert.quiescent_Kernel := fun m g _ =>
  haveI := bits_inhabited
  θ_run_mono (Tile.run_main (F := Bits) m g) fun _ h => ⟨fun d => (h.1 d).args, h.2⟩

/-- and the idealised kernel's run. -/
theorem ideal_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩
      (fun r => (∀ d, TileI.Ends m d r.2.mem) ∧ r.2.sem = fun _ => 0) :=
  haveI := ideal_inhabited
  TileI.run_main (F := Ideal) m g

/-- The two programs agree over the extended reals. -/
theorem agree : Cert.algebraic_KernelIdeal_ReferenceIdeal := by
  intro m g m' g' _ hargs
  refine ⟨fun d => (fun _ => TileI.number (F := Ideal) m d : Vec Ideal Cert.KernelIdeal.S_ .i32),
    θ_run_mono (ideal_run m g) fun r h d => ⟨((h.1 d).result).trans (TileI.V9_o m d), (h.1 d).args.1, (h.1 d).args.2⟩,
    θ_run_mono (Ref.run_main m' g') fun r h d => ?_⟩
  obtain ⟨⟨a₀, a₁⟩, w, hw, h₁⟩ := h.1 d
  obtain ⟨e₀, e₁⟩ := hargs d
  refine ⟨h₁.trans (funext fun j => ?_), a₀, a₁⟩
  have hn := TileI.number_eq m d w fun j => by rw [hw j, e₀, e₁]; rfl
  exact (congrArg (Ref.first w) (Subsingleton.elim _ _)).trans hn.symm

theorem claim : Cert.Claim :=
  ⟨Cert.Kernel.Gen.facts, Cert.KernelIdeal.Gen.facts, inferInstance, kernel_frame,
    fun m g _ => θ_run_mono (ideal_run m g) fun _ h => ⟨fun d => (h.1 d).args, h.2⟩,
    fun m g _ => θ_run_mono (Ref.run_main m g) fun _ h => ⟨fun d => (h.1 d).1, h.2⟩,
    trivial, agree⟩

end Cert.Proof

end
